-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v14) = v0 c
          ∧ r.2.mem ((c.tc : Thread Cert.Reference.nD Cert.Reference.τ).loc Cert.Reference.main_arg0) = m' ((c.tc : Thread Cert.Reference.nD Cert.Reference.τ).loc Cert.Reference.main_arg0))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v13)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v13) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v82) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v74_0)) (v1 : (c : Dev Cert.ProjIdeal.nD) → Buf (Elt Ideal) ((c.tc : Thread Cert.ProjIdeal.nD Cert.ProjIdeal.τ).loc Cert.ProjIdeal.main_v74_1)) (v2 : (c : Dev Cert.ProjIdeal.nD) → Buf (Elt Ideal) ((c.tc : Thread Cert.ProjIdeal.nD Cert.ProjIdeal.τ).loc Cert.ProjIdeal.main_v74_2)) (v3 : (c : Dev Cert.ProjIdeal.nD) → Buf (Elt Ideal) ((c.tc : Thread Cert.ProjIdeal.nD Cert.ProjIdeal.τ).loc Cert.ProjIdeal.main_v74_3)) (v4 : (c : Dev Cert.ProjIdeal.nD) → Buf (Elt Ideal) ((c.tc : Thread Cert.ProjIdeal.nD Cert.ProjIdeal.τ).loc Cert.ProjIdeal.main_v74_4)) (v5 : (c : Dev Cert.ProjIdeal.nD) → Buf (Elt Ideal) ((c.tc : Thread Cert.ProjIdeal.nD Cert.ProjIdeal.τ).loc Cert.ProjIdeal.main_v74_5)) (v6 : (c : Dev Cert.ProjIdeal.nD) → Buf (Elt Ideal) ((c.tc : Thread Cert.ProjIdeal.nD Cert.ProjIdeal.τ).loc Cert.ProjIdeal.main_v74_6)) (v7 : (c : Dev Cert.ProjIdeal.nD) → Buf (Elt Ideal) ((c.tc : Thread Cert.ProjIdeal.nD Cert.ProjIdeal.τ).loc Cert.ProjIdeal.main_v74_7)) (v8 : (c : Dev Cert.ProjIdeal.nD) → Buf (Elt Ideal) ((c.tc : Thread Cert.ProjIdeal.nD Cert.ProjIdeal.τ).loc Cert.ProjIdeal.main_v74_8)) (v9 : (c : Dev Cert.ProjIdeal.nD) → Buf (Elt Ideal) ((c.tc : Thread Cert.ProjIdeal.nD Cert.ProjIdeal.τ).loc Cert.ProjIdeal.main_v74_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v74_0) = v0 c
          ∧ r.2.mem ((c.tc : Thread Cert.ProjIdeal.nD Cert.ProjIdeal.τ).loc Cert.ProjIdeal.main_v74_1) = v1 c
          ∧ r.2.mem ((c.tc : Thread Cert.ProjIdeal.nD Cert.ProjIdeal.τ).loc Cert.ProjIdeal.main_v74_2) = v2 c
          ∧ r.2.mem ((c.tc : Thread Cert.ProjIdeal.nD Cert.ProjIdeal.τ).loc Cert.ProjIdeal.main_v74_3) = v3 c
          ∧ r.2.mem ((c.tc : Thread Cert.ProjIdeal.nD Cert.ProjIdeal.τ).loc Cert.ProjIdeal.main_v74_4) = v4 c
          ∧ r.2.mem ((c.tc : Thread Cert.ProjIdeal.nD Cert.ProjIdeal.τ).loc Cert.ProjIdeal.main_v74_5) = v5 c
          ∧ r.2.mem ((c.tc : Thread Cert.ProjIdeal.nD Cert.ProjIdeal.τ).loc Cert.ProjIdeal.main_v74_6) = v6 c
          ∧ r.2.mem ((c.tc : Thread Cert.ProjIdeal.nD Cert.ProjIdeal.τ).loc Cert.ProjIdeal.main_v74_7) = v7 c
          ∧ r.2.mem ((c.tc : Thread Cert.ProjIdeal.nD Cert.ProjIdeal.τ).loc Cert.ProjIdeal.main_v74_8) = v8 c
          ∧ r.2.mem ((c.tc : Thread Cert.ProjIdeal.nD Cert.ProjIdeal.τ).loc Cert.ProjIdeal.main_v74_9) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v162) = v0 c
          ∧ r.2.mem ((c.tc : Thread Cert.ProjRefIdeal.nD Cert.ProjRefIdeal.τ).loc Cert.ProjRefIdeal.main_v165) = v1 c
          ∧ r.2.mem ((c.tc : Thread Cert.ProjRefIdeal.nD Cert.ProjRefIdeal.τ).loc Cert.ProjRefIdeal.main_v166) = v2 c
          ∧ r.2.mem ((c.tc : Thread Cert.ProjRefIdeal.nD Cert.ProjRefIdeal.τ).loc Cert.ProjRefIdeal.main_v167) = v3 c
          ∧ r.2.mem ((c.tc : Thread Cert.ProjRefIdeal.nD Cert.ProjRefIdeal.τ).loc Cert.ProjRefIdeal.main_v168) = v4 c
          ∧ r.2.mem ((c.tc : Thread Cert.ProjRefIdeal.nD Cert.ProjRefIdeal.τ).loc Cert.ProjRefIdeal.main_v171) = v5 c
          ∧ r.2.mem ((c.tc : Thread Cert.ProjRefIdeal.nD Cert.ProjRefIdeal.τ).loc Cert.ProjRefIdeal.main_v172) = v6 c
          ∧ r.2.mem ((c.tc : Thread Cert.ProjRefIdeal.nD Cert.ProjRefIdeal.τ).loc Cert.ProjRefIdeal.main_v176) = v7 c
          ∧ r.2.mem ((c.tc : Thread Cert.ProjRefIdeal.nD Cert.ProjRefIdeal.τ).loc Cert.ProjRefIdeal.main_v179) = v8 c
          ∧ r.2.mem ((c.tc : Thread Cert.ProjRefIdeal.nD Cert.ProjRefIdeal.τ).loc Cert.ProjRefIdeal.main_v180) = v9 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_Ssd_SsdIdeal : Prop :=
  True

def Claim : Prop :=
  ∃ (hKernel : Cert.Kernel.Facts) (hKernelIdeal : Cert.KernelIdeal.Facts) (hReferenceIdeal : Cert.ReferenceIdeal.Facts) (hReference : Cert.Reference.Facts) (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hSsd : Cert.Ssd.Facts) (hSsdIdeal : Cert.SsdIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Mix (hMix := hMix)
    ∧ quiescent_MixIdeal (hMixIdeal := hMixIdeal)
    ∧ quiescent_MixRefIdeal (hMixRefIdeal := hMixRefIdeal)
    ∧ quiescent_Proj (hProj := hProj)
    ∧ quiescent_ProjIdeal (hProjIdeal := hProjIdeal)
    ∧ quiescent_ProjRefIdeal (hProjRefIdeal := hProjRefIdeal)
    ∧ quiescent_Ssd (hSsd := hSsd)
    ∧ quiescent_SsdIdeal (hSsdIdeal := hSsdIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Mix_MixIdeal
    ∧ algebraic_MixIdeal_MixRefIdeal (hMixIdeal := hMixIdeal) (hMixRefIdeal := hMixRefIdeal)
    ∧ preserves_Proj_ProjIdeal
    ∧ algebraic_ProjIdeal_ProjRefIdeal (hProjIdeal := hProjIdeal) (hProjRefIdeal := hProjRefIdeal)
    ∧ preserves_Ssd_SsdIdeal
-- ==== Kernel.lean ====
abbrev S1024x8040 : Shape := ⟨2, ![1024, 8040]⟩
abbrev S8040x1024 : Shape := ⟨2, ![8040, 1024]⟩
abbrev S1005x8x1024 : Shape := ⟨3, ![1005, 8, 1024]⟩
abbrev S1024x8192 : Shape := ⟨2, ![1024, 8192]⟩
abbrev S16x8x1024 : Shape := ⟨3, ![16, 8, 1024]⟩
abbrev S1024x512 : Shape := ⟨2, ![1024, 512]⟩
abbrev S128x1024 : Shape := ⟨2, ![128, 1024]⟩
abbrev S1024x128 : Shape := ⟨2, ![1024, 128]⟩

abbrev nBuf : Space → Nat
  | .hbm => 4
  | .vmem => 10
  | .smem => 0
  | _ => 0

abbrev bufTy : (tb : Table) → Fin (tcTables nBuf tb) → BufTy
  | .hbm, ⟨0, _⟩ => ⟨S1024x8040, .f32⟩
  | .hbm, ⟨1, _⟩ => ⟨S8040x1024, .f32⟩
  | .hbm, ⟨2, _⟩ => ⟨S1005x8x1024, .f32⟩
  | .hbm, ⟨3, _⟩ => ⟨S1024x8192, .bf16⟩
  | .local _ .vmem, ⟨0, _⟩ => ⟨S16x8x1024, .f32⟩
  | .local _ .vmem, ⟨1, _⟩ => ⟨S16x8x1024, .f32⟩
  | .local _ .vmem, ⟨2, _⟩ => ⟨S16x8x1024, .f32⟩
  | .local _ .vmem, ⟨3, _⟩ => ⟨S16x8x1024, .f32⟩
  | .local _ .vmem, ⟨4, _⟩ => ⟨S16x8x1024, .f32⟩
  | .local _ .vmem, ⟨5, _⟩ => ⟨S16x8x1024, .f32⟩
  | .local _ .vmem, ⟨6, _⟩ => ⟨S16x8x1024, .f32⟩
  | .local _ .vmem, ⟨7, _⟩ => ⟨S16x8x1024, .f32⟩
  | .local _ .vmem, ⟨8, _⟩ => ⟨S1024x512, .bf16⟩
  | .local _ .vmem, ⟨9, _⟩ => ⟨S1024x512, .bf16⟩
  | _, _ => ⟨S1024x8040, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c7_i32 : BitVec 32 := 7#32
  let v2 : BitVec 1 := Scalar.cmpi .slt v1 c7_i32
  let c16_i32 : BitVec 32 := 16#32
  let v3 : BitVec 32 := Scalar.muli c16_i32 v1
  let c8_i32 : BitVec 32 := 8#32
  let v4 : BitVec 1 := Scalar.cmpi .slt v1 c8_i32
  let c7_i32_0 : BitVec 32 := 7#32
  let v5 : BitVec 32 := Scalar.subi v1 c7_i32_0
  let c16_i32_1 : BitVec 32 := 16#32
  let v6 : BitVec 32 := Scalar.muli c16_i32_1 v5
  let c745_i32 : BitVec 32 := 745#32
  let v7 : BitVec 32 := Scalar.addi c745_i32 v6
  let c24_i32 : BitVec 32 := 24#32
  let v8 : BitVec 1 := Scalar.cmpi .slt v1 c24_i32
  let c8_i32_2 : BitVec 32 := 8#32
  let v9 : BitVec 32 := Scalar.subi v1 c8_i32_2
  let c16_i32_3 : BitVec 32 := 16#32
  let v10 : BitVec 32 := Scalar.muli c16_i32_3 v9
  let c105_i32 : BitVec 32 := 105#32
  let v11 : BitVec 32 := Scalar.addi c105_i32 v10
  let c48_i32 : BitVec 32 := 48#32
  let v12 : BitVec 1 := Scalar.cmpi .slt v1 c48_i32
  let c24_i32_4 : BitVec 32 := 24#32
  let v13 : BitVec 32 := Scalar.subi v1 c24_i32_4
  let c16_i32_5 : BitVec 32 := 16#32
  let v14 : BitVec 32 := Scalar.muli c16_i32_5 v13
  let c361_i32 : BitVec 32 := 361#32
  let v15 : BitVec 32 := Scalar.addi c361_i32 v14
  let c48_i32_6 : BitVec 32 := 48#32
  let v16 : BitVec 32 := Scalar.subi v1 c48_i32_6
  let c16_i32_7 : BitVec 32 := 16#32
  let v17 : BitVec 32 := Scalar.muli c16_i32_7 v16
  let c749_i32 : BitVec 32 := 749#32
  let v18 : BitVec 32 := Scalar.addi c749_i32 v17
  let v19 : BitVec 32 := Scalar.select v12 v15 v18
  let v20 : BitVec 32 := Scalar.select v8 v11 v19
  let v21 : BitVec 32 := Scalar.select v4 v7 v20
  let v22 : BitVec 32 := Scalar.select v2 v3 v21
  let c0_i32_8 : BitVec 32 := 0#32
  let c0_i32_9 : BitVec 32 := 0#32
  let c0_i32_10 : BitVec 32 := 0#32
  ![v22.toNat, c0_i32_8.toNat, c0_i32_9.toNat]

def cc0_transform_1 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c7_i32 : BitVec 32 := 7#32
  let v2 : BitVec 1 := Scalar.cmpi .slt v1 c7_i32
  let c16_i32 : BitVec 32 := 16#32
  let v3 : BitVec 32 := Scalar.muli c16_i32 v1
  let c8_i32 : BitVec 32 := 8#32
  let v4 : BitVec 1 := Scalar.cmpi .slt v1 c8_i32
  let c7_i32_0 : BitVec 32 := 7#32
  let v5 : BitVec 32 := Scalar.subi v1 c7_i32_0
  let c16_i32_1 : BitVec 32 := 16#32
  let v6 : BitVec 32 := Scalar.muli c16_i32_1 v5
  let c745_i32 : BitVec 32 := 745#32
  let v7 : BitVec 32 := Scalar.addi c745_i32 v6
  let c24_i32 : BitVec 32 := 24#32
  let v8 : BitVec 1 := Scalar.cmpi .slt v1 c24_i32
  let c8_i32_2 : BitVec 32 := 8#32
  let v9 : BitVec 32 := Scalar.subi v1 c8_i32_2
  let c16_i32_3 : BitVec 32 := 16#32
  let v10 : BitVec 32 := Scalar.muli c16_i32_3 v9
  let c105_i32 : BitVec 32 := 105#32
  let v11 : BitVec 32 := Scalar.addi c105_i32 v10
  let c48_i32 : BitVec 32 := 48#32
  let v12 : BitVec 1 := Scalar.cmpi .slt v1 c48_i32
  let c24_i32_4 : BitVec 32 := 24#32
  let v13 : BitVec 32 := Scalar.subi v1 c24_i32_4
  let c16_i32_5 : BitVec 32 := 16#32
  let v14 : BitVec 32 := Scalar.muli c16_i32_5 v13
  let c361_i32 : BitVec 32 := 361#32
  let v15 : BitVec 32 := Scalar.addi c361_i32 v14
  let c48_i32_6 : BitVec 32 := 48#32
  let v16 : BitVec 32 := Scalar.subi v1 c48_i32_6
  let c16_i32_7 : BitVec 32 := 16#32
  let v17 : BitVec 32 := Scalar.muli c16_i32_7 v16
  let c749_i32 : BitVec 32 := 749#32
  let v18 : BitVec 32 := Scalar.addi c749_i32 v17
  let v19 : BitVec 32 := Scalar.select v12 v15 v18
  let v20 : BitVec 32 := Scalar.select v8 v11 v19
  let v21 : BitVec 32 := Scalar.select v4 v7 v20
  let v22 : BitVec 32 := Scalar.select v2 v3 v21
  let c0_i32 : BitVec 32 := 0#32
  let c0_i32_8 : BitVec 32 := 0#32
  let c0_i32_9 : BitVec 32 := 0#32
  ![v22.toNat, c0_i32.toNat, c0_i32_8.toNat]

def cc0_transform_2 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c7_i32 : BitVec 32 := 7#32
  let v2 : BitVec 1 := Scalar.cmpi .slt v1 c7_i32
  let c16_i32 : BitVec 32 := 16#32
  let v3 : BitVec 32 := Scalar.muli c16_i32 v1
  let c8_i32 : BitVec 32 := 8#32
  let v4 : BitVec 1 := Scalar.cmpi .slt v1 c8_i32
  let c7_i32_0 : BitVec 32 := 7#32
  let v5 : BitVec 32 := Scalar.subi v1 c7_i32_0
  let c16_i32_1 : BitVec 32 := 16#32
  let v6 : BitVec 32 := Scalar.muli c16_i32_1 v5
  let c745_i32 : BitVec 32 := 745#32
  let v7 : BitVec 32 := Scalar.addi c745_i32 v6
  let c24_i32 : BitVec 32 := 24#32
  let v8 : BitVec 1 := Scalar.cmpi .slt v1 c24_i32
  let c8_i32_2 : BitVec 32 := 8#32
  let v9 : BitVec 32 := Scalar.subi v1 c8_i32_2
  let c16_i32_3 : BitVec 32 := 16#32
  let v10 : BitVec 32 := Scalar.muli c16_i32_3 v9
  let c105_i32 : BitVec 32 := 105#32
  let v11 : BitVec 32 := Scalar.addi c105_i32 v10
  let c48_i32 : BitVec 32 := 48#32
  let v12 : BitVec 1 := Scalar.cmpi .slt v1 c48_i32
  let c24_i32_4 : BitVec 32 := 24#32
  let v13 : BitVec 32 := Scalar.subi v1 c24_i32_4
  let c16_i32_5 : BitVec 32 := 16#32
  let v14 : BitVec 32 := Scalar.muli c16_i32_5 v13
  let c361_i32 : BitVec 32 := 361#32
  let v15 : BitVec 32 := Scalar.addi c361_i32 v14
  let c48_i32_6 : BitVec 32 := 48#32
  let v16 : BitVec 32 := Scalar.subi v1 c48_i32_6
  let c16_i32_7 : BitVec 32 := 16#32
  let v17 : BitVec 32 := Scalar.muli c16_i32_7 v16
  let c749_i32 : BitVec 32 := 749#32
  let v18 : BitVec 32 := Scalar.addi c749_i32 v17
  let v19 : BitVec 32 := Scalar.select v12 v15 v18
  let v20 : BitVec 32 := Scalar.select v8 v11 v19
  let v21 : BitVec 32 := Scalar.select v4 v7 v20
  let v22 : BitVec 32 := Scalar.select v2 v3 v21
  let c0_i32 : BitVec 32 := 0#32
  let c0_i32_8 : BitVec 32 := 0#32
  let c0_i32_9 : BitVec 32 := 0#32
  ![v22.toNat, c0_i32.toNat, c0_i32_8.toNat]

def cc0_transform_3 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c7_i32 : BitVec 32 := 7#32
  let v2 : BitVec 1 := Scalar.cmpi .slt v1 c7_i32
  let c16_i32 : BitVec 32 := 16#32
  let v3 : BitVec 32 := Scalar.muli c16_i32 v1
  let c8_i32 : BitVec 32 := 8#32
  let v4 : BitVec 1 := Scalar.cmpi .slt v1 c8_i32
  let c7_i32_0 : BitVec 32 := 7#32
  let v5 : BitVec 32 := Scalar.subi v1 c7_i32_0
  let c16_i32_1 : BitVec 32 := 16#32
  let v6 : BitVec 32 := Scalar.muli c16_i32_1 v5
  let c745_i32 : BitVec 32 := 745#32
  let v7 : BitVec 32 := Scalar.addi c745_i32 v6
  let c24_i32 : BitVec 32 := 24#32
  let v8 : BitVec 1 := Scalar.cmpi .slt v1 c24_i32
  let c8_i32_2 : BitVec 32 := 8#32
  let v9 : BitVec 32 := Scalar.subi v1 c8_i32_2
  let c16_i32_3 : BitVec 32 := 16#32
  let v10 : BitVec 32 := Scalar.muli c16_i32_3 v9
  let c105_i32 : BitVec 32 := 105#32
  let v11 : BitVec 32 := Scalar.addi c105_i32 v10
  let c48_i32 : BitVec 32 := 48#32
  let v12 : BitVec 1 := Scalar.cmpi .slt v1 c48_i32
  let c24_i32_4 : BitVec 32 := 24#32
  let v13 : BitVec 32 := Scalar.subi v1 c24_i32_4
  let c16_i32_5 : BitVec 32 := 16#32
  let v14 : BitVec 32 := Scalar.muli c16_i32_5 v13
  let c361_i32 : BitVec 32 := 361#32
  let v15 : BitVec 32 := Scalar.addi c361_i32 v14
  let c48_i32_6 : BitVec 32 := 48#32
  let v16 : BitVec 32 := Scalar.subi v1 c48_i32_6
  let c16_i32_7 : BitVec 32 := 16#32
  let v17 : BitVec 32 := Scalar.muli c16_i32_7 v16
  let c749_i32 : BitVec 32 := 749#32
  let v18 : BitVec 32 := Scalar.addi c749_i32 v17
  let v19 : BitVec 32 := Scalar.select v12 v15 v18
  let v20 : BitVec 32 := Scalar.select v8 v11 v19
  let v21 : BitVec 32 := Scalar.select v4 v7 v20
  let v22 : BitVec 32 := Scalar.select v2 v3 v21
  let c0_i32 : BitVec 32 := 0#32
  let c0_i32_8 : BitVec 32 := 0#32
  let c0_i32_9 : BitVec 32 := 0#32
  ![v22.toNat, c0_i32.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference.lean ====
abbrev S1024x8040 : Shape := ⟨2, ![1024, 8040]⟩
abbrev S1024x256 : Shape := ⟨2, ![1024, 256]⟩
abbrev S1024x64 : Shape := ⟨2, ![1024, 64]⟩
abbrev S1024x8 : Shape := ⟨2, ![1024, 8]⟩
abbrev S1024x2048 : Shape := ⟨2, ![1024, 2048]⟩
abbrev S1024x3072 : Shape := ⟨2, ![1024, 3072]⟩
abbrev S1024x32 : Shape := ⟨2, ![1024, 32]⟩
abbrev S1024x56 : Shape := ⟨2, ![1024, 56]⟩
abbrev S1024x896 : Shape := ⟨2, ![1024, 896]⟩
abbrev S1024x96 : Shape := ⟨2, ![1024, 96]⟩
abbrev S1024x128 : Shape := ⟨2, ![1024, 128]⟩
abbrev S1024x8192 : Shape := ⟨2, ![1024, 8192]⟩

abbrev nBuf : Space → Nat
  | .hbm => 16
  | .vmem => 0
  | .smem => 0
  | _ => 0

abbrev bufTy : (tb : Table) → Fin (tcTables nBuf tb) → BufTy
  | .hbm, ⟨0, _⟩ => ⟨S1024x8040, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x64, .f32⟩
  | .hbm, ⟨5, _⟩ => ⟨S1024x8, .f32⟩
  | .hbm, ⟨6, _⟩ => ⟨S1024x2048, .f32⟩
  | .hbm, ⟨7, _⟩ => ⟨S1024x3072, .f32⟩
  | .hbm, ⟨8, _⟩ => ⟨S1024x32, .f32⟩
  | .hbm, ⟨9, _⟩ => ⟨S1024x2048, .f32⟩
  | .hbm, ⟨10, _⟩ => ⟨S1024x56, .f32⟩
  | .hbm, ⟨11, _⟩ => ⟨S1024x896, .f32⟩
  | .hbm, ⟨12, _⟩ => ⟨S1024x96, .f32⟩
  | .hbm, ⟨13, _⟩ => ⟨S1024x128, .f32⟩
  | .hbm, ⟨14, _⟩ => ⟨S1024x8192, .f32⟩
  | .hbm, ⟨15, _⟩ => ⟨S1024x8192, .bf16⟩
  | _, _ => ⟨S1024x8040, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩

abbrev nD : Nat := 1
abbrev τ : Topo := Topo.v7x

variable {F : FTy → Type} [FloatOps F]
-- ==== Mix.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S16384x2048 : Shape := ⟨2, ![16384, 2048]⟩
abbrev S1x1024 : Shape := ⟨2, ![1, 1024]⟩
abbrev S512x1024 : Shape := ⟨2, ![512, 1024]⟩
abbrev S512x2048 : Shape := ⟨2, ![512, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 27
  | .vmem => 19
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x2048, .bf16⟩
  | .hbm, ⟨2, _⟩ => ⟨S8x2048x2048, .bf16⟩
  | .hbm, ⟨3, _⟩ => ⟨S8x2048x1024, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S1024, .f32⟩
  | .hbm, ⟨13, _⟩ => ⟨S16384x1024, .bf16⟩
  | .hbm, ⟨14, _⟩ => ⟨S16384x2048, .bf16⟩
  | .hbm, ⟨15, _⟩ => ⟨S16384x2048, .bf16⟩
  | .hbm, ⟨16, _⟩ => ⟨S16384x1024, .f32⟩
  | .hbm, ⟨17, _⟩ => ⟨S1024x1024, .bf16⟩
  | .hbm, ⟨18, _⟩ => ⟨S2048x1024, .bf16⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S1024x4096, .bf16⟩
  | .hbm, ⟨23, _⟩ => ⟨S4096x1024, .bf16⟩
  | .hbm, ⟨24, _⟩ => ⟨S1x1024, .f32⟩
  | .hbm, ⟨25, _⟩ => ⟨S1x1024, .f32⟩
  | .hbm, ⟨26, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x4096, .bf16⟩
  | .local _ .vmem, ⟨14, _⟩ => ⟨S4096x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixRefIdeal.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 114
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x2048, .bf16⟩
  | .hbm, ⟨2, _⟩ => ⟨S8x2048x2048, .bf16⟩
  | .hbm, ⟨3, _⟩ => ⟨S8x2048x1024, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S1024, .f32⟩
  | .hbm, ⟨13, _⟩ => ⟨S8x2048x1024, .bf16⟩
  | .hbm, ⟨14, _⟩ => ⟨S8x2048x1024, .f32⟩
  | .hbm, ⟨15, _⟩ => ⟨S8x2048x1024, .bf16⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S8x2048x2048, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S8x2048x1, .f32⟩
  | .hbm, ⟨66, _⟩ => ⟨S8x2048x1024, .f32⟩
  | .hbm, ⟨67, _⟩ => ⟨S8x2048x1024, .f32⟩
  | .hbm, ⟨68, _⟩ => ⟨S1x1x1024, .f32⟩
  | .hbm, ⟨69, _⟩ => ⟨S8x2048x1024, .f32⟩
  | .hbm, ⟨70, _⟩ => ⟨S8x2048x1024, .f32⟩
  | .hbm, ⟨71, _⟩ => ⟨S1x1x1024, .f32⟩
  | .hbm, ⟨72, _⟩ => ⟨S8x2048x1024, .f32⟩
  | .hbm, ⟨73, _⟩ => ⟨S8x2048x1024, .f32⟩
  | .hbm, ⟨74, _⟩ => ⟨S8x2048x4096, .f32⟩
  | .hbm, ⟨75, _⟩ => ⟨S_, .f32⟩
  | .hbm, ⟨76, _⟩ => ⟨S8x2048x4096, .f32⟩
  | .hbm, ⟨77, _⟩ => ⟨S8x2048x4096, .f32⟩
  | .hbm, ⟨78, _⟩ => ⟨S8x2048x4096, .f32⟩
  | .hbm, ⟨79, _⟩ => ⟨S8x2048x1024, .f32⟩
  | .hbm, ⟨80, _⟩ => ⟨S_, .f32⟩
  | .hbm, ⟨81, _⟩ => ⟨S8x2048x1024, .f32⟩
  | .hbm, ⟨82, _⟩ => ⟨S8x2048x1024, .f32⟩
  | .hbm, ⟨83, _⟩ => ⟨S8x2048x1024, .f32⟩
  | .hbm, ⟨84, _⟩ => ⟨S_, .f32⟩
  | .hbm, ⟨85, _⟩ => ⟨S8x2048, .f32⟩
  | .hbm, ⟨86, _⟩ => ⟨S8x2048x1, .f32⟩
  | .hbm, ⟨87, _⟩ => ⟨S_, .f32⟩
  | .hbm, ⟨88, _⟩ => ⟨S8x2048x1, .f32⟩
  | .hbm, ⟨89, _⟩ => ⟨S8x2048x1, .f32⟩
  | .hbm, ⟨90, _⟩ => ⟨S8x2048x1024, .f32⟩
  | .hbm, ⟨91, _⟩ => ⟨S8x2048x1024, .f32⟩
  | .hbm, ⟨92, _⟩ => ⟨S8x2048x1024, .f32⟩
  | .hbm, ⟨93, _⟩ => ⟨S_, .f32⟩
  | .hbm, ⟨94, _⟩ => ⟨S8x2048, .f32⟩
  | .hbm, ⟨95, _⟩ => ⟨S8x2048x1, .f32⟩
  | .hbm, ⟨96, _⟩ => ⟨S_, .f32⟩
  | .hbm, ⟨97, _⟩ => ⟨S8x2048x1, .f32⟩
  | .hbm, ⟨98, _⟩ => ⟨S8x2048x1, .f32⟩
  | .hbm, ⟨99, _⟩ => ⟨S8x2048x1024, .f32⟩
  | .hbm, ⟨100, _⟩ => ⟨S8x2048x1024, .f32⟩
  | .hbm, ⟨101, _⟩ => ⟨S_, .f32⟩
  | .hbm, ⟨102, _⟩ => ⟨S8x2048x1, .f32⟩
  | .hbm, ⟨103, _⟩ => ⟨S8x2048x1, .f32⟩
  | .hbm, ⟨104, _⟩ => ⟨S8x2048x1, .f32⟩
  | .hbm, ⟨105, _⟩ => ⟨S8x2048x1024, .f32⟩
  | .hbm, ⟨106, _⟩ => ⟨S8x2048x1024, .f32⟩
  | .hbm, ⟨107, _⟩ => ⟨S1x1x1024, .f32⟩
  | .hbm, ⟨108, _⟩ => ⟨S8x2048x1024, .f32⟩
  | .hbm, ⟨109, _⟩ => ⟨S8x2048x1024, .f32⟩
  | .hbm, ⟨110, _⟩ => ⟨S1x1x1024, .f32⟩
  | .hbm, ⟨111, _⟩ => ⟨S8x2048x1024, .f32⟩
  | .hbm, ⟨112, _⟩ => ⟨S8x2048x1024, .f32⟩
  | .hbm, ⟨113, _⟩ => ⟨S16384x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call0_cst : Ref sig .tc := ⟨.hbm, 75, rfl⟩
abbrev main_call0_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]
-- ==== Proj.lean ====
abbrev S8x2048x1024 : Shape := ⟨3, ![8, 2048, 1024]⟩
abbrev S1024x8040 : Shape := ⟨2, ![1024, 8040]⟩
abbrev S256 : Shape := ⟨1, ![256]⟩
abbrev S256x1024 : Shape := ⟨2, ![256, 1024]⟩
abbrev S256x512 : Shape := ⟨2, ![256, 512]⟩
abbrev S64 : Shape := ⟨1, ![64]⟩
abbrev S32 : Shape := ⟨1, ![32]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S8040x1024 : Shape := ⟨2, ![8040, 1024]⟩
abbrev S1005x8x1024 : Shape := ⟨3, ![1005, 8, 1024]⟩
abbrev S1024x8192 : Shape := ⟨2, ![1024, 8192]⟩
abbrev S16x8x1024 : Shape := ⟨3, ![16, 8, 1024]⟩
abbrev S1024x512 : Shape := ⟨2, ![1024, 512]⟩
abbrev S128x1024 : Shape := ⟨2, ![128, 1024]⟩
abbrev S1024x128 : Shape := ⟨2, ![1024, 128]⟩
abbrev S1x256 : Shape := ⟨2, ![1, 256]⟩
abbrev S1x128 : Shape := ⟨2, ![1, 128]⟩
abbrev S1 : Shape := ⟨1, ![1]⟩
abbrev S2 : Shape := ⟨1, ![2]⟩
abbrev S256x1 : Shape := ⟨2, ![256, 1]⟩
abbrev S256x256 : Shape := ⟨2, ![256, 256]⟩
abbrev S8x1024x2048 : Shape := ⟨3, ![8, 1024, 2048]⟩
abbrev S8x512x2048 : Shape := ⟨3, ![8, 512, 2048]⟩
abbrev S8x4x2048x128 : Shape := ⟨4, ![8, 4, 2048, 128]⟩
abbrev S8x4x8x80x256 : Shape := ⟨5, ![8, 4, 8, 80, 256]⟩
abbrev S8x2048x64 : Shape := ⟨3, ![8, 2048, 64]⟩
abbrev S8x2048x128 : Shape := ⟨3, ![8, 2048, 128]⟩
abbrev S8x128x2048 : Shape := ⟨3, ![8, 128, 2048]⟩
abbrev S8x2048x2048 : Shape := ⟨3, ![8, 2048, 2048]⟩
abbrev S8x2048x3072 : Shape := ⟨3, ![8, 2048, 3072]⟩
abbrev S1x256x1024 : Shape := ⟨3, ![1, 256, 1024]⟩
abbrev S256x128 : Shape := ⟨2, ![256, 128]⟩
abbrev S1x1024x256 : Shape := ⟨3, ![1, 1024, 256]⟩
abbrev S1x512x256 : Shape := ⟨3, ![1, 512, 256]⟩
abbrev S1x4x256x128 : Shape := ⟨4, ![1, 4, 256, 128]⟩
abbrev S1x4x1x80x256 : Shape := ⟨5, ![1, 4, 1, 80, 256]⟩
abbrev S1x256x64 : Shape := ⟨3, ![1, 256, 64]⟩
abbrev S1x256x128 : Shape := ⟨3, ![1, 256, 128]⟩
abbrev S1x128x256 : Shape := ⟨3, ![1, 128, 256]⟩
abbrev S1x256x2048 : Shape := ⟨3, ![1, 256, 2048]⟩
abbrev S1x256x3072 : Shape := ⟨3, ![1, 256, 3072]⟩
abbrev S1024x896 : Shape := ⟨2, ![1024, 896]⟩
abbrev S256x896 : Shape := ⟨2, ![256, 896]⟩
abbrev S1024x2048 : Shape := ⟨2, ![1024, 2048]⟩
abbrev S256x2048 : Shape := ⟨2, ![256, 2048]⟩
abbrev S1024x3072 : Shape := ⟨2, ![1024, 3072]⟩
abbrev S256x3072 : Shape := ⟨2, ![256, 3072]⟩
abbrev S128x256 : Shape := ⟨2, ![128, 256]⟩
abbrev S1x1x256x128 : Shape := ⟨4, ![1, 1, 256, 128]⟩
abbrev S16x256 : Shape := ⟨2, ![16, 256]⟩
abbrev S64x256 : Shape := ⟨2, ![64, 256]⟩
abbrev S80x256 : Shape := ⟨2, ![80, 256]⟩
abbrev S1x1x1x80x256 : Shape := ⟨5, ![1, 1, 1, 80, 256]⟩
abbrev S256x64 : Shape := ⟨2, ![256, 64]⟩

abbrev nBuf : Space → Nat
  | .hbm => 186
  | .vmem => 46
  | .smem => 0
  | _ => 0

abbrev hbmTy0_0 (i : Nat) : BufTy := match i % 128 with
  | 0 => ⟨S8x2048x1024, .f32⟩
  | 1 => ⟨S1024x8040, .f32⟩
  | 2 => ⟨S256, .f32⟩
  | 3 => ⟨S256x1024, .f32⟩
  | 4 => ⟨S256x512, .f32⟩
  | 5 => ⟨S64, .f32⟩
  | 6 => ⟨S64, .f32⟩
  | 7 => ⟨S32, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S2048, .f32⟩
  | 23 => ⟨S2048x1, .f32⟩
  | 24 => ⟨S1x8, .f32⟩
  | 25 => ⟨S2048x8, .f32⟩
  | 26 => ⟨S2048x8, .f32⟩
  | 27 => ⟨S2048x8, .f32⟩
  | 28 => ⟨S2048x8, .f32⟩
  | 29 => ⟨S2048x8, .f32⟩
  | 30 => ⟨S_, .f32⟩
  | 31 => ⟨S2048x48, .f32⟩
  | 32 => ⟨S_, .f32⟩
  | 33 => ⟨S2048x8, .f32⟩
  | 34 => ⟨S_, .f32⟩
  | 35 => ⟨S2048x48, .f32⟩
  | 36 => ⟨S2048x48, .f32⟩
  | 37 => ⟨S2048x64, .f32⟩
  | 38 => ⟨S2048x8, .f32⟩
  | 39 => ⟨S2048x64, .f32⟩
  | 40 => ⟨S2048x64, .f32⟩
  | 41 => ⟨S1x2048x1x64, .f32⟩
  | 42 => ⟨S1x2048x2x64, .f32⟩
  | 43 => ⟨S2048x128, .f32⟩
  | 44 => ⟨S1x2048x1x64, .f32⟩
  | 45 => ⟨S1x2048x2x64, .f32⟩
  | 46 => ⟨S2048x128, .f32⟩
  | 47 => ⟨S1x2048x1x64, .f32⟩
  | 48 => ⟨S1x2048x2x64, .f32⟩
  | 49 => ⟨S2048x128, .f32⟩
  | 50 => ⟨S8040x1024, .f32⟩
  | 51 => ⟨S1005x8x1024, .f32⟩
  | 52 => ⟨S1024x8192, .bf16⟩
  | 53 => ⟨S1x256, .f32⟩
  | 54 => ⟨S256x1024, .bf16⟩
  | 55 => ⟨S256x512, .bf16⟩
  | 56 => ⟨S_, .f32⟩
  | 57 => ⟨S1x128, .f32⟩
  | 58 => ⟨S_, .i32⟩
  | 59 => ⟨S1, .i32⟩
  | 60 => ⟨S_, .i32⟩
  | 61 => ⟨S1, .i32⟩
  | 62 => ⟨S2, .i32⟩
  | 63 => ⟨S1x128, .f32⟩
  | 64 => ⟨S_, .f32⟩
  | 65 => ⟨S1x128, .f32⟩
  | 66 => ⟨S_, .i32⟩
  | 67 => ⟨S1, .i32⟩
  | 68 => ⟨S_, .i32⟩
  | 69 => ⟨S1, .i32⟩
  | 70 => ⟨S2, .i32⟩
  | 71 => ⟨S1x128, .f32⟩
  | 72 => ⟨S_, .f32⟩
  | 73 => ⟨S1x128, .f32⟩
  | 74 => ⟨S_, .i32⟩
  | 75 => ⟨S1, .i32⟩
  | 76 => ⟨S_, .i32⟩
  | 77 => ⟨S1, .i32⟩
  | 78 => ⟨S2, .i32⟩
  | 79 => ⟨S1x128, .f32⟩
  | 80 => ⟨S256, .i32⟩
  | 81 => ⟨S_, .i32⟩
  | 82 => ⟨S_, .i32⟩
  | 83 => ⟨S256, .i32⟩
  | 84 => ⟨S256, .i32⟩
  | 85 => ⟨S256, .i32⟩
  | 86 => ⟨S_, .i32⟩
  | 87 => ⟨S256, .i32⟩
  | 88 => ⟨S256, .i1⟩
  | 89 => ⟨S256, .i32⟩
  | 90 => ⟨S256, .i32⟩
  | 91 => ⟨S_, .i32⟩
  | 92 => ⟨S256, .i32⟩
  | 93 => ⟨S256, .i1⟩
  | 94 => ⟨S256, .i1⟩
  | 95 => ⟨S_, .i32⟩
  | 96 => ⟨S256, .i32⟩
  | 97 => ⟨S256, .i32⟩
  | 98 => ⟨S256, .i32⟩
  | 99 => ⟨S_, .i32⟩
  | 100 => ⟨S256, .i32⟩
  | 101 => ⟨S256, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S256, .i32⟩
  | 109 => ⟨S256, .i32⟩
  | 110 => ⟨S_, .i32⟩
  | 111 => ⟨S256, .i32⟩
  | 112 => ⟨S256, .i1⟩
  | 113 => ⟨S_, .i32⟩
  | 114 => ⟨S256, .i32⟩
  | 115 => ⟨S256, .i1⟩
  | 116 => ⟨S_, .i32⟩
  | 117 => ⟨S_, .i1⟩
  | 118 => ⟨S256, .i1⟩
  | 119 => ⟨S256, .i1⟩
  | 120 => ⟨S256, .i1⟩
  | 121 => ⟨S256, .i32⟩
  | 122 => ⟨S256, .i32⟩
  | 123 => ⟨S256, .i32⟩
  | 124 => ⟨S_, .i32⟩
  | 125 => ⟨S256, .i32⟩
  | 126 => ⟨S256, .i32⟩
  | 127 => ⟨S256, .i32⟩
  | _ => ⟨S8x2048x1024, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S256, .i32⟩
  | 7 => ⟨S256, .i32⟩
  | 8 => ⟨S_, .i32⟩
  | 9 => ⟨S256, .i32⟩
  | 10 => ⟨S256, .i1⟩
  | 11 => ⟨S_, .i32⟩
  | 12 => ⟨S256, .i32⟩
  | 13 => ⟨S256, .i1⟩
  | 14 => ⟨S_, .i32⟩
  | 15 => ⟨S_, .i1⟩
  | 16 => ⟨S256, .i1⟩
  | 17 => ⟨S256, .i1⟩
  | 18 => ⟨S256, .i1⟩
  | 19 => ⟨S256, .i32⟩
  | 20 => ⟨S256, .i32⟩
  | 21 => ⟨S256, .i32⟩
  | 22 => ⟨S_, .i32⟩
  | 23 => ⟨S_, .i32⟩
  | 24 => ⟨S256, .i32⟩
  | 25 => ⟨S256, .i32⟩
  | 26 => ⟨S256, .i32⟩
  | 27 => ⟨S_, .i32⟩
  | 28 => ⟨S256, .i32⟩
  | 29 => ⟨S256, .i1⟩
  | 30 => ⟨S256, .i32⟩
  | 31 => ⟨S256, .i32⟩
  | 32 => ⟨S_, .i32⟩
  | 33 => ⟨S256, .i32⟩
  | 34 => ⟨S256, .i1⟩
  | 35 => ⟨S256, .i1⟩
  | 36 => ⟨S_, .i32⟩
  | 37 => ⟨S256, .i32⟩
  | 38 => ⟨S256, .i32⟩
  | 39 => ⟨S256, .i32⟩
  | 40 => ⟨S256, .i32⟩
  | 41 => ⟨S256, .i32⟩
  | 42 => ⟨S1x256, .i32⟩
  | 43 => ⟨S256x1, .i32⟩
  | 44 => ⟨S256x256, .i32⟩
  | 45 => ⟨S256x256, .i32⟩
  | 46 => ⟨S256x256, .i1⟩
  | 47 => ⟨S256x256, .bf16⟩
  | 48 => ⟨S8x1024x2048, .bf16⟩
  | 49 => ⟨S8x512x2048, .bf16⟩
  | 50 => ⟨S8x4x2048x128, .bf16⟩
  | 51 => ⟨S8x4x8x80x256, .bf16⟩
  | 52 => ⟨S8x2048x64, .bf16⟩
  | 53 => ⟨S8x2048x128, .f32⟩
  | 54 => ⟨S8x128x2048, .f32⟩
  | 55 => ⟨S8x2048x2048, .bf16⟩
  | 56 => ⟨S8x2048x3072, .f32⟩
  | 57 => ⟨S8x2048x2048, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S16x8x1024, .f32⟩
  | .local _ .vmem, ⟨1, _⟩ => ⟨S16x8x1024, .f32⟩
  | .local _ .vmem, ⟨2, _⟩ => ⟨S16x8x1024, .f32⟩
  | .local _ .vmem, ⟨3, _⟩ => ⟨S16x8x1024, .f32⟩
  | .local _ .vmem, ⟨4, _⟩ => ⟨S16x8x1024, .f32⟩
  | .local _ .vmem, ⟨5, _⟩ => ⟨S16x8x1024, .f32⟩
  | .local _ .vmem, ⟨6, _⟩ => ⟨S16x8x1024, .f32⟩
  | .local _ .vmem, ⟨7, _⟩ => ⟨S16x8x1024, .f32⟩
  | .local _ .vmem, ⟨8, _⟩ => ⟨S1024x512, .bf16⟩
  | .local _ .vmem, ⟨9, _⟩ => ⟨S1024x512, .bf16⟩
  | .local _ .vmem, ⟨10, _⟩ => ⟨S1x256x1024, .f32⟩
  | .local _ .vmem, ⟨11, _⟩ => ⟨S1x256x1024, .f32⟩
  | .local _ .vmem, ⟨12, _⟩ => ⟨S1024x8192, .bf16⟩
  | .local _ .vmem, ⟨13, _⟩ => ⟨S256x256, .bf16⟩
  | .local _ .vmem, ⟨14, _⟩ => ⟨S1x256, .f32⟩
  | .local _ .vmem, ⟨15, _⟩ => ⟨S256x1024, .bf16⟩
  | .local _ .vmem, ⟨16, _⟩ => ⟨S256x512, .bf16⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S1x1024x256, .bf16⟩
  | .local _ .vmem, ⟨27, _⟩ => ⟨S1x1024x256, .bf16⟩
  | .local _ .vmem, ⟨28, _⟩ => ⟨S1x512x256, .bf16⟩
  | .local _ .vmem, ⟨29, _⟩ => ⟨S1x512x256, .bf16⟩
  | .local _ .vmem, ⟨30, _⟩ => ⟨S1x4x256x128, .bf16⟩
  | .local _ .vmem, ⟨31, _⟩ => ⟨S1x4x256x128, .bf16⟩
  | .local _ .vmem, ⟨32, _⟩ => ⟨S1x4x1x80x256, .bf16⟩
  | .local _ .vmem, ⟨33, _⟩ => ⟨S1x4x1x80x256, .bf16⟩
  | .local _ .vmem, ⟨34, _⟩ => ⟨S1x256x64, .bf16⟩
  | .local _ .vmem, ⟨35, _⟩ => ⟨S1x256x64, .bf16⟩
  | .local _ .vmem, ⟨36, _⟩ => ⟨S1x256x128, .f32⟩
  | .local _ .vmem, ⟨37, _⟩ => ⟨S1x256x128, .f32⟩
  | .local _ .vmem, ⟨38, _⟩ => ⟨S1x128x256, .f32⟩
  | .local _ .vmem, ⟨39, _⟩ => ⟨S1x128x256, .f32⟩
  | .local _ .vmem, ⟨40, _⟩ => ⟨S1x256x2048, .bf16⟩
  | .local _ .vmem, ⟨41, _⟩ => ⟨S1x256x2048, .bf16⟩
  | .local _ .vmem, ⟨42, _⟩ => ⟨S1x256x3072, .f32⟩
  | .local _ .vmem, ⟨43, _⟩ => ⟨S1x256x3072, .f32⟩
  | .local _ .vmem, ⟨44, _⟩ => ⟨S1x256x2048, .bf16⟩
  | .local _ .vmem, ⟨45, _⟩ => ⟨S1x256x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_c : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_c_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_14 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_c : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_c_0 : Ref sig .tc := ⟨.hbm, 95, rfl⟩
abbrev main_call0_v12 : Ref sig .tc := ⟨.hbm, 96, rfl⟩
abbrev main_call0_v13 : Ref sig .tc := ⟨.hbm, 97, rfl⟩
abbrev main_v57 : Ref sig .tc := ⟨.hbm, 98, rfl⟩
abbrev main_c_15 : Ref sig .tc := ⟨.hbm, 99, rfl⟩
abbrev main_v58 : Ref sig .tc := ⟨.hbm, 100, rfl⟩
abbrev main_v59 : Ref sig .tc := ⟨.hbm, 101, rfl⟩
abbrev main_c_16 : Ref sig .tc := ⟨.hbm, 102, rfl⟩
abbrev main_call1_v0 : Ref sig .tc := ⟨.hbm, 103, rfl⟩
abbrev main_call1_c : Ref sig .tc := ⟨.hbm, 104, rfl⟩
abbrev main_call1_v1 : Ref sig .tc := ⟨.hbm, 105, rfl⟩
abbrev main_call1_c_0 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_c_1 : Ref sig .tc := ⟨.hbm, 110, rfl⟩
abbrev main_call1_v5 : Ref sig .tc := ⟨.hbm, 111, rfl⟩
abbrev main_call1_v6 : Ref sig .tc := ⟨.hbm, 112, rfl⟩
abbrev main_call1_c_2 : Ref sig .tc := ⟨.hbm, 113, rfl⟩
abbrev main_call1_v7 : Ref sig .tc := ⟨.hbm, 114, rfl⟩
abbrev main_call1_v8 : Ref sig .tc := ⟨.hbm, 115, rfl⟩
abbrev main_call1_c_3 : Ref sig .tc := ⟨.hbm, 116, rfl⟩
abbrev main_call1_v9 : Ref sig .tc := ⟨.hbm, 117, rfl⟩
abbrev main_call1_v10 : Ref sig .tc := ⟨.hbm, 118, rfl⟩
abbrev main_call1_v11 : Ref sig .tc := ⟨.hbm, 119, rfl⟩
abbrev main_call1_v12 : Ref sig .tc := ⟨.hbm, 120, rfl⟩
abbrev main_call1_v13 : Ref sig .tc := ⟨.hbm, 121, rfl⟩
abbrev main_call1_v14 : Ref sig .tc := ⟨.hbm, 122, rfl⟩
abbrev main_v60 : Ref sig .tc := ⟨.hbm, 123, rfl⟩
abbrev main_c_17 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_c_18 : Ref sig .tc := ⟨.hbm, 128, rfl⟩
abbrev main_call2_v0 : Ref sig .tc := ⟨.hbm, 129, rfl⟩
abbrev main_call2_c : Ref sig .tc := ⟨.hbm, 130, rfl⟩
abbrev main_call2_v1 : Ref sig .tc := ⟨.hbm, 131, rfl⟩
abbrev main_call2_c_0 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_call2_c_1 : Ref sig .tc := ⟨.hbm, 136, rfl⟩
abbrev main_call2_v5 : Ref sig .tc := ⟨.hbm, 137, rfl⟩
abbrev main_call2_v6 : Ref sig .tc := ⟨.hbm, 138, rfl⟩
abbrev main_call2_c_2 : Ref sig .tc := ⟨.hbm, 139, rfl⟩
abbrev main_call2_v7 : Ref sig .tc := ⟨.hbm, 140, rfl⟩
abbrev main_call2_v8 : Ref sig .tc := ⟨.hbm, 141, rfl⟩
abbrev main_call2_c_3 : Ref sig .tc := ⟨.hbm, 142, rfl⟩
abbrev main_call2_v9 : Ref sig .tc := ⟨.hbm, 143, rfl⟩
abbrev main_call2_v10 : Ref sig .tc := ⟨.hbm, 144, rfl⟩
abbrev main_call2_v11 : Ref sig .tc := ⟨.hbm, 145, rfl⟩
abbrev main_call2_v12 : Ref sig .tc := ⟨.hbm, 146, rfl⟩
abbrev main_call2_v13 : Ref sig .tc := ⟨.hbm, 147, rfl⟩
abbrev main_call2_v14 : Ref sig .tc := ⟨.hbm, 148, rfl⟩
abbrev main_v64 : Ref sig .tc := ⟨.hbm, 149, rfl⟩
abbrev main_c_19 : Ref sig .tc := ⟨.hbm, 150, rfl⟩
abbrev main_call3_v0 : Ref sig .tc := ⟨.hbm, 151, rfl⟩
abbrev main_call3_v1 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_call3_v5 : Ref sig .tc := ⟨.hbm, 156, rfl⟩
abbrev main_call3_v6 : Ref sig .tc := ⟨.hbm, 157, rfl⟩
abbrev main_call3_v7 : Ref sig .tc := ⟨.hbm, 158, rfl⟩
abbrev main_call3_v8 : Ref sig .tc := ⟨.hbm, 159, rfl⟩
abbrev main_call3_c : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_call3_c_0 : Ref sig .tc := ⟨.hbm, 164, rfl⟩
abbrev main_call3_v12 : Ref sig .tc := ⟨.hbm, 165, rfl⟩
abbrev main_call3_v13 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_v72 : Ref sig .tc := ⟨.hbm, 174, rfl⟩
abbrev main_v73 : Ref sig .tc := ⟨.hbm, 175, rfl⟩
abbrev main_v74_0 : Ref sig .tc := ⟨.hbm, 176, rfl⟩
abbrev main_v74_1 : Ref sig .tc := ⟨.hbm, 177, rfl⟩
abbrev main_v74_2 : Ref sig .tc := ⟨.hbm, 178, rfl⟩
abbrev main_v74_3 : Ref sig .tc := ⟨.hbm, 179, rfl⟩
abbrev main_v74_4 : Ref sig .tc := ⟨.hbm, 180, rfl⟩
abbrev main_v74_5 : Ref sig .tc := ⟨.hbm, 181, rfl⟩
abbrev main_v74_6 : Ref sig .tc := ⟨.hbm, 182, rfl⟩
abbrev main_v74_7 : Ref sig .tc := ⟨.hbm, 183, rfl⟩
abbrev main_v74_8 : Ref sig .tc := ⟨.hbm, 184, rfl⟩
abbrev main_v74_9 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc1_stg12_0 : Ref sig .tc := ⟨.vmem, 26, rfl⟩
abbrev cc1_stg12_1 : Ref sig .tc := ⟨.vmem, 27, rfl⟩
abbrev cc1_stg13_0 : Ref sig .tc := ⟨.vmem, 28, rfl⟩
abbrev cc1_stg13_1 : Ref sig .tc := ⟨.vmem, 29, rfl⟩
abbrev cc1_stg14_0 : Ref sig .tc := ⟨.vmem, 30, rfl⟩
abbrev cc1_stg14_1 : Ref sig .tc := ⟨.vmem, 31, rfl⟩
abbrev cc1_stg15_0 : Ref sig .tc := ⟨.vmem, 32, rfl⟩
abbrev cc1_stg15_1 : Ref sig .tc := ⟨.vmem, 33, rfl⟩
abbrev cc1_stg16_0 : Ref sig .tc := ⟨.vmem, 34, rfl⟩
abbrev cc1_stg16_1 : Ref sig .tc := ⟨.vmem, 35, rfl⟩
abbrev cc1_stg17_0 : Ref sig .tc := ⟨.vmem, 36, rfl⟩
abbrev cc1_stg17_1 : Ref sig .tc := ⟨.vmem, 37, rfl⟩
abbrev cc1_stg18_0 : Ref sig .tc := ⟨.vmem, 38, rfl⟩
abbrev cc1_stg18_1 : Ref sig .tc := ⟨.vmem, 39, rfl⟩
abbrev cc1_stg19_0 : Ref sig .tc := ⟨.vmem, 40, rfl⟩
abbrev cc1_stg19_1 : Ref sig .tc := ⟨.vmem, 41, rfl⟩
abbrev cc1_stg20_0 : Ref sig .tc := ⟨.vmem, 42, rfl⟩
abbrev cc1_stg20_1 : Ref sig .tc := ⟨.vmem, 43, rfl⟩
abbrev cc1_stg21_0 : Ref sig .tc := ⟨.vmem, 44, rfl⟩
abbrev cc1_stg21_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc1_sem11_1 : DmaSem sig := 25
abbrev cc1_sem12_0 : DmaSem sig := 26
abbrev cc1_sem12_1 : DmaSem sig := 27
abbrev cc1_sem13_0 : DmaSem sig := 28
abbrev cc1_sem13_1 : DmaSem sig := 29
abbrev cc1_sem14_0 : DmaSem sig := 30
abbrev cc1_sem14_1 : DmaSem sig := 31
abbrev cc1_sem15_0 : DmaSem sig := 32
abbrev cc1_sem15_1 : DmaSem sig := 33
abbrev cc1_sem16_0 : DmaSem sig := 34
abbrev cc1_sem16_1 : DmaSem sig := 35
abbrev cc1_sem17_0 : DmaSem sig := 36
abbrev cc1_sem17_1 : DmaSem sig := 37
abbrev cc1_sem18_0 : DmaSem sig := 38
abbrev cc1_sem18_1 : DmaSem sig := 39
abbrev cc1_sem19_0 : DmaSem sig := 40
abbrev cc1_sem19_1 : DmaSem sig := 41
abbrev cc1_sem20_0 : DmaSem sig := 42
abbrev cc1_sem20_1 : DmaSem sig := 43
abbrev cc1_sem21_0 : DmaSem sig := 44
abbrev cc1_sem21_1 : DmaSem sig := 45

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c7_i32 : BitVec 32 := 7#32
  let v2 : BitVec 1 := Scalar.cmpi .slt v1 c7_i32
  let c16_i32 : BitVec 32 := 16#32
  let v3 : BitVec 32 := Scalar.muli c16_i32 v1
  let c8_i32 : BitVec 32 := 8#32
  let v4 : BitVec 1 := Scalar.cmpi .slt v1 c8_i32
  let c7_i32_0 : BitVec 32 := 7#32
  let v5 : BitVec 32 := Scalar.subi v1 c7_i32_0
  let c16_i32_1 : BitVec 32 := 16#32
  let v6 : BitVec 32 := Scalar.muli c16_i32_1 v5
  let c745_i32 : BitVec 32 := 745#32
  let v7 : BitVec 32 := Scalar.addi c745_i32 v6
  let c24_i32 : BitVec 32 := 24#32
  let v8 : BitVec 1 := Scalar.cmpi .slt v1 c24_i32
  let c8_i32_2 : BitVec 32 := 8#32
  let v9 : BitVec 32 := Scalar.subi v1 c8_i32_2
  let c16_i32_3 : BitVec 32 := 16#32
  let v10 : BitVec 32 := Scalar.muli c16_i32_3 v9
  let c105_i32 : BitVec 32 := 105#32
  let v11 : BitVec 32 := Scalar.addi c105_i32 v10
  let c48_i32 : BitVec 32 := 48#32
  let v12 : BitVec 1 := Scalar.cmpi .slt v1 c48_i32
  let c24_i32_4 : BitVec 32 := 24#32
  let v13 : BitVec 32 := Scalar.subi v1 c24_i32_4
  let c16_i32_5 : BitVec 32 := 16#32
  let v14 : BitVec 32 := Scalar.muli c16_i32_5 v13
  let c361_i32 : BitVec 32 := 361#32
  let v15 : BitVec 32 := Scalar.addi c361_i32 v14
  let c48_i32_6 : BitVec 32 := 48#32
  let v16 : BitVec 32 := Scalar.subi v1 c48_i32_6
  let c16_i32_7 : BitVec 32 := 16#32
  let v17 : BitVec 32 := Scalar.muli c16_i32_7 v16
  let c749_i32 : BitVec 32 := 749#32
  let v18 : BitVec 32 := Scalar.addi c749_i32 v17
  let v19 : BitVec 32 := Scalar.select v12 v15 v18
  let v20 : BitVec 32 := Scalar.select v8 v11 v19
  let v21 : BitVec 32 := Scalar.select v4 v7 v20
  let v22 : BitVec 32 := Scalar.select v2 v3 v21
  let c0_i32_8 : BitVec 32 := 0#32
  let c0_i32_9 : BitVec 32 := 0#32
  let c0_i32_10 : BitVec 32 := 0#32
  ![v22.toNat, c0_i32_8.toNat, c0_i32_9.toNat]

def cc0_transform_1 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c7_i32 : BitVec 32 := 7#32
  let v2 : BitVec 1 := Scalar.cmpi .slt v1 c7_i32
  let c16_i32 : BitVec 32 := 16#32
  let v3 : BitVec 32 := Scalar.muli c16_i32 v1
  let c8_i32 : BitVec 32 := 8#32
  let v4 : BitVec 1 := Scalar.cmpi .slt v1 c8_i32
  let c7_i32_0 : BitVec 32 := 7#32
  let v5 : BitVec 32 := Scalar.subi v1 c7_i32_0
  let c16_i32_1 : BitVec 32 := 16#32
  let v6 : BitVec 32 := Scalar.muli c16_i32_1 v5
  let c745_i32 : BitVec 32 := 745#32
  let v7 : BitVec 32 := Scalar.addi c745_i32 v6
  let c24_i32 : BitVec 32 := 24#32
  let v8 : BitVec 1 := Scalar.cmpi .slt v1 c24_i32
  let c8_i32_2 : BitVec 32 := 8#32
  let v9 : BitVec 32 := Scalar.subi v1 c8_i32_2
  let c16_i32_3 : BitVec 32 := 16#32
  let v10 : BitVec 32 := Scalar.muli c16_i32_3 v9
  let c105_i32 : BitVec 32 := 105#32
  let v11 : BitVec 32 := Scalar.addi c105_i32 v10
  let c48_i32 : BitVec 32 := 48#32
  let v12 : BitVec 1 := Scalar.cmpi .slt v1 c48_i32
  let c24_i32_4 : BitVec 32 := 24#32
  let v13 : BitVec 32 := Scalar.subi v1 c24_i32_4
  let c16_i32_5 : BitVec 32 := 16#32
  let v14 : BitVec 32 := Scalar.muli c16_i32_5 v13
  let c361_i32 : BitVec 32 := 361#32
  let v15 : BitVec 32 := Scalar.addi c361_i32 v14
  let c48_i32_6 : BitVec 32 := 48#32
  let v16 : BitVec 32 := Scalar.subi v1 c48_i32_6
  let c16_i32_7 : BitVec 32 := 16#32
  let v17 : BitVec 32 := Scalar.muli c16_i32_7 v16
  let c749_i32 : BitVec 32 := 749#32
  let v18 : BitVec 32 := Scalar.addi c749_i32 v17
  let v19 : BitVec 32 := Scalar.select v12 v15 v18
  let v20 : BitVec 32 := Scalar.select v8 v11 v19
  let v21 : BitVec 32 := Scalar.select v4 v7 v20
  let v22 : BitVec 32 := Scalar.select v2 v3 v21
  let c0_i32 : BitVec 32 := 0#32
  let c0_i32_8 : BitVec 32 := 0#32
  let c0_i32_9 : BitVec 32 := 0#32
  ![v22.toNat, c0_i32.toNat, c0_i32_8.toNat]

def cc0_transform_2 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c7_i32 : BitVec 32 := 7#32
  let v2 : BitVec 1 := Scalar.cmpi .slt v1 c7_i32
  let c16_i32 : BitVec 32 := 16#32
  let v3 : BitVec 32 := Scalar.muli c16_i32 v1
  let c8_i32 : BitVec 32 := 8#32
  let v4 : BitVec 1 := Scalar.cmpi .slt v1 c8_i32
  let c7_i32_0 : BitVec 32 := 7#32
  let v5 : BitVec 32 := Scalar.subi v1 c7_i32_0
  let c16_i32_1 : BitVec 32 := 16#32
  let v6 : BitVec 32 := Scalar.muli c16_i32_1 v5
  let c745_i32 : BitVec 32 := 745#32
  let v7 : BitVec 32 := Scalar.addi c745_i32 v6
  let c24_i32 : BitVec 32 := 24#32
  let v8 : BitVec 1 := Scalar.cmpi .slt v1 c24_i32
  let c8_i32_2 : BitVec 32 := 8#32
  let v9 : BitVec 32 := Scalar.subi v1 c8_i32_2
  let c16_i32_3 : BitVec 32 := 16#32
  let v10 : BitVec 32 := Scalar.muli c16_i32_3 v9
  let c105_i32 : BitVec 32 := 105#32
  let v11 : BitVec 32 := Scalar.addi c105_i32 v10
  let c48_i32 : BitVec 32 := 48#32
  let v12 : BitVec 1 := Scalar.cmpi .slt v1 c48_i32
  let c24_i32_4 : BitVec 32 := 24#32
  let v13 : BitVec 32 := Scalar.subi v1 c24_i32_4
  let c16_i32_5 : BitVec 32 := 16#32
  let v14 : BitVec 32 := Scalar.muli c16_i32_5 v13
  let c361_i32 : BitVec 32 := 361#32
  let v15 : BitVec 32 := Scalar.addi c361_i32 v14
  let c48_i32_6 : BitVec 32 := 48#32
  let v16 : BitVec 32 := Scalar.subi v1 c48_i32_6
  let c16_i32_7 : BitVec 32 := 16#32
  let v17 : BitVec 32 := Scalar.muli c16_i32_7 v16
  let c749_i32 : BitVec 32 := 749#32
  let v18 : BitVec 32 := Scalar.addi c749_i32 v17
  let v19 : BitVec 32 := Scalar.select v12 v15 v18
  let v20 : BitVec 32 := Scalar.select v8 v11 v19
  let v21 : BitVec 32 := Scalar.select v4 v7 v20
  let v22 : BitVec 32 := Scalar.select v2 v3 v21
  let c0_i32 : BitVec 32 := 0#32
  let c0_i32_8 : BitVec 32 := 0#32
  let c0_i32_9 : BitVec 32 := 0#32
  ![v22.toNat, c0_i32.toNat, c0_i32_8.toNat]

def cc0_transform_3 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c7_i32 : BitVec 32 := 7#32
  let v2 : BitVec 1 := Scalar.cmpi .slt v1 c7_i32
  let c16_i32 : BitVec 32 := 16#32
  let v3 : BitVec 32 := Scalar.muli c16_i32 v1
  let c8_i32 : BitVec 32 := 8#32
  let v4 : BitVec 1 := Scalar.cmpi .slt v1 c8_i32
  let c7_i32_0 : BitVec 32 := 7#32
  let v5 : BitVec 32 := Scalar.subi v1 c7_i32_0
  let c16_i32_1 : BitVec 32 := 16#32
  let v6 : BitVec 32 := Scalar.muli c16_i32_1 v5
  let c745_i32 : BitVec 32 := 745#32
  let v7 : BitVec 32 := Scalar.addi c745_i32 v6
  let c24_i32 : BitVec 32 := 24#32
  let v8 : BitVec 1 := Scalar.cmpi .slt v1 c24_i32
  let c8_i32_2 : BitVec 32 := 8#32
  let v9 : BitVec 32 := Scalar.subi v1 c8_i32_2
  let c16_i32_3 : BitVec 32 := 16#32
  let v10 : BitVec 32 := Scalar.muli c16_i32_3 v9
  let c105_i32 : BitVec 32 := 105#32
  let v11 : BitVec 32 := Scalar.addi c105_i32 v10
  let c48_i32 : BitVec 32 := 48#32
  let v12 : BitVec 1 := Scalar.cmpi .slt v1 c48_i32
  let c24_i32_4 : BitVec 32 := 24#32
  let v13 : BitVec 32 := Scalar.subi v1 c24_i32_4
  let c16_i32_5 : BitVec 32 := 16#32
  let v14 : BitVec 32 := Scalar.muli c16_i32_5 v13
  let c361_i32 : BitVec 32 := 361#32
  let v15 : BitVec 32 := Scalar.addi c361_i32 v14
  let c48_i32_6 : BitVec 32 := 48#32
  let v16 : BitVec 32 := Scalar.subi v1 c48_i32_6
  let c16_i32_7 : BitVec 32 := 16#32
  let v17 : BitVec 32 := Scalar.muli c16_i32_7 v16
  let c749_i32 : BitVec 32 := 749#32
  let v18 : BitVec 32 := Scalar.addi c749_i32 v17
  let v19 : BitVec 32 := Scalar.select v12 v15 v18
  let v20 : BitVec 32 := Scalar.select v8 v11 v19
  let v21 : BitVec 32 := Scalar.select v4 v7 v20
  let v22 : BitVec 32 := Scalar.select v2 v3 v21
  let c0_i32 : BitVec 32 := 0#32
  let c0_i32_8 : BitVec 32 := 0#32
  let c0_i32_9 : BitVec 32 := 0#32
  ![v22.toNat, c0_i32.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_14 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_15 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_17 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_18 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_19 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_20 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_21 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x8192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true]

abbrev stage1_10 : Fin 2 → Memref sig .tc .vmem S256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![false, true]

abbrev stage1_11 : Fin 2 → Memref sig .tc .vmem S256x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![false, true]

abbrev stage1_12 : Fin 2 → Memref sig .tc .vmem S1x1024x256 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x512x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x4x256x128 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x4x1x80x256 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1x256x64 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S1x256x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 2 → Memref sig .tc .vmem S1x128x256 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true]

abbrev stage1_19 : Fin 2 → Memref sig .tc .vmem S1x256x2048 .bf16 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]

abbrev stage1_20 : Fin 2 → Memref sig .tc .vmem S1x256x3072 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true, true]

abbrev stage1_21 : Fin 2 → Memref sig .tc .vmem S1x256x2048 .bf16 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true, true]
-- ==== ProjRefIdeal.lean ====
abbrev S8x2048x1024 : Shape := ⟨3, ![8, 2048, 1024]⟩
abbrev S1024x8040 : Shape := ⟨2, ![1024, 8040]⟩
abbrev S256 : Shape := ⟨1, ![256]⟩
abbrev S256x1024 : Shape := ⟨2, ![256, 1024]⟩
abbrev S256x512 : Shape := ⟨2, ![256, 512]⟩
abbrev S64 : Shape := ⟨1, ![64]⟩
abbrev S32 : Shape := ⟨1, ![32]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S8x2048x8040 : Shape := ⟨3, ![8, 2048, 8040]⟩
abbrev S8x2048x256 : Shape := ⟨3, ![8, 2048, 256]⟩
abbrev S8x2048x64 : Shape := ⟨3, ![8, 2048, 64]⟩
abbrev S8x2048x8 : Shape := ⟨3, ![8, 2048, 8]⟩
abbrev S8x2048x2048 : Shape := ⟨3, ![8, 2048, 2048]⟩
abbrev S8x2048x3072 : Shape := ⟨3, ![8, 2048, 3072]⟩
abbrev S8x2048x32 : Shape := ⟨3, ![8, 2048, 32]⟩
abbrev S8x2048 : Shape := ⟨2, ![8, 2048]⟩
abbrev S8x2048x1 : Shape := ⟨3, ![8, 2048, 1]⟩
abbrev S1x1x256 : Shape := ⟨3, ![1, 1, 256]⟩
abbrev S8x2048x16x64 : Shape := ⟨4, ![8, 2048, 16, 64]⟩
abbrev S1x2048x1x8 : Shape := ⟨4, ![1, 2048, 1, 8]⟩
abbrev S8x2048x16x8 : Shape := ⟨4, ![8, 2048, 16, 8]⟩
abbrev S8x2048x16x48 : Shape := ⟨4, ![8, 2048, 16, 48]⟩
abbrev S8x2048x512 : Shape := ⟨3, ![8, 2048, 512]⟩
abbrev S8x2048x8x64 : Shape := ⟨4, ![8, 2048, 8, 64]⟩
abbrev S8x2048x8x8 : Shape := ⟨4, ![8, 2048, 8, 8]⟩
abbrev S8x2048x8x48 : Shape := ⟨4, ![8, 2048, 8, 48]⟩
abbrev S8x2048x4x64 : Shape := ⟨4, ![8, 2048, 4, 64]⟩
abbrev S8x2048x4x8 : Shape := ⟨4, ![8, 2048, 4, 8]⟩
abbrev S8x2048x4x48 : Shape := ⟨4, ![8, 2048, 4, 48]⟩
abbrev S1x1x64 : Shape := ⟨3, ![1, 1, 64]⟩
abbrev S8x2048x1x64 : Shape := ⟨4, ![8, 2048, 1, 64]⟩
abbrev S8x2048x1x8 : Shape := ⟨4, ![8, 2048, 1, 8]⟩
abbrev S8x2048x1x48 : Shape := ⟨4, ![8, 2048, 1, 48]⟩
abbrev S1x1x32 : Shape := ⟨3, ![1, 1, 32]⟩
abbrev S8x4x2048x1 : Shape := ⟨4, ![8, 4, 2048, 1]⟩
abbrev S8x4x2048x64 : Shape := ⟨4, ![8, 4, 2048, 64]⟩
abbrev S8x4x2048x63 : Shape := ⟨4, ![8, 4, 2048, 63]⟩
abbrev S8x4x2048x128 : Shape := ⟨4, ![8, 4, 2048, 128]⟩
abbrev S8x4x2048x15 : Shape := ⟨4, ![8, 4, 2048, 15]⟩
abbrev S8x4x2048x80 : Shape := ⟨4, ![8, 4, 2048, 80]⟩
abbrev S8x4x8x256x80 : Shape := ⟨5, ![8, 4, 8, 256, 80]⟩
abbrev S8x4x8x80x256 : Shape := ⟨5, ![8, 4, 8, 80, 256]⟩
abbrev S8x2048x96 : Shape := ⟨3, ![8, 2048, 96]⟩
abbrev S8x2048x128 : Shape := ⟨3, ![8, 2048, 128]⟩
abbrev S8x2048x56 : Shape := ⟨3, ![8, 2048, 56]⟩
abbrev S8x1024x2048 : Shape := ⟨3, ![8, 1024, 2048]⟩
abbrev S8x512x2048 : Shape := ⟨3, ![8, 512, 2048]⟩
abbrev S8x16x8x16x128 : Shape := ⟨5, ![8, 16, 8, 16, 128]⟩
abbrev S8x16x16x8x128 : Shape := ⟨5, ![8, 16, 16, 8, 128]⟩
abbrev S8x128x2048 : Shape := ⟨3, ![8, 128, 2048]⟩
abbrev S8x16x8x16x2048 : Shape := ⟨5, ![8, 16, 8, 16, 2048]⟩
abbrev S8x16x16x8x2048 : Shape := ⟨5, ![8, 16, 16, 8, 2048]⟩
abbrev S8x16x8x16x3072 : Shape := ⟨5, ![8, 16, 8, 16, 3072]⟩
abbrev S8x16x16x8x3072 : Shape := ⟨5, ![8, 16, 16, 8, 3072]⟩

abbrev nBuf : Space → Nat
  | .hbm => 222
  | .vmem => 0
  | .smem => 0
  | _ => 0

abbrev hbmTy0_0 (i : Nat) : BufTy := match i % 128 with
  | 0 => ⟨S8x2048x1024, .f32⟩
  | 1 => ⟨S1024x8040, .f32⟩
  | 2 => ⟨S256, .f32⟩
  | 3 => ⟨S256x1024, .f32⟩
  | 4 => ⟨S256x512, .f32⟩
  | 5 => ⟨S64, .f32⟩
  | 6 => ⟨S64, .f32⟩
  | 7 => ⟨S32, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S2048, .f32⟩
  | 23 => ⟨S2048x1, .f32⟩
  | 24 => ⟨S1x8, .f32⟩
  | 25 => ⟨S2048x8, .f32⟩
  | 26 => ⟨S2048x8, .f32⟩
  | 27 => ⟨S2048x8, .f32⟩
  | 28 => ⟨S2048x8, .f32⟩
  | 29 => ⟨S2048x8, .f32⟩
  | 30 => ⟨S8x2048x8040, .f32⟩
  | 31 => ⟨S8x2048x256, .f32⟩
  | 32 => ⟨S8x2048x256, .f32⟩
  | 33 => ⟨S8x2048x256, .f32⟩
  | 34 => ⟨S8x2048x64, .f32⟩
  | 35 => ⟨S8x2048x8, .f32⟩
  | 36 => ⟨S8x2048x2048, .f32⟩
  | 37 => ⟨S8x2048x3072, .f32⟩
  | 38 => ⟨S8x2048x32, .f32⟩
  | 39 => ⟨S8x2048x2048, .f32⟩
  | 40 => ⟨S8x2048x256, .f32⟩
  | 41 => ⟨S_, .f32⟩
  | 42 => ⟨S8x2048, .f32⟩
  | 43 => ⟨S8x2048x1, .f32⟩
  | 44 => ⟨S_, .f32⟩
  | 45 => ⟨S8x2048x1, .f32⟩
  | 46 => ⟨S8x2048x1, .f32⟩
  | 47 => ⟨S_, .f32⟩
  | 48 => ⟨S8x2048x1, .f32⟩
  | 49 => ⟨S8x2048x1, .f32⟩
  | 50 => ⟨S8x2048x1, .f32⟩
  | 51 => ⟨S8x2048x256, .f32⟩
  | 52 => ⟨S8x2048x256, .f32⟩
  | 53 => ⟨S1x1x256, .f32⟩
  | 54 => ⟨S8x2048x256, .f32⟩
  | 55 => ⟨S8x2048x256, .f32⟩
  | 56 => ⟨S8x2048x1024, .f32⟩
  | 57 => ⟨S8x2048x16x64, .f32⟩
  | 58 => ⟨S1x2048x1x8, .f32⟩
  | 59 => ⟨S1x2048x1x8, .f32⟩
  | 60 => ⟨S8x2048x16x8, .f32⟩
  | 61 => ⟨S8x2048x16x8, .f32⟩
  | 62 => ⟨S8x2048x16x8, .f32⟩
  | 63 => ⟨S8x2048x16x8, .f32⟩
  | 64 => ⟨S8x2048x16x8, .f32⟩
  | 65 => ⟨S8x2048x16x8, .f32⟩
  | 66 => ⟨S8x2048x16x8, .f32⟩
  | 67 => ⟨S8x2048x16x8, .f32⟩
  | 68 => ⟨S8x2048x16x8, .f32⟩
  | 69 => ⟨S8x2048x16x8, .f32⟩
  | 70 => ⟨S8x2048x16x8, .f32⟩
  | 71 => ⟨S8x2048x16x8, .f32⟩
  | 72 => ⟨S8x2048x16x48, .f32⟩
  | 73 => ⟨S8x2048x16x64, .f32⟩
  | 74 => ⟨S_, .f32⟩
  | 75 => ⟨S8x2048x16x64, .f32⟩
  | 76 => ⟨S8x2048x16x64, .f32⟩
  | 77 => ⟨S8x2048x512, .f32⟩
  | 78 => ⟨S8x2048x8x64, .f32⟩
  | 79 => ⟨S1x2048x1x8, .f32⟩
  | 80 => ⟨S1x2048x1x8, .f32⟩
  | 81 => ⟨S8x2048x8x8, .f32⟩
  | 82 => ⟨S8x2048x8x8, .f32⟩
  | 83 => ⟨S8x2048x8x8, .f32⟩
  | 84 => ⟨S8x2048x8x8, .f32⟩
  | 85 => ⟨S8x2048x8x8, .f32⟩
  | 86 => ⟨S8x2048x8x8, .f32⟩
  | 87 => ⟨S8x2048x8x8, .f32⟩
  | 88 => ⟨S8x2048x8x8, .f32⟩
  | 89 => ⟨S8x2048x8x8, .f32⟩
  | 90 => ⟨S8x2048x8x8, .f32⟩
  | 91 => ⟨S8x2048x8x8, .f32⟩
  | 92 => ⟨S8x2048x8x8, .f32⟩
  | 93 => ⟨S8x2048x8x48, .f32⟩
  | 94 => ⟨S8x2048x8x64, .f32⟩
  | 95 => ⟨S_, .f32⟩
  | 96 => ⟨S8x2048x8x64, .f32⟩
  | 97 => ⟨S8x2048x8x64, .f32⟩
  | 98 => ⟨S8x2048x4x64, .f32⟩
  | 99 => ⟨S1x2048x1x8, .f32⟩
  | 100 => ⟨S1x2048x1x8, .f32⟩
  | 101 => ⟨S8x2048x4x8, .f32⟩
  | 102 => ⟨S8x2048x4x8, .f32⟩
  | 103 => ⟨S8x2048x4x8, .f32⟩
  | 104 => ⟨S8x2048x4x8, .f32⟩
  | 105 => ⟨S8x2048x4x8, .f32⟩
  | 106 => ⟨S8x2048x4x8, .f32⟩
  | 107 => ⟨S8x2048x4x8, .f32⟩
  | 108 => ⟨S8x2048x4x8, .f32⟩
  | 109 => ⟨S8x2048x4x8, .f32⟩
  | 110 => ⟨S8x2048x4x8, .f32⟩
  | 111 => ⟨S8x2048x4x8, .f32⟩
  | 112 => ⟨S8x2048x4x8, .f32⟩
  | 113 => ⟨S8x2048x4x48, .f32⟩
  | 114 => ⟨S8x2048x4x64, .f32⟩
  | 115 => ⟨S8x2048x4x64, .f32⟩
  | 116 => ⟨S_, .f32⟩
  | 117 => ⟨S8x2048, .f32⟩
  | 118 => ⟨S8x2048x1, .f32⟩
  | 119 => ⟨S_, .f32⟩
  | 120 => ⟨S8x2048x1, .f32⟩
  | 121 => ⟨S8x2048x1, .f32⟩
  | 122 => ⟨S8x2048x64, .f32⟩
  | 123 => ⟨S8x2048x64, .f32⟩
  | 124 => ⟨S8x2048x64, .f32⟩
  | 125 => ⟨S_, .f32⟩
  | 126 => ⟨S8x2048, .f32⟩
  | 127 => ⟨S8x2048x1, .f32⟩
  | _ => ⟨S8x2048x1024, .f32⟩

abbrev hbmTy0_1 (i : Nat) : BufTy := match i % 128 with
  | 0 => ⟨S_, .f32⟩
  | 1 => ⟨S8x2048x1, .f32⟩
  | 2 => ⟨S8x2048x1, .f32⟩
  | 3 => ⟨S8x2048x64, .f32⟩
  | 4 => ⟨S8x2048x64, .f32⟩
  | 5 => ⟨S_, .f32⟩
  | 6 => ⟨S8x2048x1, .f32⟩
  | 7 => ⟨S8x2048x1, .f32⟩
  | 8 => ⟨S8x2048x1, .f32⟩
  | 9 => ⟨S8x2048x64, .f32⟩
  | 10 => ⟨S8x2048x64, .f32⟩
  | 11 => ⟨S1x1x64, .f32⟩
  | 12 => ⟨S8x2048x64, .f32⟩
  | 13 => ⟨S8x2048x64, .f32⟩
  | 14 => ⟨S1x1x64, .f32⟩
  | 15 => ⟨S8x2048x64, .f32⟩
  | 16 => ⟨S8x2048x64, .f32⟩
  | 17 => ⟨S8x2048x1x64, .f32⟩
  | 18 => ⟨S1x2048x1x8, .f32⟩
  | 19 => ⟨S1x2048x1x8, .f32⟩
  | 20 => ⟨S8x2048x1x8, .f32⟩
  | 21 => ⟨S8x2048x1x8, .f32⟩
  | 22 => ⟨S8x2048x1x8, .f32⟩
  | 23 => ⟨S8x2048x1x8, .f32⟩
  | 24 => ⟨S8x2048x1x8, .f32⟩
  | 25 => ⟨S8x2048x1x8, .f32⟩
  | 26 => ⟨S8x2048x1x8, .f32⟩
  | 27 => ⟨S8x2048x1x8, .f32⟩
  | 28 => ⟨S8x2048x1x8, .f32⟩
  | 29 => ⟨S8x2048x1x8, .f32⟩
  | 30 => ⟨S8x2048x1x8, .f32⟩
  | 31 => ⟨S8x2048x1x8, .f32⟩
  | 32 => ⟨S8x2048x1x48, .f32⟩
  | 33 => ⟨S8x2048x1x64, .f32⟩
  | 34 => ⟨S8x2048x64, .f32⟩
  | 35 => ⟨S_, .f32⟩
  | 36 => ⟨S8x2048x8, .f32⟩
  | 37 => ⟨S8x2048x8, .f32⟩
  | 38 => ⟨S1x1x32, .f32⟩
  | 39 => ⟨S8x2048x32, .f32⟩
  | 40 => ⟨S8x2048x32, .f32⟩
  | 41 => ⟨S_, .f32⟩
  | 42 => ⟨S8x2048x32, .f32⟩
  | 43 => ⟨S8x2048x32, .f32⟩
  | 44 => ⟨S8x2048x32, .f32⟩
  | 45 => ⟨S8x2048x32, .f32⟩
  | 46 => ⟨S8x2048x32, .i1⟩
  | 47 => ⟨S8x2048x32, .f32⟩
  | 48 => ⟨S8x2048x32, .f32⟩
  | 49 => ⟨S8x2048x32, .f32⟩
  | 50 => ⟨S8x2048x32, .f32⟩
  | 51 => ⟨S8x2048x32, .f32⟩
  | 52 => ⟨S8x2048x32, .f32⟩
  | 53 => ⟨S8x2048x32, .f32⟩
  | 54 => ⟨S8x2048x32, .f32⟩
  | 55 => ⟨S_, .f32⟩
  | 56 => ⟨S8x4x2048x1, .f32⟩
  | 57 => ⟨S8x4x2048x64, .f32⟩
  | 58 => ⟨S_, .f32⟩
  | 59 => ⟨S8x4x2048x63, .f32⟩
  | 60 => ⟨S8x4x2048x128, .f32⟩
  | 61 => ⟨S8x4x2048x64, .f32⟩
  | 62 => ⟨S_, .f32⟩
  | 63 => ⟨S8x4x2048x15, .f32⟩
  | 64 => ⟨S8x4x2048x80, .f32⟩
  | 65 => ⟨S8x4x8x256x80, .f32⟩
  | 66 => ⟨S8x4x8x80x256, .f32⟩
  | 67 => ⟨S_, .f32⟩
  | 68 => ⟨S8x2048x96, .f32⟩
  | 69 => ⟨S8x2048x128, .f32⟩
  | 70 => ⟨S_, .f32⟩
  | 71 => ⟨S8x2048x56, .f32⟩
  | 72 => ⟨S8x2048x128, .f32⟩
  | 73 => ⟨S8x2048x1024, .f32⟩
  | 74 => ⟨S8x1024x2048, .f32⟩
  | 75 => ⟨S8x1024x2048, .bf16⟩
  | 76 => ⟨S8x2048x512, .f32⟩
  | 77 => ⟨S8x512x2048, .f32⟩
  | 78 => ⟨S8x512x2048, .bf16⟩
  | 79 => ⟨S8x4x2048x128, .bf16⟩
  | 80 => ⟨S8x4x8x80x256, .bf16⟩
  | 81 => ⟨S8x2048x64, .bf16⟩
  | 82 => ⟨S8x16x8x16x128, .f32⟩
  | 83 => ⟨S8x16x16x8x128, .f32⟩
  | 84 => ⟨S8x2048x128, .f32⟩
  | 85 => ⟨S8x128x2048, .f32⟩
  | 86 => ⟨S8x16x8x16x2048, .f32⟩
  | 87 => ⟨S8x16x16x8x2048, .f32⟩
  | 88 => ⟨S8x2048x2048, .f32⟩
  | 89 => ⟨S8x2048x2048, .bf16⟩
  | 90 => ⟨S8x16x8x16x3072, .f32⟩
  | 91 => ⟨S8x16x16x8x3072, .f32⟩
  | 92 => ⟨S8x2048x3072, .f32⟩
  | 93 => ⟨S8x2048x2048, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_7 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_cst_8 : Ref sig .tc := ⟨.hbm, 116, rfl⟩
abbrev main_v99 : Ref sig .tc := ⟨.hbm, 117, rfl⟩
abbrev main_v100 : Ref sig .tc := ⟨.hbm, 118, rfl⟩
abbrev main_cst_9 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_10 : Ref sig .tc := ⟨.hbm, 125, rfl⟩
abbrev main_v106 : Ref sig .tc := ⟨.hbm, 126, rfl⟩
abbrev main_v107 : Ref sig .tc := ⟨.hbm, 127, rfl⟩
abbrev main_cst_11 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_cst_12 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_cst_13 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_call0_cst : Ref sig .tc := ⟨.hbm, 169, rfl⟩
abbrev main_call0_v0 : Ref sig .tc := ⟨.hbm, 170, rfl⟩
abbrev main_call0_v1 : Ref sig .tc := ⟨.hbm, 171, rfl⟩
abbrev main_call0_v2 : Ref sig .tc := ⟨.hbm, 172, rfl⟩
abbrev main_call0_v3 : Ref sig .tc := ⟨.hbm, 173, rfl⟩
abbrev main_call0_v4 : Ref sig .tc := ⟨.hbm, 174, rfl⟩
abbrev main_call0_v5 : Ref sig .tc := ⟨.hbm, 175, rfl⟩
abbrev main_call0_v6 : Ref sig .tc := ⟨.hbm, 176, rfl⟩
abbrev main_call0_v7 : Ref sig .tc := ⟨.hbm, 177, rfl⟩
abbrev main_call0_v8 : Ref sig .tc := ⟨.hbm, 178, rfl⟩
abbrev main_call0_v9 : Ref sig .tc := ⟨.hbm, 179, rfl⟩
abbrev main_call0_v10 : Ref sig .tc := ⟨.hbm, 180, rfl⟩
abbrev main_call0_v11 : Ref sig .tc := ⟨.hbm, 181, rfl⟩
abbrev main_v146 : Ref sig .tc := ⟨.hbm, 182, rfl⟩
abbrev main_cst_14 : Ref sig .tc := ⟨.hbm, 183, rfl⟩
abbrev main_v147 : Ref sig .tc := ⟨.hbm, 184, rfl⟩
abbrev main_v148 : Ref sig .tc := ⟨.hbm, 185, rfl⟩
abbrev main_cst_15 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_16 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_17 : Ref sig .tc := ⟨.hbm, 195, rfl⟩
abbrev main_v156 : Ref sig .tc := ⟨.hbm, 196, rfl⟩
abbrev main_v157 : Ref sig .tc := ⟨.hbm, 197, rfl⟩
abbrev main_cst_18 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩

abbrev nD : Nat := 1
abbrev τ : Topo := Topo.v7x

variable {F : FTy → Type} [FloatOps F]
-- ==== Ssd.lean ====
abbrev S8x2048x3072 : Shape := ⟨3, ![8, 2048, 3072]⟩
abbrev S8x2048x2048 : Shape := ⟨3, ![8, 2048, 2048]⟩
abbrev S8x2048x128 : Shape := ⟨3, ![8, 2048, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S128 : Shape := ⟨1, ![128]⟩
abbrev S128x1 : Shape := ⟨2, ![128, 1]⟩
abbrev S_ : Shape := ⟨0, ![]⟩
abbrev S1x2048 : Shape := ⟨2, ![1, 2048]⟩
abbrev S128x2048 : Shape := ⟨2, ![128, 2048]⟩
abbrev S256x2048 : Shape := ⟨2, ![256, 2048]⟩
abbrev S1x3072 : Shape := ⟨2, ![1, 3072]⟩
abbrev S1x128 : Shape := ⟨2, ![1, 128]⟩
abbrev S1 : Shape := ⟨1, ![1]⟩
abbrev S2 : Shape := ⟨1, ![2]⟩
abbrev S32x64 : Shape := ⟨2, ![32, 64]⟩
abbrev S1x128x3072 : Shape := ⟨3, ![1, 128, 3072]⟩
abbrev S1x128x2048 : Shape := ⟨3, ![1, 128, 2048]⟩
abbrev S1x128x128 : Shape := ⟨3, ![1, 128, 128]⟩
abbrev S24x3072 : Shape := ⟨2, ![24, 3072]⟩
abbrev S16x128x128 : Shape := ⟨3, ![16, 128, 128]⟩
abbrev S128x3072 : Shape := ⟨2, ![128, 3072]⟩
abbrev S8x3072 : Shape := ⟨2, ![8, 3072]⟩
abbrev S120x3072 : Shape := ⟨2, ![120, 3072]⟩
abbrev S112x3072 : Shape := ⟨2, ![112, 3072]⟩
abbrev S104x3072 : Shape := ⟨2, ![104, 3072]⟩
abbrev S128x128 : Shape := ⟨2, ![128, 128]⟩
abbrev S128x384 : Shape := ⟨2, ![128, 384]⟩
abbrev S384x128 : Shape := ⟨2, ![384, 128]⟩
abbrev S128x256 : Shape := ⟨2, ![128, 256]⟩
abbrev S128x512 : Shape := ⟨2, ![128, 512]⟩
abbrev S1x512 : Shape := ⟨2, ![1, 512]⟩
abbrev S256x128 : Shape := ⟨2, ![256, 128]⟩
abbrev S1x8x128 : Shape := ⟨3, ![1, 8, 128]⟩
abbrev S8x128 : Shape := ⟨2, ![8, 128]⟩
abbrev S8x2048 : Shape := ⟨2, ![8, 2048]⟩

abbrev nBuf : Space → Nat
  | .hbm => 52
  | .vmem => 17
  | .smem => 0
  | _ => 0

abbrev bufTy : (tb : Table) → Fin (tcTables nBuf tb) → BufTy
  | .hbm, ⟨0, _⟩ => ⟨S8x2048x3072, .f32⟩
  | .hbm, ⟨1, _⟩ => ⟨S8x2048x2048, .bf16⟩
  | .hbm, ⟨2, _⟩ => ⟨S8x2048x128, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S2048, .f32⟩
  | .hbm, ⟨8, _⟩ => ⟨S128, .i32⟩
  | .hbm, ⟨9, _⟩ => ⟨S128x1, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S2048, .i32⟩
  | .hbm, ⟨14, _⟩ => ⟨S1x2048, .i32⟩
  | .hbm, ⟨15, _⟩ => ⟨S_, .i32⟩
  | .hbm, ⟨16, _⟩ => ⟨S_, .i32⟩
  | .hbm, ⟨17, _⟩ => ⟨S1x2048, .i32⟩
  | .hbm, ⟨18, _⟩ => ⟨S1x2048, .i32⟩
  | .hbm, ⟨19, _⟩ => ⟨S1x2048, .i32⟩
  | .hbm, ⟨20, _⟩ => ⟨S_, .i32⟩
  | .hbm, ⟨21, _⟩ => ⟨S1x2048, .i32⟩
  | .hbm, ⟨22, _⟩ => ⟨S1x2048, .i1⟩
  | .hbm, ⟨23, _⟩ => ⟨S1x2048, .i32⟩
  | .hbm, ⟨24, _⟩ => ⟨S1x2048, .i32⟩
  | .hbm, ⟨25, _⟩ => ⟨S_, .i32⟩
  | .hbm, ⟨26, _⟩ => ⟨S1x2048, .i32⟩
  | .hbm, ⟨27, _⟩ => ⟨S1x2048, .i1⟩
  | .hbm, ⟨28, _⟩ => ⟨S1x2048, .i1⟩
  | .hbm, ⟨29, _⟩ => ⟨S_, .i32⟩
  | .hbm, ⟨30, _⟩ => ⟨S1x2048, .i32⟩
  | .hbm, ⟨31, _⟩ => ⟨S1x2048, .i32⟩
  | .hbm, ⟨32, _⟩ => ⟨S1x2048, .i32⟩
  | .hbm, ⟨33, _⟩ => ⟨S128x2048, .i32⟩
  | .hbm, ⟨34, _⟩ => ⟨S128x2048, .i32⟩
  | .hbm, ⟨35, _⟩ => ⟨S128x2048, .i1⟩
  | .hbm, ⟨36, _⟩ => ⟨S128x2048, .bf16⟩
  | .hbm, ⟨37, _⟩ => ⟨S256x2048, .bf16⟩
  | .hbm, ⟨38, _⟩ => ⟨S1x3072, .f32⟩
  | .hbm, ⟨39, _⟩ => ⟨S_, .f32⟩
  | .hbm, ⟨40, _⟩ => ⟨S1x128, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S1x128, .f32⟩
  | .hbm, ⟨47, _⟩ => ⟨S32x64, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S8x2048x2048, .bf16⟩
  | .local _ .vmem, ⟨0, _⟩ => ⟨S1x128x3072, .f32⟩
  | .local _ .vmem, ⟨1, _⟩ => ⟨S1x128x3072, .f32⟩
  | .local _ .vmem, ⟨2, _⟩ => ⟨S1x128x2048, .bf16⟩
  | .local _ .vmem, ⟨3, _⟩ => ⟨S1x128x2048, .bf16⟩
  | .local _ .vmem, ⟨4, _⟩ => ⟨S1x128x128, .f32⟩
  | .local _ .vmem, ⟨5, _⟩ => ⟨S1x128x128, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | .local _ .vmem, ⟨12, _⟩ => ⟨S1x128x2048, .bf16⟩
  | .local _ .vmem, ⟨13, _⟩ => ⟨S1x128x2048, .bf16⟩
  | .local _ .vmem, ⟨14, _⟩ => ⟨S24x3072, .f32⟩
  | .local _ .vmem, ⟨15, _⟩ => ⟨S128x2048, .f32⟩
  | .local _ .vmem, ⟨16, _⟩ => ⟨S16x128x128, .f32⟩
  | _, _ => ⟨S8x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_c_1 : Ref sig .tc := ⟨.hbm, 41, rfl⟩
abbrev main_v14 : Ref sig .tc := ⟨.hbm, 42, rfl⟩
abbrev main_c_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Proof.PackValue.lean ====
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.PackValue
open Cert.KernelIdeal Cert.KernelIdeal.Gen

variable {F : FTy → Type} [FloatOps F]
variable (m : (ℓ : Loc nD τ sig) → Buf (Elt F) ℓ)

/-- The column of `w_in` that lands in column `j` of the packed weights. -/
def src (j : ℕ) : ℕ :=
  if j < 896 then j else if j < 1024 then j + 5064 else if j < 6144 then j - 184 else j - 152

/-- The group of eight rows of the transposed weights at which the packed 128-column tile `T` begins. -/
def group (T : ℕ) : ℕ :=
  if T < 7 then 16 * T else if T = 7 then 745 else if T < 48 then 16 * T - 23 else 16 * T - 19

/-- The blocks the four element-indexed windows and the result window sit on at every grid point. -/
theorem idx : ∀ t : Fin cfg0.N, win0_0.index t = ![group (4 * t.val), 0, 0]
    ∧ win0_1.index t = ![group (4 * t.val + 1), 0, 0] ∧ win0_2.index t = ![group (4 * t.val + 2), 0, 0]
    ∧ win0_3.index t = ![group (4 * t.val + 3), 0, 0] ∧ win0_4.index t = ![0, t.val] :=
  (by decide +kernel : ∀ t : Fin grid0.N, _)

/-- One tile: rows regrouped eight by eight, transposed, and rounded to bf16. -/
theorem pay_at (x : Vec F S16x8x1024 .f32) (i : S1024x128.Idx) (j : S16x8x1024.Idx)
    (h0 : (j 0 : ℕ) = i 1 / 8) (h1 : (j 1 : ℕ) = i 1 % 8) (h2 : (j 2 : ℕ) = i 0) :
    k0_pay1 x i = FloatOps.truncf .bf16 bitsLt_bf16_f32 (x j) := by
  pointwise [k0_pay1]
  refine congrArg _ (congrArg x (funext fun a => Fin.ext ?_))
  fin_cases a
  · exact h0.symm
  · exact h1.symm
  · exact h2.symm

/-- The transposed weights in groups of eight rows, at one element: an element of `w_in`. -/
theorem host_at (c : Dev nD) (i : S1005x8x1024.Idx) (k : S1024x8040.Idx)
    (h0 : (k 0 : ℕ) = i 2) (h1 : (k 1 : ℕ) = (i 0 : ℕ) * 8 + i 1) :
    V m c main_v1 i = m ((c : Thread nD τ).loc main_arg0) k := by
  entry_read
  pointwise
  blk_ext

/-- Window 0's block at one element. -/
theorem blk0 (c : Dev nD) (t : Fin cfg0.N) (j : S16x8x1024.Idx) (k : S1024x8040.Idx)
    (h0 : (k 0 : ℕ) = j 2) (h1 : (k 1 : ℕ) = (group (4 * t.val) + j 0) * 8 + j 1) :
    iblk m c 0 t j = m ((c : Thread nD τ).loc main_arg0) k := by
  have e := fun a => Pipeline.Window.rect_emb_val_off win0_0 t j a
  simp only [(idx t).1] at e
  exact host_at m c _ k (h0.trans ((e 2).trans (Nat.zero_add _)).symm) (h1.trans (congrArg₂ (fun a b => a * 8 + b) (e 0).symm ((e 1).trans (Nat.zero_add _)).symm))

/-- Window 1's block at one element. -/
theorem blk1 (c : Dev nD) (t : Fin cfg0.N) (j : S16x8x1024.Idx) (k : S1024x8040.Idx)
    (h0 : (k 0 : ℕ) = j 2) (h1 : (k 1 : ℕ) = (group (4 * t.val + 1) + j 0) * 8 + j 1) :
    iblk m c 1 t j = m ((c : Thread nD τ).loc main_arg0) k := by
  have e := fun a => Pipeline.Window.rect_emb_val_off win0_1 t j a
  simp only [(idx t).2.1] at e
  exact host_at m c _ k (h0.trans ((e 2).trans (Nat.zero_add _)).symm) (h1.trans (congrArg₂ (fun a b => a * 8 + b) (e 0).symm ((e 1).trans (Nat.zero_add _)).symm))

/-- Window 2's block at one element. -/
theorem blk2 (c : Dev nD) (t : Fin cfg0.N) (j : S16x8x1024.Idx) (k : S1024x8040.Idx)
    (h0 : (k 0 : ℕ) = j 2) (h1 : (k 1 : ℕ) = (group (4 * t.val + 2) + j 0) * 8 + j 1) :
    iblk m c 2 t j = m ((c : Thread nD τ).loc main_arg0) k := by
  have e := fun a => Pipeline.Window.rect_emb_val_off win0_2 t j a
  simp only [(idx t).2.2.1] at e
  exact host_at m c _ k (h0.trans ((e 2).trans (Nat.zero_add _)).symm) (h1.trans (congrArg₂ (fun a b => a * 8 + b) (e 0).symm ((e 1).trans (Nat.zero_add _)).symm))

/-- Window 3's block at one element. -/
theorem blk3 (c : Dev nD) (t : Fin cfg0.N) (j : S16x8x1024.Idx) (k : S1024x8040.Idx)
    (h0 : (k 0 : ℕ) = j 2) (h1 : (k 1 : ℕ) = (group (4 * t.val + 3) + j 0) * 8 + j 1) :
    iblk m c 3 t j = m ((c : Thread nD τ).loc main_arg0) k := by
  have e := fun a => Pipeline.Window.rect_emb_val_off win0_3 t j a
  simp only [(idx t).2.2.2.1] at e
  exact host_at m c _ k (h0.trans ((e 2).trans (Nat.zero_add _)).symm) (h1.trans (congrArg₂ (fun a b => a * 8 + b) (e 0).symm ((e 1).trans (Nat.zero_add _)).symm))

/-- A packed column's source lies in its tile's source rows. -/
theorem src_eq (T l : ℕ) (hT : T < 64) (hl : l < 128) :
    src (128 * T + l) = (group T + l / 8) * 8 + l % 8 ∧ src (128 * T + l) < 8040 := by
  unfold src group
  split_ifs <;> omega

/-- The four ranges of `src`. -/
theorem src_cases (p : ℕ) : (p < 896 ∧ src p = p) ∨ (896 ≤ p ∧ p < 1024 ∧ src p = p + 5064)
    ∨ (1024 ≤ p ∧ p < 6144 ∧ src p = p - 184) ∨ (6144 ≤ p ∧ src p = p - 152) := by
  unfold src
  split_ifs <;> omega

/-- What point `t` leaves at `y` of its result block: the rounded element of `w_in` that belongs there. -/
theorem point (c : Dev nD) (t : Fin cfg0.N) (y : S1024x512.Idx) (k : S1024x8040.Idx)
    (h0' : (k 0 : ℕ) = y 0) (h1' : (k 1 : ℕ) = src (512 * t.val + y 1)) :
    out0_4 (iblk m c 0 t) (iblk m c 1 t) (iblk m c 2 t) (iblk m c 3 t) y
      = FloatOps.truncf .bf16 bitsLt_bf16_f32 (m ((c : Thread nD τ).loc main_arg0) k) := by
  have ht : t.val < 16 := lt_of_lt_of_eq t.isLt N_0
  frame_out
  canon_tiles x h
  · have hs := src_eq (4 * t.val + 3) (x 1) (by omega) x1_lt
    refine (pay_at _ x (ix3 ⟨x 1 / 8, by omega⟩ ⟨x 1 % 8, by omega⟩ (x 0)) rfl rfl rfl).trans
      (congrArg _ (blk3 m c t _ k (h0'.trans h0) (h1'.trans (Eq.trans (congrArg src ?_) hs.1))))
    omega
  · have hs := src_eq (4 * t.val + 2) (x 1) (by omega) x1_lt
    refine (pay_at _ x (ix3 ⟨x 1 / 8, by omega⟩ ⟨x 1 % 8, by omega⟩ (x 0)) rfl rfl rfl).trans
      (congrArg _ (blk2 m c t _ k (h0'.trans h0) (h1'.trans (Eq.trans (congrArg src ?_) hs.1))))
    omega
  · have hs := src_eq (4 * t.val + 1) (x 1) (by omega) x1_lt
    refine (pay_at _ x (ix3 ⟨x 1 / 8, by omega⟩ ⟨x 1 % 8, by omega⟩ (x 0)) rfl rfl rfl).trans
      (congrArg _ (blk1 m c t _ k (h0'.trans h0) (h1'.trans (Eq.trans (congrArg src ?_) hs.1))))
    omega
  · have hs := src_eq (4 * t.val) (x 1) (by omega) x1_lt
    refine (pay_at _ x (ix3 ⟨x 1 / 8, by omega⟩ ⟨x 1 % 8, by omega⟩ (x 0)) rfl rfl rfl).trans
      (congrArg _ (blk0 m c t _ k (h0'.trans h0) (h1'.trans (Eq.trans (congrArg src ?_) hs.1))))
    omega

/-- The reference at one element: the rounded element of `w_in` in the column `src` names. -/
theorem ref_at (x : (⟨S1024x8040, .f32⟩ : BufTy).Contents (Elt F)) (j : S1024x8192.Idx) (k : S1024x8040.Idx)
    (h0 : (k 0 : ℕ) = j 0) (h1 : (k 1 : ℕ) = src (j 1)) :
    Cert.ReferenceIdeal.Read.val_main_v14 (F := F) x j = FloatOps.truncf .bf16 bitsLt_bf16_f32 (x k) := by
  pointwise [Cert.ReferenceIdeal.Read.val_main_v14, Cert.ReferenceIdeal.Read.val_main_v13, Cert.ReferenceIdeal.Read.val_main_v12, Cert.ReferenceIdeal.Read.val_main_v11,
    Cert.ReferenceIdeal.Read.val_main_v10, Cert.ReferenceIdeal.Read.val_main_v9, Cert.ReferenceIdeal.Read.val_main_v8, Cert.ReferenceIdeal.Read.val_main_v7,
    Cert.ReferenceIdeal.Read.val_main_v6, Cert.ReferenceIdeal.Read.val_main_v5, Cert.ReferenceIdeal.Read.val_main_v4, Cert.ReferenceIdeal.Read.val_main_v3,
    Cert.ReferenceIdeal.Read.val_main_v2, Cert.ReferenceIdeal.Read.val_main_v1, Cert.ReferenceIdeal.Read.val_main_v0]
  refine congrArg _ ?_
  have hj : (j 1 : ℕ) < 8192 := (j 1).isLt
  have key : ∀ (n : ℕ) (hn : n < 8040), n = k 1 → x (ix2 (j 0) ⟨n, hn⟩) = x k := by
    intro n hn e
    refine congrArg x (funext fun a => Fin.ext ?_)
    fin_cases a
    · exact h0.symm
    · exact e
  have hk := src_cases (j 1)
  rw [← h1] at hk
  generalize (k 1 : ℕ) = n at hk key
  clear h1 h0
  split
  · split
    · exact key _ _ (by omega)
    split
    · exact key _ _ (by omega)
    split
    · exact key _ _ (by omega)
    split
    · exact key _ _ (by omega)
    split <;> exact key _ _ (by omega)
  split
  · split <;> exact key _ _ (by omega)
  split
  · exact key _ _ (by omega)
  split <;> exact key _ _ (by omega)

/-- After the run the packed weights are the reference's. -/
theorem final (c : Dev nD) : (dats m 0 c).arrAt 4 (cfgs 0).N
    = Cert.ReferenceIdeal.Read.val_main_v14 (F := F) (m ((c : Thread nD τ).loc main_arg0)) := by
  refine (dats m 0 c).arrAt_eq_of_covers 4 _ (by decide +kernel) fun t _ y => ?_
  blk_simp
  rw [after0_4]
  have ht : t.val < 16 := lt_of_lt_of_eq t.isLt N_0
  have hy : ((y 1 : Fin _) : ℕ) < 512 := (y 1).isLt
  have hs := src_cases (512 * t.val + y 1)
  have hb : src (512 * t.val + y 1) < 8040 := by omega
  obtain_idx k : S1024x8040 := [(y 0 : ℕ), src (512 * t.val + y 1)] with hk
  refine (point m c t y k hk0 hk1).trans (ref_at _ _ k ?_ ?_).symm
  · blk_simp [idx t]
    omega
  · rw [hk1]
    refine congrArg src ?_
    blk_simp [idx t]
    omega

/-- The run of the packing call: its result is the reference's, its argument is unchanged. -/
theorem run (ρ : Dev nD → PrngReg) :
    θ_run defs (onTc (τ := τ) (main (F := F))) ⟨m, fun _ => 0, ρ⟩ fun r => ∀ c : Dev nD,
      r.2.mem ((c : Thread nD τ).loc main_v2)
          = Cert.ReferenceIdeal.Read.val_main_v14 (F := F) (m ((c : Thread nD τ).loc main_arg0))
        ∧ r.2.mem ((c : Thread nD τ).loc main_arg0) = m ((c : Thread nD τ).loc main_arg0) :=
  (θ_run defs _ _).mono (fun _ h c => ⟨(h c).1.trans (final m c), (h c).2⟩)
    (Cert.KernelIdeal.Value.run_blocks m ρ)

end Cert.KernelIdeal.PackValue

end
-- ==== Proof.PackTwin.lean ====
module

public import proofs.«01_k».proof.Proof.PackValue
public import proofs.«01_k».proof.Proof.Gen.Kernel.Frame

@[expose] public section

set_option maxRecDepth 16384

noncomputable section

open Idealize.ShloMosaic Idealize.ShloMosaic.TcCoe Idealize.SL.Sem

namespace Cert.Kernel.PackTwin
open Cert.Kernel

variable {F : FTy → Type} [FloatOps F]

/-- The two printed packing programs have the same kernel body at their one label. -/
theorem defs₀_eq : Cert.KernelIdeal.defs₀ (F := F) = Cert.Kernel.defs₀ (F := F) := by
  unfold Cert.KernelIdeal.defs₀ Cert.Kernel.defs₀
  refine congrArg Defs.onTc (funext fun l => funext fun a => ?_)
  match l, a with
  | ⟨0, _⟩, (t, s) => rfl
  | ⟨_ + 1, h⟩, _ => exact absurd h (Nat.not_lt.2 (Nat.le_add_left _ _))

/-- So they have the same table of bodies. -/
theorem defs_eq : Cert.KernelIdeal.defs (F := F) = Cert.Kernel.defs (F := F) :=
  congrArg (fun d => Pipeline.defs (Cert.Kernel.pcfgs (F := F)) d) defs₀_eq

/-- The packing call's run, read at the printed program: the two programs are the same text. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v2)
          = Cert.ReferenceIdeal.Read.val_main_v14 (F := F) (m ((c : Thread nD τ).loc main_arg0))
        ∧ r.2.mem ((c : Thread nD τ).loc main_arg0) = m ((c : Thread nD τ).loc main_arg0) := by
  rw [← defs_eq]
  exact Cert.KernelIdeal.PackValue.run m ρ

end Cert.Kernel.PackTwin

end
-- ==== Proof.MixRow.lean ====
module

public import Idealize.ShloMosaic.Lib.Pointwise
public import Idealize.ShloMosaic.PureOps.Ideal

@[expose] public section

set_option maxRecDepth 16384

noncomputable section

open Idealize.ShloMosaic

namespace Cert.MixRow

/-- The factor of the residual path. -/
def alpha : EReal := Ideal.ofBits .f32 0x3F9837F0#32

/-- The mean of a row of 1024 numbers. -/
def mean (v : Fin 1024 → EReal) : EReal := Ideal.div (∑ k, v k) (Ideal.ofBits .f32 0x44800000#32)

/-- Layer normalisation of a row, with gain `g` and offset `b`. -/
def norm (v g b : Fin 1024 → EReal) (k : Fin 1024) : EReal :=
  (v k - mean v) * Ideal.rsqrt (mean (fun l => (v l - mean v) * (v l - mean v)) + Ideal.ofBits .f32 0x3727C5AC#32) * g k + b k

/-- The gated sum of the two projected branches: `σ(za) · (a wa) + σ(zs) · (s ws)`. -/
def merged (za zs a : Fin 1024 → EReal) (s : Fin 2048 → EReal) (wa : Fin 1024 → Fin 1024 → EReal)
    (ws : Fin 2048 → Fin 1024 → EReal) (k : Fin 1024) : EReal :=
  Ideal.logistic (za k) * (∑ l, a l * wa l k) + Ideal.logistic (zs k) * ∑ l, s l * ws l k

/-- The scaled residual plus the projected merge. -/
def resid (x v : Fin 1024 → EReal) (wo : Fin 1024 → Fin 1024 → EReal) (k : Fin 1024) : EReal :=
  alpha * x k + ∑ l, v l * wo l k

/-- One hidden unit of the feed-forward layer: the squared positive part. -/
def unit (h u : Fin 1024 → EReal) : EReal := max (∑ c, h c * u c) 0 * max (∑ c, h c * u c) 0

/-- The scaled residual plus the feed-forward layer over all 4096 hidden units. -/
def resid2 (h : Fin 1024 → EReal) (wu : Fin 1024 → Fin 4096 → EReal) (wd : Fin 4096 → Fin 1024 → EReal)
    (k : Fin 1024) : EReal :=
  alpha * h k + ∑ l, unit h (fun c => wu c l) * wd l k

/-- One row of the layer's output. -/
def row (za zs a : Fin 1024 → EReal) (s : Fin 2048 → EReal) (x : Fin 1024 → EReal) (wa : Fin 1024 → Fin 1024 → EReal)
    (ws : Fin 2048 → Fin 1024 → EReal) (wo : Fin 1024 → Fin 1024 → EReal) (g1 b1 : Fin 1024 → EReal)
    (wu : Fin 1024 → Fin 4096 → EReal) (wd : Fin 4096 → Fin 1024 → EReal) (g2 b2 : Fin 1024 → EReal) : Fin 1024 → EReal :=
  norm (resid2 (norm (resid x (merged za zs a s wa ws) wo) g1 b1) wu wd) g2 b2

/-- The bit pattern of one half. -/
theorem half : Ideal.ofBits .f32 0x3F000000#32 = ((1 / 2 : ℝ) : EReal) := by
  simp [Ideal.ofBits, Ideal.ieee, -EReal.coe_mul]; norm_num

/-- The gate as the kernel computes it, `1/2 + 1/2 · tanh (z/2)`, is the logistic function, at the infinities too. -/
theorem gate (z : EReal) : Ideal.ofBits .f32 0x3F000000#32
      + Ideal.ofBits .f32 0x3F000000#32 * Ideal.tanh (Ideal.ofBits .f32 0x3F000000#32 * z) = Ideal.logistic z := by
  have hp : (0 : ℝ) < 1 / 2 := by norm_num
  rw [half]
  induction z with
  | bot =>
    rw [EReal.coe_mul_bot_of_pos hp, Ideal.tanh_bot, Ideal.logistic_bot, ← EReal.coe_one, ← EReal.coe_neg, ← EReal.coe_mul,
      ← EReal.coe_add, ← EReal.coe_zero]
    norm_num
  | top =>
    rw [EReal.coe_mul_top_of_pos hp, Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e1 : Real.exp (1 / 2 * r) * Real.exp (-(1 / 2 * r)) = 1 := by rw [← Real.exp_add]; simp
    have h1 := Real.exp_pos (1 / 2 * r)
    have h2 := Real.exp_pos (-(1 / 2 * r))
    rw [e]
    generalize Real.exp (1 / 2 * r) = a at *
    generalize Real.exp (-(1 / 2 * r)) = b at *
    have h3 : a + b ≠ 0 := by positivity
    have h4 : 1 + b * b ≠ 0 := by positivity
    field_simp
    linear_combination (2 * b) * e1

/-- Four partial sums over 1024 hidden units each, accumulated from zero, are the sum over all of them. -/
theorem chunks (f : Fin 4096 → EReal) :
    0 + (∑ t : Fin 1024, f ⟨t, by omega⟩) + (∑ t : Fin 1024, f ⟨1024 + t, by omega⟩)
      + (∑ t : Fin 1024, f ⟨2048 + t, by omega⟩) + (∑ t : Fin 1024, f ⟨3072 + t, by omega⟩) = ∑ l, f l := by
  rw [Fin.sum_univ_tiles 4 1024 rfl f, Fin.sum_univ_four, zero_add]
  refine congrArg₂ (· + ·) (congrArg₂ (· + ·) (congrArg₂ (· + ·) ?_ ?_) ?_) ?_ <;>
    exact Finset.sum_congr rfl fun t _ => congrArg f (Fin.ext (by simp))

end Cert.MixRow
-- ==== Proof.MixPay.lean ====
module

public import proofs.«01_k».proof.Proof.Gen.MixIdeal.Skeleton
public import proofs.«01_k».proof.Proof.MixRow
public import Idealize.ShloMosaic.Lib.Pointwise

@[expose] public section

set_option maxRecDepth 16384

noncomputable section

open Idealize.ShloMosaic Idealize.ShloMosaic.TcCoe Idealize.SL.Sem

namespace Cert.MixIdeal.MixPay
open Cert.MixIdeal Cert.MixIdeal.Gen Cert.MixRow

/-- The gated merge of the first half's rows. -/
theorem merged0 (z y a : FVec Ideal S256x1024 .bf16) (wa : FVec Ideal S1024x1024 .bf16) (s : FVec Ideal S256x2048 .bf16)
    (ws : FVec Ideal S2048x1024 .bf16) (r : Fin 256) (k : Fin 1024) :
    k0_pay2 (F := Ideal) z y a wa s ws (ix2 r k)
      = merged (fun l => z (ix2 r l)) (fun l => y (ix2 r l)) (fun l => a (ix2 r l)) (fun l => s (ix2 r l))
          (fun i j => wa (ix2 i j)) (fun i j => ws (ix2 i j)) k := by
  pointwise [k0_pay2]
  simp only [gate, merged, zero_add]

/-- The gated merge of the second half's rows. -/
theorem merged1 (z y a : FVec Ideal S256x1024 .bf16) (wa : FVec Ideal S1024x1024 .bf16) (s : FVec Ideal S256x2048 .bf16)
    (ws : FVec Ideal S2048x1024 .bf16) (r : Fin 256) (k : Fin 1024) :
    k0_pay4 (F := Ideal) (k0_pay3 z) y a wa s ws (ix2 r k)
      = merged (fun l => z (ix2 r l)) (fun l => y (ix2 r l)) (fun l => a (ix2 r l)) (fun l => s (ix2 r l))
          (fun i j => wa (ix2 i j)) (fun i j => ws (ix2 i j)) k := by
  pointwise [k0_pay4, k0_pay3]
  simp only [gate, merged, zero_add]

/-- The first norm of the first half's rows, over the projected merge. -/
theorem norm0 (v : FVec Ideal S256x1024 .f32) (wo : FVec Ideal S1024x1024 .bf16) (x : FVec Ideal S256x1024 .f32)
    (g b : FVec Ideal S1x1024 .f32) (r : Fin 256) (k : Fin 1024) :
    k0_pay8 (F := Ideal) (k0_pay5 v wo) (k0_pay6 x) (k0_pay7 (F := Ideal)) g b (ix2 r k)
      = norm (resid (fun l => x (ix2 r l)) (fun l => v (ix2 r l)) (fun i j => wo (ix2 i j)))
          (fun l => g (ix2 0 l)) (fun l => b (ix2 0 l)) k := by
  pointwise [k0_pay8, k0_pay5, k0_pay6, k0_pay7]
  rfl

/-- The first norm of the second half's rows, over the projected merge. -/
theorem norm1 (v : FVec Ideal S256x1024 .f32) (wo : FVec Ideal S1024x1024 .bf16) (x : FVec Ideal S256x1024 .f32)
    (g b : FVec Ideal S1x1024 .f32) (r : Fin 256) (k : Fin 1024) :
    k0_pay13 (F := Ideal) (k0_pay9 v wo x) (k0_pay10 g) (k0_pay11 b) (k0_pay12 v wo x) (ix2 r k)
      = norm (resid (fun l => x (ix2 r l)) (fun l => v (ix2 r l)) (fun i j => wo (ix2 i j)))
          (fun l => g (ix2 0 l)) (fun l => b (ix2 0 l)) k := by
  pointwise [k0_pay13, k0_pay9, k0_pay10, k0_pay11, k0_pay12]
  rfl

/-- The feed-forward layer of the first half's rows: four chunks of hidden units one after another. -/
theorem ff0 (h : FVec Ideal S256x1024 .f32) (u0 d0 u1 d1 u2 d2 u3 d3 : FVec Ideal S1024x1024 .bf16)
    (wu : Fin 1024 → Fin 4096 → EReal) (wd : Fin 4096 → Fin 1024 → EReal)
    (hu0 : ∀ i j, u0 (ix2 i j) = wu i ⟨j, by omega⟩) (hu1 : ∀ i j, u1 (ix2 i j) = wu i ⟨1024 + j, by omega⟩)
    (hu2 : ∀ i j, u2 (ix2 i j) = wu i ⟨2048 + j, by omega⟩) (hu3 : ∀ i j, u3 (ix2 i j) = wu i ⟨3072 + j, by omega⟩)
    (hd0 : ∀ i j, d0 (ix2 i j) = wd ⟨i, by omega⟩ j) (hd1 : ∀ i j, d1 (ix2 i j) = wd ⟨1024 + i, by omega⟩ j)
    (hd2 : ∀ i j, d2 (ix2 i j) = wd ⟨2048 + i, by omega⟩ j) (hd3 : ∀ i j, d3 (ix2 i j) = wd ⟨3072 + i, by omega⟩ j)
    (r : Fin 256) (k : Fin 1024) :
    k0_pay22 (F := Ideal) h (k0_pay14 h) (k0_pay20 (k0_pay14 h) (k0_pay17 h u0 d0) u1 d1 u2 d2) u3 d3 (ix2 r k)
      = resid2 (fun l => h (ix2 r l)) wu wd k := by
  unfold resid2
  rw [← chunks]
  pointwise [k0_pay22, k0_pay20, k0_pay17, k0_pay14]
  simp only [zero_add, hu0, hu1, hu2, hu3, hd0, hd1, hd2, hd3]
  rfl

/-- The feed-forward sum of the second half's rows. -/
theorem ff1 (v : FVec Ideal S256x1024 .f32) (g b : FVec Ideal S1x1024 .f32) (q : FVec Ideal S256 .f32)
    (u0 d0 u1 d1 u2 d2 u3 d3 : FVec Ideal S1024x1024 .bf16)
    (wu : Fin 1024 → Fin 4096 → EReal) (wd : Fin 4096 → Fin 1024 → EReal)
    (hu0 : ∀ i j, u0 (ix2 i j) = wu i ⟨j, by omega⟩) (hu1 : ∀ i j, u1 (ix2 i j) = wu i ⟨1024 + j, by omega⟩)
    (hu2 : ∀ i j, u2 (ix2 i j) = wu i ⟨2048 + j, by omega⟩) (hu3 : ∀ i j, u3 (ix2 i j) = wu i ⟨3072 + j, by omega⟩)
    (hd0 : ∀ i j, d0 (ix2 i j) = wd ⟨i, by omega⟩ j) (hd1 : ∀ i j, d1 (ix2 i j) = wd ⟨1024 + i, by omega⟩ j)
    (hd2 : ∀ i j, d2 (ix2 i j) = wd ⟨2048 + i, by omega⟩ j) (hd3 : ∀ i j, d3 (ix2 i j) = wd ⟨3072 + i, by omega⟩ j)
    (r : Fin 256) (k : Fin 1024) :
    k0_pay21 (F := Ideal) (k0_pay15 v g b q) (k0_pay19 (k0_pay15 v g b q) (k0_pay16 (F := Ideal)) (k0_pay18 v g b q u0) d0 u1 d1) u2 d2 u3 d3 (ix2 r k)
      = ∑ l, unit (fun c => k0_pay13 v g b q (ix2 r c)) (fun c => wu c l) * wd l k := by
  rw [← chunks]
  pointwise [k0_pay21, k0_pay19, k0_pay18, k0_pay16, k0_pay15]
  simp only [zero_add, hu0, hu1, hu2, hu3, hd0, hd1, hd2, hd3]
  rfl

/-- The second norm of the first half's rows. -/
theorem last0 (v : FVec Ideal S256x1024 .f32) (g b : FVec Ideal S1x1024 .f32) (r : Fin 256) (k : Fin 1024) :
    k0_pay23 (F := Ideal) v g b (ix2 r k)
      = norm (fun l => v (ix2 r l)) (fun l => g (ix2 0 l)) (fun l => b (ix2 0 l)) k := by
  pointwise [k0_pay23]
  rfl

/-- The second norm of the second half's rows. -/
theorem last1 (h f : FVec Ideal S256x1024 .f32) (g b : FVec Ideal S1x1024 .f32) (r : Fin 256) (k : Fin 1024) :
    k0_pay1 (F := Ideal) (k0_pay24 g) (k0_pay25 b) (k0_pay26 h f) (k0_pay27 h f) (k0_pay28 (F := Ideal)) (ix2 r k)
      = norm (fun l => alpha * h (ix2 r l) + f (ix2 r l)) (fun l => g (ix2 0 l)) (fun l => b (ix2 0 l)) k := by
  pointwise [k0_pay1, k0_pay24, k0_pay25, k0_pay26, k0_pay27, k0_pay28]
  rfl

/-- The first half's stored rows are the row function of the loaded blocks. -/
theorem half0 (z y a : FVec Ideal S256x1024 .bf16) (wa : FVec Ideal S1024x1024 .bf16) (s : FVec Ideal S256x2048 .bf16)
    (ws : FVec Ideal S2048x1024 .bf16) (wo : FVec Ideal S1024x1024 .bf16) (x : FVec Ideal S256x1024 .f32) (g1 b1 g2 b2 : FVec Ideal S1x1024 .f32)
    (u0 d0 u1 d1 u2 d2 u3 d3 : FVec Ideal S1024x1024 .bf16)
    (r : Fin 256) (Za Zs A : Fin 1024 → EReal) (S : Fin 2048 → EReal) (X : Fin 1024 → EReal) (Wa : Fin 1024 → Fin 1024 → EReal)
    (Ws : Fin 2048 → Fin 1024 → EReal) (Wo : Fin 1024 → Fin 1024 → EReal) (G1 B1 G2 B2 : Fin 1024 → EReal)
    (wu : Fin 1024 → Fin 4096 → EReal) (wd : Fin 4096 → Fin 1024 → EReal)
    (hu0 : ∀ i j, u0 (ix2 i j) = wu i ⟨j, by omega⟩) (hu1 : ∀ i j, u1 (ix2 i j) = wu i ⟨1024 + j, by omega⟩)
    (hu2 : ∀ i j, u2 (ix2 i j) = wu i ⟨2048 + j, by omega⟩) (hu3 : ∀ i j, u3 (ix2 i j) = wu i ⟨3072 + j, by omega⟩)
    (hd0 : ∀ i j, d0 (ix2 i j) = wd ⟨i, by omega⟩ j) (hd1 : ∀ i j, d1 (ix2 i j) = wd ⟨1024 + i, by omega⟩ j)
    (hd2 : ∀ i j, d2 (ix2 i j) = wd ⟨2048 + i, by omega⟩ j) (hd3 : ∀ i j, d3 (ix2 i j) = wd ⟨3072 + i, by omega⟩ j)
    (hz : ∀ l, z (ix2 r l) = Za l) (hy : ∀ l, y (ix2 r l) = Zs l) (ha : ∀ l, a (ix2 r l) = A l) (hs : ∀ l, s (ix2 r l) = S l)
    (hx : ∀ l, x (ix2 r l) = X l) (hwa : ∀ i j, wa (ix2 i j) = Wa i j) (hws : ∀ i j, ws (ix2 i j) = Ws i j)
    (hwo : ∀ i j, wo (ix2 i j) = Wo i j) (hg1 : ∀ l, g1 (ix2 0 l) = G1 l) (hb1 : ∀ l, b1 (ix2 0 l) = B1 l)
    (hg2 : ∀ l, g2 (ix2 0 l) = G2 l) (hb2 : ∀ l, b2 (ix2 0 l) = B2 l) (k : Fin 1024) :
    k0_pay23 (F := Ideal) (k0_pay22 (k0_pay8 (k0_pay5 (k0_pay2 z y a wa s ws) wo) (k0_pay6 x) (k0_pay7 (F := Ideal)) g1 b1)
        (k0_pay14 (k0_pay8 (k0_pay5 (k0_pay2 z y a wa s ws) wo) (k0_pay6 x) (k0_pay7 (F := Ideal)) g1 b1))
        (k0_pay20 (k0_pay14 (k0_pay8 (k0_pay5 (k0_pay2 z y a wa s ws) wo) (k0_pay6 x) (k0_pay7 (F := Ideal)) g1 b1))
          (k0_pay17 (k0_pay8 (k0_pay5 (k0_pay2 z y a wa s ws) wo) (k0_pay6 x) (k0_pay7 (F := Ideal)) g1 b1) u0 d0) u1 d1 u2 d2) u3 d3) g2 b2 (ix2 r k) = row Za Zs A S X Wa Ws Wo G1 B1 wu wd G2 B2 k := by
  rw [last0]
  simp only [ff0 _ u0 d0 u1 d1 u2 d2 u3 d3 wu wd hu0 hu1 hu2 hu3 hd0 hd1 hd2 hd3, norm0, merged0, hz, hy, ha, hs, hx, hwa, hws, hwo, hg1, hb1, hg2, hb2]
  rfl

/-- The second half's stored rows are the row function of the loaded blocks. -/
theorem half1 (z y a : FVec Ideal S256x1024 .bf16) (wa : FVec Ideal S1024x1024 .bf16) (s : FVec Ideal S256x2048 .bf16)
    (ws : FVec Ideal S2048x1024 .bf16) (wo : FVec Ideal S1024x1024 .bf16) (x : FVec Ideal S256x1024 .f32) (g1 b1 g2 b2 : FVec Ideal S1x1024 .f32)
    (u0 d0 u1 d1 u2 d2 u3 d3 : FVec Ideal S1024x1024 .bf16)
    (r : Fin 256) (Za Zs A : Fin 1024 → EReal) (S : Fin 2048 → EReal) (X : Fin 1024 → EReal) (Wa : Fin 1024 → Fin 1024 → EReal)
    (Ws : Fin 2048 → Fin 1024 → EReal) (Wo : Fin 1024 → Fin 1024 → EReal) (G1 B1 G2 B2 : Fin 1024 → EReal)
    (wu : Fin 1024 → Fin 4096 → EReal) (wd : Fin 4096 → Fin 1024 → EReal)
    (hu0 : ∀ i j, u0 (ix2 i j) = wu i ⟨j, by omega⟩) (hu1 : ∀ i j, u1 (ix2 i j) = wu i ⟨1024 + j, by omega⟩)
    (hu2 : ∀ i j, u2 (ix2 i j) = wu i ⟨2048 + j, by omega⟩) (hu3 : ∀ i j, u3 (ix2 i j) = wu i ⟨3072 + j, by omega⟩)
    (hd0 : ∀ i j, d0 (ix2 i j) = wd ⟨i, by omega⟩ j) (hd1 : ∀ i j, d1 (ix2 i j) = wd ⟨1024 + i, by omega⟩ j)
    (hd2 : ∀ i j, d2 (ix2 i j) = wd ⟨2048 + i, by omega⟩ j) (hd3 : ∀ i j, d3 (ix2 i j) = wd ⟨3072 + i, by omega⟩ j)
    (hz : ∀ l, z (ix2 r l) = Za l) (hy : ∀ l, y (ix2 r l) = Zs l) (ha : ∀ l, a (ix2 r l) = A l) (hs : ∀ l, s (ix2 r l) = S l)
    (hx : ∀ l, x (ix2 r l) = X l) (hwa : ∀ i j, wa (ix2 i j) = Wa i j) (hws : ∀ i j, ws (ix2 i j) = Ws i j)
    (hwo : ∀ i j, wo (ix2 i j) = Wo i j) (hg1 : ∀ l, g1 (ix2 0 l) = G1 l) (hb1 : ∀ l, b1 (ix2 0 l) = B1 l)
    (hg2 : ∀ l, g2 (ix2 0 l) = G2 l) (hb2 : ∀ l, b2 (ix2 0 l) = B2 l) (k : Fin 1024) :
    k0_pay1 (F := Ideal) (k0_pay24 g2) (k0_pay25 b2) (k0_pay26 (k0_pay13 (k0_pay9 (k0_pay4 (k0_pay3 z) y a wa s ws) wo x) (k0_pay10 g1) (k0_pay11 b1) (k0_pay12 (k0_pay4 (k0_pay3 z) y a wa s ws) wo x))
        (k0_pay21 (k0_pay15 (k0_pay9 (k0_pay4 (k0_pay3 z) y a wa s ws) wo x) (k0_pay10 g1) (k0_pay11 b1) (k0_pay12 (k0_pay4 (k0_pay3 z) y a wa s ws) wo x))
          (k0_pay19 (k0_pay15 (k0_pay9 (k0_pay4 (k0_pay3 z) y a wa s ws) wo x) (k0_pay10 g1) (k0_pay11 b1) (k0_pay12 (k0_pay4 (k0_pay3 z) y a wa s ws) wo x)) (k0_pay16 (F := Ideal))
            (k0_pay18 (k0_pay9 (k0_pay4 (k0_pay3 z) y a wa s ws) wo x) (k0_pay10 g1) (k0_pay11 b1) (k0_pay12 (k0_pay4 (k0_pay3 z) y a wa s ws) wo x) u0) d0 u1 d1) u2 d2 u3 d3))
        (k0_pay27 (k0_pay13 (k0_pay9 (k0_pay4 (k0_pay3 z) y a wa s ws) wo x) (k0_pay10 g1) (k0_pay11 b1) (k0_pay12 (k0_pay4 (k0_pay3 z) y a wa s ws) wo x))
        (k0_pay21 (k0_pay15 (k0_pay9 (k0_pay4 (k0_pay3 z) y a wa s ws) wo x) (k0_pay10 g1) (k0_pay11 b1) (k0_pay12 (k0_pay4 (k0_pay3 z) y a wa s ws) wo x))
          (k0_pay19 (k0_pay15 (k0_pay9 (k0_pay4 (k0_pay3 z) y a wa s ws) wo x) (k0_pay10 g1) (k0_pay11 b1) (k0_pay12 (k0_pay4 (k0_pay3 z) y a wa s ws) wo x)) (k0_pay16 (F := Ideal))
            (k0_pay18 (k0_pay9 (k0_pay4 (k0_pay3 z) y a wa s ws) wo x) (k0_pay10 g1) (k0_pay11 b1) (k0_pay12 (k0_pay4 (k0_pay3 z) y a wa s ws) wo x) u0) d0 u1 d1) u2 d2 u3 d3)) (k0_pay28 (F := Ideal)) (ix2 r k) = row Za Zs A S X Wa Ws Wo G1 B1 wu wd G2 B2 k := by
  rw [last1]
  simp only [ff1 _ _ _ _ u0 d0 u1 d1 u2 d2 u3 d3 wu wd hu0 hu1 hu2 hu3 hd0 hd1 hd2 hd3, norm1, merged1, hz, hy, ha, hs, hx, hwa, hws, hwo, hg1, hb1, hg2, hb2]
  rfl

end Cert.MixIdeal.MixPay
-- ==== Proof.MixRefRow.lean ====
module

public import proofs.«01_k».proof.Proof.Gen.MixRefIdeal.Read
public import proofs.«01_k».proof.Proof.MixRow
public import Idealize.ShloMosaic.Lib.Pointwise

@[expose] public section

set_option maxRecDepth 16384

noncomputable section

open Idealize.ShloMosaic Idealize.ShloMosaic.TcCoe Idealize.SL.Sem

namespace Cert.MixRefIdeal.MixRefRow
open Cert.MixRefIdeal Cert.MixRefIdeal.Read Cert.MixRow

variable (x0 : FVec Ideal S8x2048x1024 .bf16) (x1 x2 : FVec Ideal S8x2048x2048 .bf16) (x3 : FVec Ideal S8x2048x1024 .f32)
  (x4 : FVec Ideal S1024x1024 .f32) (x5 : FVec Ideal S2048x1024 .f32) (x6 : FVec Ideal S1024x1024 .f32)
  (x7 x8 : FVec Ideal S1024 .f32) (x9 : FVec Ideal S1024x4096 .f32) (x10 : FVec Ideal S4096x1024 .f32)
  (x11 x12 : FVec Ideal S1024 .f32) (p : Fin 8) (s : Fin 2048)

/-- The gated merge at one token. -/
theorem merged_at (k : Fin 1024) : val_main_v22 (F := Ideal) x0 x1 x2 x4 x5 (ix3 p s k)
    = merged (fun l => x2 (ix3 p s ⟨l, by omega⟩)) (fun l => x2 (ix3 p s ⟨1024 + l, by omega⟩)) (fun l => x0 (ix3 p s l))
        (fun l => x1 (ix3 p s l)) (fun i j => x4 (ix2 i j)) (fun i j => x5 (ix2 i j)) k := by
  pointwise [val_main_v22, val_main_v21, val_main_v20, val_main_v19, val_main_v18, val_main_v17, val_main_v16, val_main_v14, val_main_v13,
    val_main_v15, val_main_cst_2, val_main_cst_1, val_main_v12, val_main_v11, val_main_v10, val_main_v9, val_main_v8, val_main_v7, val_main_v6,
    val_main_v5, val_main_v4, val_main_v3, val_main_v2, val_main_v1, val_main_v0, val_main_cst, val_main_cst_0]
  rfl

/-- The residual over the projected merge at one token. -/
theorem resid_at (k : Fin 1024) : val_main_v26 (F := Ideal) x0 x1 x2 x3 x4 x5 x6 (ix3 p s k)
    = resid (fun l => x3 (ix3 p s l)) (fun l => val_main_v22 (F := Ideal) x0 x1 x2 x4 x5 (ix3 p s l)) (fun i j => x6 (ix2 i j)) k := by
  pointwise [val_main_v26, val_main_v25, val_main_v24, val_main_v23, val_main_cst_3]
  rfl

/-- The first norm at one token. -/
theorem norm_at (k : Fin 1024) : val_main_v50 (F := Ideal) x0 x1 x2 x3 x4 x5 x6 x7 x8 (ix3 p s k)
    = norm (fun l => val_main_v26 (F := Ideal) x0 x1 x2 x3 x4 x5 x6 (ix3 p s l)) (fun l => x7 (ix1 l)) (fun l => x8 (ix1 l)) k := by
  pointwise [val_main_v50, val_main_v49, val_main_v48, val_main_v47, val_main_v46, val_main_v45, val_main_v44, val_main_v43, val_main_v42,
    val_main_v41, val_main_v40, val_main_v39, val_main_v38, val_main_v37, val_main_v36, val_main_v35, val_main_v34, val_main_v33, val_main_v32,
    val_main_v31, val_main_v30, val_main_v29, val_main_v28, val_main_v27, val_main_cst_4, val_main_cst_5, val_main_cst_6, val_main_cst_7,
    val_main_cst_8]
  rfl

/-- The residual over the feed-forward layer at one token. -/
theorem ff_at (k : Fin 1024) : val_main_v57 (F := Ideal) x0 x1 x2 x3 x4 x5 x6 x7 x8 x9 x10 (ix3 p s k)
    = resid2 (fun l => val_main_v50 (F := Ideal) x0 x1 x2 x3 x4 x5 x6 x7 x8 (ix3 p s l)) (fun i j => x9 (ix2 i j))
        (fun i j => x10 (ix2 i j)) k := by
  pointwise [val_main_v57, val_main_v56, val_main_v55, val_main_v54, val_main_v53, val_main_v52, val_main_v51, val_main_cst_9,
    val_main_call0_v0, val_main_call0_cst]
  rfl

/-- The second norm at one token. -/
theorem last_at (k : Fin 1024) : val_main_v81 (F := Ideal) x0 x1 x2 x3 x4 x5 x6 x7 x8 x9 x10 x11 x12 (ix3 p s k)
    = norm (fun l => val_main_v57 (F := Ideal) x0 x1 x2 x3 x4 x5 x6 x7 x8 x9 x10 (ix3 p s l)) (fun l => x11 (ix1 l)) (fun l => x12 (ix1 l)) k := by
  pointwise [val_main_v81, val_main_v80, val_main_v79, val_main_v78, val_main_v77, val_main_v76, val_main_v75, val_main_v74, val_main_v73,
    val_main_v72, val_main_v71, val_main_v70, val_main_v69, val_main_v68, val_main_v67, val_main_v66, val_main_v65, val_main_v64, val_main_v63,
    val_main_v62, val_main_v61, val_main_v60, val_main_v59, val_main_v58, val_main_cst_10, val_main_cst_11, val_main_cst_12, val_main_cst_13,
    val_main_cst_14]
  rfl

/-- The reference's result at one token is the row function of the token's inputs. -/
theorem row_at (k : Fin 1024) : val_main_v81 (F := Ideal) x0 x1 x2 x3 x4 x5 x6 x7 x8 x9 x10 x11 x12 (ix3 p s k)
    = row (fun l => x2 (ix3 p s ⟨l, by omega⟩)) (fun l => x2 (ix3 p s ⟨1024 + l, by omega⟩)) (fun l => x0 (ix3 p s l))
        (fun l => x1 (ix3 p s l)) (fun l => x3 (ix3 p s l)) (fun i j => x4 (ix2 i j)) (fun i j => x5 (ix2 i j))
        (fun i j => x6 (ix2 i j)) (fun l => x7 (ix1 l)) (fun l => x8 (ix1 l)) (fun i j => x9 (ix2 i j))
        (fun i j => x10 (ix2 i j)) (fun l => x11 (ix1 l)) (fun l => x12 (ix1 l)) k := by
  rw [last_at]
  simp only [ff_at, norm_at, resid_at, merged_at]
  rfl

/-- The reference's run, its result stated operation by operation over the arguments, which it keeps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v82) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9)
        ∧ r.2.mem ((c : Thread nD τ).loc main_arg10) = m ((c : Thread nD τ).loc main_arg10)
        ∧ r.2.mem ((c : Thread nD τ).loc main_arg11) = m ((c : Thread nD τ).loc main_arg11)
        ∧ r.2.mem ((c : Thread nD τ).loc main_arg12) = m ((c : Thread nD τ).loc main_arg12) :=
  (θ_run defs _ _).mono (fun r h c => ⟨(h c).1.trans (val_main_v82_eq (StableHlo.launchContents m c)), (h c).2⟩)
    (Cert.MixRefIdeal.Value.run m ρ)

end Cert.MixRefIdeal.MixRefRow
-- ==== Proof.MixValue.lean ====
module

public import proofs.«01_k».proof.Proof.Gen.MixIdeal.Value
public import proofs.«01_k».proof.Proof.Gen.MixRefIdeal.Run
public import proofs.«01_k».proof.Proof.MixPay
public import proofs.«01_k».proof.Proof.MixRefRow
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixIdeal.MixValue
open Cert.MixIdeal Cert.MixIdeal.Gen

variable (m : (ℓ : Loc nD τ sig) → Buf (Elt Ideal) ℓ)

/-- The blocks the windows sit on at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] :=
  (by decide +kernel : ∀ t : Fin grid0.N, _)

/-- The attention output, flattened to one row per token, at one element. -/
theorem host0 (c : Dev nD) (i : S16384x1024.Idx) (k : S8x2048x1024.Idx)
    (h0 : (k 0 : ℕ) * 2048 + k 1 = i 0) (h1 : (k 2 : ℕ) = i 1) :
    V m c main_v0 i = m ((c : Thread nD τ).loc main_arg0) k := by
  entry_read
  pointwise
  blk_ext

/-- Window 0's block at one element. -/
theorem blk0 (c : Dev nD) (t : Fin cfg0.N) (j : S512x1024.Idx) (k : S8x2048x1024.Idx)
    (h0 : (k 0 : ℕ) * 2048 + k 1 = 512 * t.val + j 0) (h1 : (k 2 : ℕ) = j 1) :
    iblk m c 0 t j = m ((c : Thread nD τ).loc main_arg0) k := by
  refine host0 m c _ k ?_ ?_ <;> blk_simp [idx t] <;> omega

/-- The state-space output, flattened to one row per token, at one element. -/
theorem host1 (c : Dev nD) (i : S16384x2048.Idx) (k : S8x2048x2048.Idx)
    (h0 : (k 0 : ℕ) * 2048 + k 1 = i 0) (h1 : (k 2 : ℕ) = i 1) :
    V m c main_v1 i = m ((c : Thread nD τ).loc main_arg1) k := by
  entry_read
  pointwise
  blk_ext

/-- Window 1's block at one element. -/
theorem blk1 (c : Dev nD) (t : Fin cfg0.N) (j : S512x2048.Idx) (k : S8x2048x2048.Idx)
    (h0 : (k 0 : ℕ) * 2048 + k 1 = 512 * t.val + j 0) (h1 : (k 2 : ℕ) = j 1) :
    iblk m c 1 t j = m ((c : Thread nD τ).loc main_arg1) k := by
  refine host1 m c _ k ?_ ?_ <;> blk_simp [idx t] <;> omega

/-- The gates, flattened to one row per token, at one element. -/
theorem host2 (c : Dev nD) (i : S16384x2048.Idx) (k : S8x2048x2048.Idx)
    (h0 : (k 0 : ℕ) * 2048 + k 1 = i 0) (h1 : (k 2 : ℕ) = i 1) :
    V m c main_v2 i = m ((c : Thread nD τ).loc main_arg2) k := by
  entry_read
  pointwise
  blk_ext

/-- Window 2's block at one element. -/
theorem blk2 (c : Dev nD) (t : Fin cfg0.N) (j : S512x2048.Idx) (k : S8x2048x2048.Idx)
    (h0 : (k 0 : ℕ) * 2048 + k 1 = 512 * t.val + j 0) (h1 : (k 2 : ℕ) = j 1) :
    iblk m c 2 t j = m ((c : Thread nD τ).loc main_arg2) k := by
  refine host2 m c _ k ?_ ?_ <;> blk_simp [idx t] <;> omega

/-- The layer input, flattened to one row per token, at one element. -/
theorem host3 (c : Dev nD) (i : S16384x1024.Idx) (k : S8x2048x1024.Idx)
    (h0 : (k 0 : ℕ) * 2048 + k 1 = i 0) (h1 : (k 2 : ℕ) = i 1) :
    V m c main_v3 i = m ((c : Thread nD τ).loc main_arg3) k := by
  entry_read
  pointwise
  blk_ext

/-- Window 3's block at one element. -/
theorem blk3 (c : Dev nD) (t : Fin cfg0.N) (j : S512x1024.Idx) (k : S8x2048x1024.Idx)
    (h0 : (k 0 : ℕ) * 2048 + k 1 = 512 * t.val + j 0) (h1 : (k 2 : ℕ) = j 1) :
    iblk m c 3 t j = m ((c : Thread nD τ).loc main_arg3) k := by
  refine host3 m c _ k ?_ ?_ <;> blk_simp [idx t] <;> omega

/-- Window 4's block is its whole array: the rounded argument, read at one element. -/
theorem blk4 (c : Dev nD) (t : Fin cfg0.N) (j : S1024x1024.Idx) :
    iblk m c 4 t j = m ((c : Thread nD τ).loc main_arg4) j := by
  have e : V m c main_v4 = (m ((c : Thread nD τ).loc main_arg4) : S1024x1024.Idx → EReal) := by
    entry_read
    rfl
  refine (congrFun e _).trans ?_
  blk_ext [idx t]

/-- Window 5's block is its whole array: the rounded argument, read at one element. -/
theorem blk5 (c : Dev nD) (t : Fin cfg0.N) (j : S2048x1024.Idx) :
    iblk m c 5 t j = m ((c : Thread nD τ).loc main_arg5) j := by
  have e : V m c main_v5 = (m ((c : Thread nD τ).loc main_arg5) : S2048x1024.Idx → EReal) := by
    entry_read
    rfl
  refine (congrFun e _).trans ?_
  blk_ext [idx t]

/-- Window 6's block is its whole array: the rounded argument, read at one element. -/
theorem blk6 (c : Dev nD) (t : Fin cfg0.N) (j : S1024x1024.Idx) :
    iblk m c 6 t j = m ((c : Thread nD τ).loc main_arg6) j := by
  have e : V m c main_v6 = (m ((c : Thread nD τ).loc main_arg6) : S1024x1024.Idx → EReal) := by
    entry_read
    rfl
  refine (congrFun e _).trans ?_
  blk_ext [idx t]

/-- Window 9's block is its whole array: the rounded argument, read at one element. -/
theorem blk9 (c : Dev nD) (t : Fin cfg0.N) (j : S1024x4096.Idx) :
    iblk m c 9 t j = m ((c : Thread nD τ).loc main_arg9) j := by
  have e : V m c main_v9 = (m ((c : Thread nD τ).loc main_arg9) : S1024x4096.Idx → EReal) := by
    entry_read
    rfl
  refine (congrFun e _).trans ?_
  blk_ext [idx t]

/-- Window 10's block is its whole array: the rounded argument, read at one element. -/
theorem blk10 (c : Dev nD) (t : Fin cfg0.N) (j : S4096x1024.Idx) :
    iblk m c 10 t j = m ((c : Thread nD τ).loc main_arg10) j := by
  have e : V m c main_v10 = (m ((c : Thread nD τ).loc main_arg10) : S4096x1024.Idx → EReal) := by
    entry_read
    rfl
  refine (congrFun e _).trans ?_
  blk_ext [idx t]

/-- Window 7's block is its whole array: the argument as a row, read at one element. -/
theorem blk7 (c : Dev nD) (t : Fin cfg0.N) (j : Fin 1024) :
    iblk m c 7 t (ix2 0 j) = m ((c : Thread nD τ).loc main_arg7) (ix1 j) := by
  have e : ∀ i : S1x1024.Idx, ∀ k : S1024.Idx, (k 0 : ℕ) = i 1 → V m c main_v7 i = m ((c : Thread nD τ).loc main_arg7) k := by
    intro i k h
    entry_read
    pointwise
    blk_ext
  refine e _ _ ?_
  blk_simp [idx t]

/-- Window 8's block is its whole array: the argument as a row, read at one element. -/
theorem blk8 (c : Dev nD) (t : Fin cfg0.N) (j : Fin 1024) :
    iblk m c 8 t (ix2 0 j) = m ((c : Thread nD τ).loc main_arg8) (ix1 j) := by
  have e : ∀ i : S1x1024.Idx, ∀ k : S1024.Idx, (k 0 : ℕ) = i 1 → V m c main_v8 i = m ((c : Thread nD τ).loc main_arg8) k := by
    intro i k h
    entry_read
    pointwise
    blk_ext
  refine e _ _ ?_
  blk_simp [idx t]

/-- Window 11's block is its whole array: the argument as a row, read at one element. -/
theorem blk11 (c : Dev nD) (t : Fin cfg0.N) (j : Fin 1024) :
    iblk m c 11 t (ix2 0 j) = m ((c : Thread nD τ).loc main_arg11) (ix1 j) := by
  have e : ∀ i : S1x1024.Idx, ∀ k : S1024.Idx, (k 0 : ℕ) = i 1 → V m c main_v11 i = m ((c : Thread nD τ).loc main_arg11) k := by
    intro i k h
    entry_read
    pointwise
    blk_ext
  refine e _ _ ?_
  blk_simp [idx t]

/-- Window 12's block is its whole array: the argument as a row, read at one element. -/
theorem blk12 (c : Dev nD) (t : Fin cfg0.N) (j : Fin 1024) :
    iblk m c 12 t (ix2 0 j) = m ((c : Thread nD τ).loc main_arg12) (ix1 j) := by
  have e : ∀ i : S1x1024.Idx, ∀ k : S1024.Idx, (k 0 : ℕ) = i 1 → V m c main_v12 i = m ((c : Thread nD τ).loc main_arg12) k := by
    intro i k h
    entry_read
    pointwise
    blk_ext
  refine e _ _ ?_
  blk_simp [idx t]

/-- What point `t` leaves at `y` of its result block: the row function of the token that row belongs to. -/
theorem point (c : Dev nD) (t : Fin cfg0.N) (y : S512x1024.Idx) (p : Fin 8) (s : Fin 2048) (k : Fin 1024)
    (hr : (p : ℕ) * 2048 + s = 512 * t.val + y 0) (hk : (k : ℕ) = y 1) :
    out0_13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) y
      = Cert.MixRow.row (fun l => m ((c : Thread nD τ).loc main_arg2) (ix3 p s ⟨l, by omega⟩)) (fun l => m ((c : Thread nD τ).loc main_arg2) (ix3 p s ⟨1024 + l, by omega⟩))
          (fun l => m ((c : Thread nD τ).loc main_arg0) (ix3 p s l)) (fun l => m ((c : Thread nD τ).loc main_arg1) (ix3 p s l)) (fun l => m ((c : Thread nD τ).loc main_arg3) (ix3 p s l))
          (fun i j => m ((c : Thread nD τ).loc main_arg4) (ix2 i j)) (fun i j => m ((c : Thread nD τ).loc main_arg5) (ix2 i j)) (fun i j => m ((c : Thread nD τ).loc main_arg6) (ix2 i j))
          (fun l => m ((c : Thread nD τ).loc main_arg7) (ix1 l)) (fun l => m ((c : Thread nD τ).loc main_arg8) (ix1 l)) (fun i j => m ((c : Thread nD τ).loc main_arg9) (ix2 i j))
          (fun i j => m ((c : Thread nD τ).loc main_arg10) (ix2 i j)) (fun l => m ((c : Thread nD τ).loc main_arg11) (ix1 l)) (fun l => m ((c : Thread nD τ).loc main_arg12) (ix1 l)) k := by
  unfold_out out0_13
  canon_tiles x h
  · refine Eq.trans (congrArg _ (eq_ix2 x)) ?_
    refine (MixPay.half1 _ _ _ _ _ _ _ _ _ _ _ _ _ _ _ _ _ _ _ _ (x 0) (fun l => m ((c : Thread nD τ).loc main_arg2) (ix3 p s ⟨l, by omega⟩)) (fun l => m ((c : Thread nD τ).loc main_arg2) (ix3 p s ⟨1024 + l, by omega⟩))
          (fun l => m ((c : Thread nD τ).loc main_arg0) (ix3 p s l)) (fun l => m ((c : Thread nD τ).loc main_arg1) (ix3 p s l)) (fun l => m ((c : Thread nD τ).loc main_arg3) (ix3 p s l))
          (fun i j => m ((c : Thread nD τ).loc main_arg4) (ix2 i j)) (fun i j => m ((c : Thread nD τ).loc main_arg5) (ix2 i j)) (fun i j => m ((c : Thread nD τ).loc main_arg6) (ix2 i j))
          (fun l => m ((c : Thread nD τ).loc main_arg7) (ix1 l)) (fun l => m ((c : Thread nD τ).loc main_arg8) (ix1 l)) (fun l => m ((c : Thread nD τ).loc main_arg11) (ix1 l)) (fun l => m ((c : Thread nD τ).loc main_arg12) (ix1 l)) (fun i j => m ((c : Thread nD τ).loc main_arg9) (ix2 i j))
          (fun i j => m ((c : Thread nD τ).loc main_arg10) (ix2 i j))
          ?_ ?_ ?_ ?_ ?_ ?_ ?_ ?_ ?_ ?_ ?_ ?_ ?_ ?_ ?_ ?_ ?_ ?_ ?_ ?_ (x 1)).trans (congrArg _ (Fin.ext (h1.symm.trans hk.symm)))
    · intro i j; pointwise; exact blk9 m c t _
    · intro i j; pointwise; exact blk9 m c t _
    · intro i j; pointwise; exact blk9 m c t _
    · intro i j; pointwise; exact blk9 m c t _
    · intro i j; pointwise; exact blk10 m c t _
    · intro i j; pointwise; exact blk10 m c t _
    · intro i j; pointwise; exact blk10 m c t _
    · intro i j; pointwise; exact blk10 m c t _
    · intro l; pointwise; exact blk2 m c t _ _ (by simp; omega) (by simp)
    · intro l; pointwise; exact blk2 m c t _ _ (by simp; omega) (by simp)
    · intro l; pointwise; exact blk0 m c t _ _ (by simp; omega) (by simp)
    · intro l; pointwise; exact blk1 m c t _ _ (by simp; omega) (by simp)
    · intro l; pointwise; exact blk3 m c t _ _ (by simp; omega) (by simp)
    · intro i j; pointwise; exact blk4 m c t _
    · intro i j; pointwise; exact blk5 m c t _
    · intro i j; pointwise; exact blk6 m c t _
    · intro l; pointwise; exact blk7 m c t _
    · intro l; pointwise; exact blk8 m c t _
    · intro l; pointwise; exact blk11 m c t _
    · intro l; pointwise; exact blk12 m c t _
  · refine Eq.trans (congrArg _ (eq_ix2 x)) ?_
    refine (MixPay.half0 _ _ _ _ _ _ _ _ _ _ _ _ _ _ _ _ _ _ _ _ (x 0) (fun l => m ((c : Thread nD τ).loc main_arg2) (ix3 p s ⟨l, by omega⟩)) (fun l => m ((c : Thread nD τ).loc main_arg2) (ix3 p s ⟨1024 + l, by omega⟩))
          (fun l => m ((c : Thread nD τ).loc main_arg0) (ix3 p s l)) (fun l => m ((c : Thread nD τ).loc main_arg1) (ix3 p s l)) (fun l => m ((c : Thread nD τ).loc main_arg3) (ix3 p s l))
          (fun i j => m ((c : Thread nD τ).loc main_arg4) (ix2 i j)) (fun i j => m ((c : Thread nD τ).loc main_arg5) (ix2 i j)) (fun i j => m ((c : Thread nD τ).loc main_arg6) (ix2 i j))
          (fun l => m ((c : Thread nD τ).loc main_arg7) (ix1 l)) (fun l => m ((c : Thread nD τ).loc main_arg8) (ix1 l)) (fun l => m ((c : Thread nD τ).loc main_arg11) (ix1 l)) (fun l => m ((c : Thread nD τ).loc main_arg12) (ix1 l)) (fun i j => m ((c : Thread nD τ).loc main_arg9) (ix2 i j))
          (fun i j => m ((c : Thread nD τ).loc main_arg10) (ix2 i j))
          ?_ ?_ ?_ ?_ ?_ ?_ ?_ ?_ ?_ ?_ ?_ ?_ ?_ ?_ ?_ ?_ ?_ ?_ ?_ ?_ (x 1)).trans (congrArg _ (Fin.ext (h1.symm.trans hk.symm)))
    · intro i j; pointwise; exact blk9 m c t _
    · intro i j; pointwise; exact blk9 m c t _
    · intro i j; pointwise; exact blk9 m c t _
    · intro i j; pointwise; exact blk9 m c t _
    · intro i j; pointwise; exact blk10 m c t _
    · intro i j; pointwise; exact blk10 m c t _
    · intro i j; pointwise; exact blk10 m c t _
    · intro i j; pointwise; exact blk10 m c t _
    · intro l; pointwise; exact blk2 m c t _ _ (by simp; omega) (by simp)
    · intro l; pointwise; exact blk2 m c t _ _ (by simp; omega) (by simp)
    · intro l; pointwise; exact blk0 m c t _ _ (by simp; omega) (by simp)
    · intro l; pointwise; exact blk1 m c t _ _ (by simp; omega) (by simp)
    · intro l; pointwise; exact blk3 m c t _ _ (by simp; omega) (by simp)
    · intro i j; pointwise; exact blk4 m c t _
    · intro i j; pointwise; exact blk5 m c t _
    · intro i j; pointwise; exact blk6 m c t _
    · intro l; pointwise; exact blk7 m c t _
    · intro l; pointwise; exact blk8 m c t _
    · intro l; pointwise; exact blk11 m c t _
    · intro l; pointwise; exact blk12 m c t _

/-- After the run the result array is the reference's. -/
theorem final (c : Dev nD) : (dats m 0 c).arrAt 13 (cfgs 0).N
    = Cert.MixRefIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 13 _ (by decide +kernel) fun t _ y => ?_
  blk_simp
  rw [after0_13]
  have ht : t.val < 32 := lt_of_lt_of_eq t.isLt N_0
  have hy : ((y 0 : Fin _) : ℕ) < 512 := (y 0).isLt
  pointwise [Cert.MixRefIdeal.Read.val_main_v82]
  refine (point m c t y _ _ _ ?_ ?_).trans (Cert.MixRefIdeal.MixRefRow.row_at _ _ _ _ _ _ _ _ _ _ _ _ _ _ _ _).symm
  · blk_simp [idx t]
    dsimp only
    omega
  · blk_simp [idx t]

end Cert.MixIdeal.MixValue
-- ==== Proof.ProjRun.lean ====
module

public import proofs.«01_k».proof.Proof.Gen.ProjIdeal.Frame
public import Idealize.ShloMosaic.Lib.Pipeline.ValueKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.ProjIdeal.ProjRun

open Cert.ProjIdeal Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The two calls run one after the other: every result array of the second call ends as the value its grid's points
    leave in it, and the argument arrays end as launched. -/
theorem run : θ_run defs (onTc (τ := τ) (main (F := F))) ⟨m, fun _ => 0, ρ⟩ (fun r => ∀ c : Dev nD,
      r.2.mem ((c.tc : Thread nD τ).loc main_v74_0) = (dat1 (V11 m ρ) c).arrAt 12 cfg1.N
      ∧ r.2.mem ((c.tc : Thread nD τ).loc main_v74_1) = (dat1 (V11 m ρ) c).arrAt 13 cfg1.N
      ∧ r.2.mem ((c.tc : Thread nD τ).loc main_v74_2) = (dat1 (V11 m ρ) c).arrAt 14 cfg1.N
      ∧ r.2.mem ((c.tc : Thread nD τ).loc main_v74_3) = (dat1 (V11 m ρ) c).arrAt 15 cfg1.N
      ∧ r.2.mem ((c.tc : Thread nD τ).loc main_v74_4) = (dat1 (V11 m ρ) c).arrAt 16 cfg1.N
      ∧ r.2.mem ((c.tc : Thread nD τ).loc main_v74_5) = (dat1 (V11 m ρ) c).arrAt 17 cfg1.N
      ∧ r.2.mem ((c.tc : Thread nD τ).loc main_v74_6) = (dat1 (V11 m ρ) c).arrAt 18 cfg1.N
      ∧ r.2.mem ((c.tc : Thread nD τ).loc main_v74_7) = (dat1 (V11 m ρ) c).arrAt 19 cfg1.N
      ∧ r.2.mem ((c.tc : Thread nD τ).loc main_v74_8) = (dat1 (V11 m ρ) c).arrAt 20 cfg1.N
      ∧ r.2.mem ((c.tc : Thread nD τ).loc main_v74_9) = (dat1 (V11 m ρ) c).arrAt 21 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨(h c _ (mem_uc main_v74_0 (by decide))).trans (W12_arr m ρ c 12),
       (h c _ (mem_uc main_v74_1 (by decide))).trans (W12_arr m ρ c 13),
       (h c _ (mem_uc main_v74_2 (by decide))).trans (W12_arr m ρ c 14),
       (h c _ (mem_uc main_v74_3 (by decide))).trans (W12_arr m ρ c 15),
       (h c _ (mem_uc main_v74_4 (by decide))).trans (W12_arr m ρ c 16),
       (h c _ (mem_uc main_v74_5 (by decide))).trans (W12_arr m ρ c 17),
       (h c _ (mem_uc main_v74_6 (by decide))).trans (W12_arr m ρ c 18),
       (h c _ (mem_uc main_v74_7 (by decide))).trans (W12_arr m ρ c 19),
       (h c _ (mem_uc main_v74_8 (by decide))).trans (W12_arr m ρ c 20),
       (h c _ (mem_uc main_v74_9 (by decide))).trans (W12_arr m ρ c 21),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.ProjIdeal.ProjRun

end

end
-- ==== Proof.ProjRow.lean ====
module

public import Idealize.ShloMosaic.Lib.Pointwise
public import Idealize.ShloMosaic.PureOps.Ideal

@[expose] public section

set_option maxRecDepth 16384

noncomputable section

open Idealize.ShloMosaic

namespace Cert.ProjRow

/-- One token's row against one column of a matrix. -/
def mulCol {n p : ℕ} (X : Fin n → EReal) (W : Fin n → Fin p → EReal) (j : Fin p) : EReal := ∑ k : Fin n, X k * W k j

/-- Lane `l` of a 128-lane row under two lane rotations weighted by three tables. -/
def spin (c s1 s2 t : Fin 128 → EReal) (l : Fin 128) : EReal :=
  t l * c l + t ⟨(l.val + 128 - 120) % 128, by omega⟩ * s1 l + t ⟨(l.val + 128 - 8) % 128, by omega⟩ * s2 l

/-- Rope on dimension `d` of a head of 64 dimensions, of which the first sixteen turn in pairs. -/
def rope (C S : Fin 8 → EReal) (t : Fin 64 → EReal) (d : Fin 64) : EReal :=
  if h : d.val < 8 then t d * C ⟨d.val, h⟩ - t ⟨d.val + 8, by omega⟩ * S ⟨d.val, h⟩
  else if h' : d.val < 16 then t d * C ⟨d.val - 8, by omega⟩ + t ⟨d.val - 8, by omega⟩ * S ⟨d.val - 8, by omega⟩
  else t d

/-- Rope read from three slices laid end to end: the first eight dimensions, the second eight and the rest. -/
theorem rope_slices (C S : Fin 8 → EReal) (t : Fin 64 → EReal) (d : Fin 64) :
    (if h : d.val < 8 then t d * C ⟨d.val, h⟩ - t ⟨8 + d.val, by omega⟩ * S ⟨d.val, h⟩
      else if h' : d.val - 8 < 8 then
        t ⟨8 + (d.val - 8), by omega⟩ * C ⟨d.val - 8, h'⟩ + t ⟨d.val - 8, by omega⟩ * S ⟨d.val - 8, h'⟩
      else t ⟨16 + (d.val - 8 - 8), by omega⟩) = rope C S t d := by
  unfold rope
  by_cases h : d.val < 8
  · rw [dif_pos h, dif_pos h]
    simp only [Nat.add_comm 8]
  · by_cases h' : d.val < 16
    · rw [dif_neg h, dif_neg h, dif_pos h', dif_pos (by omega)]
      rw [show (⟨8 + (d.val - 8), by omega⟩ : Fin 64) = d from Fin.ext (by dsimp only; omega)]
    · rw [dif_neg h, dif_neg h, dif_neg h', dif_neg (by omega)]
      exact congrArg t (Fin.ext (by dsimp only; omega))

/-- The three tables of `spin` that turn two heads of 64 dimensions side by side. -/
def tab0 (C : Fin 8 → EReal) (l : Fin 128) : EReal :=
  if h : l.val % 64 < 8 then C ⟨l.val % 64, h⟩ else if h' : l.val % 64 < 16 then C ⟨l.val % 64 - 8, by omega⟩ else 1
/-- The second table of `spin`: minus the sines, at the first member of each pair. -/
def tab1 (S : Fin 8 → EReal) (l : Fin 128) : EReal := if h : l.val % 64 < 8 then -S ⟨l.val % 64, h⟩ else 0
/-- The third table of `spin`: the sines, at the second member of each pair. -/
def tab2 (S : Fin 8 → EReal) (l : Fin 128) : EReal :=
  if h : l.val % 64 < 8 then 0 else if h' : l.val % 64 < 16 then S ⟨l.val % 64 - 8, by omega⟩ else 0

/-- Two heads side by side under `spin` are each turned by `rope`. -/
theorem spin_eq (C S : Fin 8 → EReal) (t : Fin 128 → EReal) (u : Fin 64 → EReal) (l : Fin 128)
    (hu : ∀ (d : Fin 64) (k : Fin 128), k.val = 64 * (l.val / 64) + d.val → t k = u d) :
    spin (tab0 C) (tab1 S) (tab2 S) t l = rope C S u ⟨l.val % 64, by omega⟩ := by
  have hl := l.isLt
  have h0 : t l = u ⟨l.val % 64, by omega⟩ := hu _ _ (by dsimp only; omega)
  unfold spin rope tab0 tab1 tab2
  dsimp only
  rw [h0]
  by_cases h : l.val % 64 < 8
  · simp only [dif_pos h, mul_zero, add_zero]
    rw [hu ⟨l.val % 64 + 8, by omega⟩ ⟨(l.val + 128 - 120) % 128, by omega⟩ (by dsimp only; omega), mul_neg, ← sub_eq_add_neg]
  · by_cases h' : l.val % 64 < 16
    · simp only [dif_neg h, dif_pos h', mul_zero, add_zero]
      rw [hu ⟨l.val % 64 - 8, by omega⟩ ⟨(l.val + 128 - 8) % 128, by omega⟩ (by dsimp only; omega)]
    · simp only [dif_neg h, dif_neg h', mul_zero, add_zero, mul_one]

/-- One entry of the normalised query latent. -/
def latent (P qn : Fin 256 → EReal) (l : Fin 256) : EReal :=
  P l * Ideal.rsqrt (Ideal.div (∑ i : Fin 256, P i * P i) (Ideal.ofBits .f32 0x43800000#32) + Ideal.ofBits .f32 0x3727C5AC#32) * qn l

/-- The mean of 64 entries. -/
def mean64 (K : Fin 64 → EReal) : EReal := Ideal.div (∑ i : Fin 64, K i) (Ideal.ofBits .f32 0x42800000#32)

/-- One entry of the normalised index key before its rope. -/
def normed (K g b : Fin 64 → EReal) (d : Fin 64) : EReal :=
  (K d - mean64 K) * Ideal.rsqrt (mean64 (fun i => (K i - mean64 K) * (K i - mean64 K)) + Ideal.ofBits .f32 0x3727C5AC#32) * g d + b d

/-- The mean of 64 entries as a product with the reciprocal. -/
theorem mean64_eq (K : Fin 64 → EReal) : mean64 K = (∑ i : Fin 64, K i) * Ideal.ofBits .f32 0x3C800000#32 := by
  have h1 : Ideal.ofBits .f32 0x42800000#32 = ((64 : ℝ) : EReal) := by
    simp [Ideal.ofBits, Ideal.ieee, -EReal.coe_mul]; norm_num
  have h2 : Ideal.ofBits .f32 0x3C800000#32 = ((1 / 64 : ℝ) : EReal) := by
    simp [Ideal.ofBits, Ideal.ieee, -EReal.coe_mul]; norm_num
  unfold mean64
  rw [h1, h2]
  exact Ideal.div_coe (by norm_num) _

/-- A sum over 128 lanes of which the upper 64 are zero. -/
theorem sum_half (f : Fin 128 → EReal) (K : Fin 64 → EReal) (h0 : ∀ (i : Fin 64) (l : Fin 128), l.val = i.val → f l = K i)
    (h1 : ∀ l : Fin 128, 64 ≤ l.val → f l = 0) : ∑ l : Fin 128, f l = ∑ i : Fin 64, K i := by
  refine (Fin.sum_univ_add (a := 64) (b := 64) f).trans ?_
  have e0 : ∀ i : Fin 64, f (Fin.castAdd 64 i) = K i := fun i => h0 i _ rfl
  have e1 : ∀ i : Fin 64, f (Fin.natAdd 64 i) = 0 := fun i => h1 _ (Nat.le_add_right 64 i.val)
  simp only [e0, e1, Finset.sum_const_zero, add_zero]

/-- The softplus of a number. -/
def softplus (v : EReal) : EReal := max v 0 + Ideal.log1p (Ideal.exp (0 - max v (-v)))

/-- A column of ones after 64 entries, then zeros. -/
theorem pick_one (n : ℕ) (P Q : n < 64 → EReal) (h : ∀ g, P g = Q g) :
    (if g : n < 64 then P g else if g : n - 64 < 1 then 1 else 0) = if g : n < 64 then Q g else if n = 64 then 1 else 0 := by
  by_cases g : n < 64
  · rw [dif_pos g, dif_pos g]
    exact h g
  · rw [dif_neg g, dif_neg g]
    by_cases g' : n = 64
    · rw [dif_pos (by omega), if_pos g']
    · rw [dif_neg (by omega), if_neg g']

/-- Eight entries after 64 entries, then zeros. -/
theorem pick_eight (n : ℕ) (P Q : n < 64 → EReal) (P' : n - 64 < 8 → EReal) (Q' : n < 72 → EReal) (h : ∀ g, P g = Q g)
    (h' : ∀ (e : 64 ≤ n) g g', P' g = Q' g') :
    (if g : n < 64 then P g else if g : n - 64 < 8 then P' g else 0)
      = if g : n < 64 then Q g else if g : n < 72 then Q' g else 0 := by
  by_cases g : n < 64
  · rw [dif_pos g, dif_pos g]
    exact h g
  · rw [dif_neg g, dif_neg g]
    by_cases g' : n < 72
    · rw [dif_pos (by omega), dif_pos g']
      exact h' (by omega) _ _
    · rw [dif_neg (by omega), dif_neg g']

/-- The softplus of a number, as it is written with a test for a number that is not one. -/
theorem softplus_eq (v : EReal) :
    (if v ≠ v then v else max v 0 + Ideal.log1p (Ideal.exp (-(FloatOps.absf (F := Ideal) (φ := .f32) v : EReal)))) = softplus v := by
  rw [if_neg (fun h => h rfl)]
  unfold softplus
  rw [zero_sub]
  rfl

end Cert.ProjRow

end
-- ==== Proof.ProjTab.lean ====
module

public import proofs.«01_k».proof.Proof.Gen.ProjIdeal.Frame
public import proofs.«01_k».proof.Proof.ProjRow
public import proofs.«01_k».proof.Proof.Gen.ProjRefIdeal.Read
public import Idealize.ShloMosaic.Lib.Routing.OpsPair
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.Tactic

namespace Cert.ProjIdeal.ProjTab
open Cert.ProjIdeal Cert.ProjIdeal.Gen Cert.ProjRow

variable (V : Valuation τ sig (Elt Ideal))

/-- The host operations before the packing in steps: angles, fillings, and the three tables one by one, then their doubling over two heads. -/
theorem split0 : StableHlo.after hostOps0 V = StableHlo.after ((hostOps0 (F := Ideal)).drop 33) (StableHlo.after (((hostOps0 (F := Ideal)).drop 32).take 1)
    (StableHlo.after (((hostOps0 (F := Ideal)).drop 31).take 1) (StableHlo.after (((hostOps0 (F := Ideal)).drop 30).take 1) (StableHlo.after (((hostOps0 (F := Ideal)).drop 29).take 1)
      (StableHlo.after (((hostOps0 (F := Ideal)).drop 22).take 7) (StableHlo.after ((hostOps0 (F := Ideal)).take 22) V)))))) := rfl

/-- The cosines are those of the reference. -/
theorem head16 (s : Fin 2048) (k : Fin 8) : StableHlo.after ((hostOps0 (F := Ideal)).take 22) V (Proc.devRef .tc main_v16) (ix2 s k)
    = Cert.ProjRefIdeal.Read.val_main_v16 (F := Ideal) (ix2 s k) := by
  dsimp only [hostOps0, List.take]
  entry_read
  rfl
/-- The sines are those of the reference. -/
theorem head17 (s : Fin 2048) (k : Fin 8) : StableHlo.after ((hostOps0 (F := Ideal)).take 22) V (Proc.devRef .tc main_v17) (ix2 s k)
    = Cert.ProjRefIdeal.Read.val_main_v17 (F := Ideal) (ix2 s k) := by
  dsimp only [hostOps0, List.take]
  entry_read
  rfl
/-- The filling: zeros beside the pairs. -/
theorem fill18 (i : S2048x48.Idx) : StableHlo.after (((hostOps0 (F := Ideal)).drop 22).take 7) V (Proc.devRef .tc main_v18) i = (0 : EReal) := by
  dsimp only [hostOps0, List.drop, List.take]
  entry_read
  pointwise
/-- The filling: zeros for one member of the pairs. -/
theorem fill19 (i : S2048x8.Idx) : StableHlo.after (((hostOps0 (F := Ideal)).drop 22).take 7) V (Proc.devRef .tc main_v19) i = (0 : EReal) := by
  dsimp only [hostOps0, List.drop, List.take]
  entry_read
  pointwise
/-- The filling: ones beside the pairs. -/
theorem fill21 (i : S2048x48.Idx) : StableHlo.after (((hostOps0 (F := Ideal)).drop 22).take 7) V (Proc.devRef .tc main_v21) i = (1 : EReal) := by
  dsimp only [hostOps0, List.drop, List.take]
  entry_read
  pointwise
/-- Step 22 leaves buffer 16 as it was. -/
theorem keep22_16 : StableHlo.after (((hostOps0 (F := Ideal)).drop 22).take 7) V (Proc.devRef .tc main_v16) = V (Proc.devRef .tc main_v16) := by
  funext i
  dsimp only [hostOps0, List.drop, List.take]
  entry_read
  rfl
/-- Step 22 leaves buffer 17 as it was. -/
theorem keep22_17 : StableHlo.after (((hostOps0 (F := Ideal)).drop 22).take 7) V (Proc.devRef .tc main_v17) = V (Proc.devRef .tc main_v17) := by
  funext i
  dsimp only [hostOps0, List.drop, List.take]
  entry_read
  rfl
/-- Step 29 leaves buffer 17 as it was. -/
theorem keep29_17 : StableHlo.after (((hostOps0 (F := Ideal)).drop 29).take 1) V (Proc.devRef .tc main_v17) = V (Proc.devRef .tc main_v17) := by
  funext i
  dsimp only [hostOps0, List.drop, List.take]
  entry_read
  rfl
/-- Step 29 leaves buffer 18 as it was. -/
theorem keep29_18 : StableHlo.after (((hostOps0 (F := Ideal)).drop 29).take 1) V (Proc.devRef .tc main_v18) = V (Proc.devRef .tc main_v18) := by
  funext i
  dsimp only [hostOps0, List.drop, List.take]
  entry_read
  rfl
/-- Step 29 leaves buffer 19 as it was. -/
theorem keep29_19 : StableHlo.after (((hostOps0 (F := Ideal)).drop 29).take 1) V (Proc.devRef .tc main_v19) = V (Proc.devRef .tc main_v19) := by
  funext i
  dsimp only [hostOps0, List.drop, List.take]
  entry_read
  rfl
/-- Step 30 leaves buffer 17 as it was. -/
theorem keep30_17 : StableHlo.after (((hostOps0 (F := Ideal)).drop 30).take 1) V (Proc.devRef .tc main_v17) = V (Proc.devRef .tc main_v17) := by
  funext i
  dsimp only [hostOps0, List.drop, List.take]
  entry_read
  rfl
/-- Step 30 leaves buffer 18 as it was. -/
theorem keep30_18 : StableHlo.after (((hostOps0 (F := Ideal)).drop 30).take 1) V (Proc.devRef .tc main_v18) = V (Proc.devRef .tc main_v18) := by
  funext i
  dsimp only [hostOps0, List.drop, List.take]
  entry_read
  rfl
/-- Step 30 leaves buffer 19 as it was. -/
theorem keep30_19 : StableHlo.after (((hostOps0 (F := Ideal)).drop 30).take 1) V (Proc.devRef .tc main_v19) = V (Proc.devRef .tc main_v19) := by
  funext i
  dsimp only [hostOps0, List.drop, List.take]
  entry_read
  rfl
/-- Step 30 leaves buffer 22 as it was. -/
theorem keep30_22 : StableHlo.after (((hostOps0 (F := Ideal)).drop 30).take 1) V (Proc.devRef .tc main_v22) = V (Proc.devRef .tc main_v22) := by
  funext i
  dsimp only [hostOps0, List.drop, List.take]
  entry_read
  rfl
/-- Step 32 leaves buffer 22 as it was. -/
theorem keep32_22 : StableHlo.after (((hostOps0 (F := Ideal)).drop 32).take 1) V (Proc.devRef .tc main_v22) = V (Proc.devRef .tc main_v22) := by
  funext i
  dsimp only [hostOps0, List.drop, List.take]
  entry_read
  rfl
/-- Step 32 leaves buffer 24 as it was. -/
theorem keep32_24 : StableHlo.after (((hostOps0 (F := Ideal)).drop 32).take 1) V (Proc.devRef .tc main_v24) = V (Proc.devRef .tc main_v24) := by
  funext i
  dsimp only [hostOps0, List.drop, List.take]
  entry_read
  rfl
/-- Step 31 leaves buffer 17 as it was. -/
theorem keep31_17 : StableHlo.after (((hostOps0 (F := Ideal)).drop 31).take 1) V (Proc.devRef .tc main_v17) = V (Proc.devRef .tc main_v17) := by
  funext i
  dsimp only [hostOps0, List.drop, List.take]
  entry_read
  rfl
/-- Step 31 leaves buffer 18 as it was. -/
theorem keep31_18 : StableHlo.after (((hostOps0 (F := Ideal)).drop 31).take 1) V (Proc.devRef .tc main_v18) = V (Proc.devRef .tc main_v18) := by
  funext i
  dsimp only [hostOps0, List.drop, List.take]
  entry_read
  rfl
/-- Step 31 leaves buffer 19 as it was. -/
theorem keep31_19 : StableHlo.after (((hostOps0 (F := Ideal)).drop 31).take 1) V (Proc.devRef .tc main_v19) = V (Proc.devRef .tc main_v19) := by
  funext i
  dsimp only [hostOps0, List.drop, List.take]
  entry_read
  rfl
/-- Step 31 leaves buffer 22 as it was. -/
theorem keep31_22 : StableHlo.after (((hostOps0 (F := Ideal)).drop 31).take 1) V (Proc.devRef .tc main_v22) = V (Proc.devRef .tc main_v22) := by
  funext i
  dsimp only [hostOps0, List.drop, List.take]
  entry_read
  rfl
/-- Minus the sines. -/
theorem make23 (i : S2048x8.Idx) (v : EReal) (h : V (Proc.devRef .tc main_v17) i = v) : StableHlo.after (((hostOps0 (F := Ideal)).drop 30).take 1) V (Proc.devRef .tc main_v23) i = -v := by
  dsimp only [hostOps0, List.drop, List.take]
  entry_read
  exact congrArg (fun x : EReal => -x) h
/-- The first table of one head: the cosines twice, then ones. -/
theorem make22 (C : Fin 2048 → Fin 8 → EReal) (h16 : ∀ s k, V (Proc.devRef .tc main_v16) (ix2 s k) = C s k)
    (h21 : ∀ s k, V (Proc.devRef .tc main_v21) (ix2 s k) = (1 : EReal)) (s : Fin 2048) (l : Fin 128) (e : Fin 64) (he : e.val = l.val % 64) :
    StableHlo.after (((hostOps0 (F := Ideal)).drop 29).take 1) V (Proc.devRef .tc main_v22) (ix2 s e) = tab0 (C s) l := by
  dsimp only [hostOps0, List.drop, List.take]
  entry_read
  change concatenate S2048x64 1 [⟨S2048x8, V (Proc.devRef .tc main_v16)⟩, ⟨S2048x8, V (Proc.devRef .tc main_v16)⟩,
        ⟨S2048x48, V (Proc.devRef .tc main_v21)⟩] concatenates_S2048x8_S2048x8_S2048x48_S2048x64_d1 (ix2 s e) = _
  generalize V (Proc.devRef .tc main_v16) = u at *
  generalize V (Proc.devRef .tc main_v21) = v at *
  unfold tab0
  obtain ⟨e, hlt⟩ := e
  obtain rfl : e = l.val % 64 := he
  pointwise
  by_cases g : l.val % 64 < 8
  · rw [dif_pos g, dif_pos g]; exact h16 _ _
  · by_cases g' : l.val % 64 < 16
    · rw [dif_neg g, dif_neg g, dif_pos g', dif_pos (by omega)]; exact h16 _ _
    · rw [dif_neg g, dif_neg g, dif_neg g', dif_neg (by omega)]; exact h21 _ _
/-- The second table of one head: minus the sines, then zeros. -/
theorem make24 (C : Fin 2048 → Fin 8 → EReal) (h17 : ∀ s k, V (Proc.devRef .tc main_v23) (ix2 s k) = -C s k)
    (h19 : ∀ s k, V (Proc.devRef .tc main_v19) (ix2 s k) = (0 : EReal)) (h18 : ∀ s k, V (Proc.devRef .tc main_v18) (ix2 s k) = (0 : EReal))
    (s : Fin 2048) (l : Fin 128) (e : Fin 64) (he : e.val = l.val % 64) :
    StableHlo.after (((hostOps0 (F := Ideal)).drop 31).take 1) V (Proc.devRef .tc main_v24) (ix2 s e) = tab1 (C s) l := by
  dsimp only [hostOps0, List.drop, List.take]
  entry_read
  change concatenate S2048x64 1 [⟨S2048x8, V (Proc.devRef .tc main_v23)⟩, ⟨S2048x8, V (Proc.devRef .tc main_v19)⟩,
        ⟨S2048x48, V (Proc.devRef .tc main_v18)⟩] concatenates_S2048x8_S2048x8_S2048x48_S2048x64_d1 (ix2 s e) = _
  generalize V (Proc.devRef .tc main_v23) = u at *
  generalize V (Proc.devRef .tc main_v19) = w at *
  generalize V (Proc.devRef .tc main_v18) = v at *
  unfold tab1
  obtain ⟨e, hlt⟩ := e
  obtain rfl : e = l.val % 64 := he
  pointwise
  by_cases g : l.val % 64 < 8
  · rw [dif_pos g, dif_pos g]; exact h17 _ _
  · by_cases g' : l.val % 64 < 16
    · rw [dif_neg g, dif_neg g, dif_pos (by omega)]; exact h19 _ _
    · rw [dif_neg g, dif_neg g, dif_neg (by omega)]; exact h18 _ _
/-- The third table of one head: zeros, the sines, then zeros. -/
theorem make25 (C : Fin 2048 → Fin 8 → EReal) (h17 : ∀ s k, V (Proc.devRef .tc main_v17) (ix2 s k) = C s k)
    (h19 : ∀ s k, V (Proc.devRef .tc main_v19) (ix2 s k) = (0 : EReal)) (h18 : ∀ s k, V (Proc.devRef .tc main_v18) (ix2 s k) = (0 : EReal))
    (s : Fin 2048) (l : Fin 128) (e : Fin 64) (he : e.val = l.val % 64) :
    StableHlo.after (((hostOps0 (F := Ideal)).drop 32).take 1) V (Proc.devRef .tc main_v25) (ix2 s e) = tab2 (C s) l := by
  dsimp only [hostOps0, List.drop, List.take]
  entry_read
  change concatenate S2048x64 1 [⟨S2048x8, V (Proc.devRef .tc main_v19)⟩, ⟨S2048x8, V (Proc.devRef .tc main_v17)⟩,
        ⟨S2048x48, V (Proc.devRef .tc main_v18)⟩] concatenates_S2048x8_S2048x8_S2048x48_S2048x64_d1 (ix2 s e) = _
  generalize V (Proc.devRef .tc main_v17) = u at *
  generalize V (Proc.devRef .tc main_v19) = w at *
  generalize V (Proc.devRef .tc main_v18) = v at *
  unfold tab2
  obtain ⟨e, hlt⟩ := e
  obtain rfl : e = l.val % 64 := he
  pointwise
  by_cases g : l.val % 64 < 8
  · rw [dif_pos g, dif_pos g]; exact h19 _ _
  · by_cases g' : l.val % 64 < 16
    · rw [dif_neg g, dif_neg g, dif_pos g', dif_pos (by omega)]; exact h17 _ _
    · rw [dif_neg g, dif_neg g, dif_neg g', dif_neg (by omega)]; exact h18 _ _
/-- A table is laid out twice, once for each head of a row of 128 lanes. -/
theorem twice28 (i : S2048x128.Idx) : StableHlo.after ((hostOps0 (F := Ideal)).drop 33) V (Proc.devRef .tc main_v28) i
    = V (Proc.devRef .tc main_v22) (ix2 (i 0) ⟨(i 1).val % 64, by omega⟩) := by
  dsimp only [hostOps0, List.drop]
  entry_read
  pointwise
/-- A table is laid out twice, once for each head of a row of 128 lanes. -/
theorem twice31 (i : S2048x128.Idx) : StableHlo.after ((hostOps0 (F := Ideal)).drop 33) V (Proc.devRef .tc main_v31) i
    = V (Proc.devRef .tc main_v24) (ix2 (i 0) ⟨(i 1).val % 64, by omega⟩) := by
  dsimp only [hostOps0, List.drop]
  entry_read
  pointwise
/-- A table is laid out twice, once for each head of a row of 128 lanes. -/
theorem twice34 (i : S2048x128.Idx) : StableHlo.after ((hostOps0 (F := Ideal)).drop 33) V (Proc.devRef .tc main_v34) i
    = V (Proc.devRef .tc main_v25) (ix2 (i 0) ⟨(i 1).val % 64, by omega⟩) := by
  dsimp only [hostOps0, List.drop]
  entry_read
  pointwise
/-- The first table the projections read. -/
theorem tab28 (i : S2048x128.Idx) : StableHlo.after hostOps0 V (Proc.devRef .tc main_v28) i
    = tab0 (fun k => Cert.ProjRefIdeal.Read.val_main_v16 (F := Ideal) (ix2 (i 0) k)) (i 1) := by
  rw [split0]
  refine (twice28 _ i).trans ?_
  rw [keep32_22, keep31_22, keep30_22]
  exact make22 _ (fun s k => Cert.ProjRefIdeal.Read.val_main_v16 (F := Ideal) (ix2 s k)) (fun s k => (congrFun (keep22_16 _) _).trans (head16 V s k)) (fun s k => fill21 _ _) _ _ _ rfl
/-- The second table the projections read. -/
theorem tab31 (i : S2048x128.Idx) : StableHlo.after hostOps0 V (Proc.devRef .tc main_v31) i
    = tab1 (fun k => Cert.ProjRefIdeal.Read.val_main_v17 (F := Ideal) (ix2 (i 0) k)) (i 1) := by
  rw [split0]
  refine (twice31 _ i).trans ?_
  rw [keep32_24]
  refine make24 _ (fun s k => Cert.ProjRefIdeal.Read.val_main_v17 (F := Ideal) (ix2 s k)) (fun s k => ?_) (fun s k => ?_) (fun s k => ?_) _ _ _ rfl
  · refine make23 _ _ _ ?_
    rw [keep29_17, keep22_17]
    exact head17 V s k
  · rw [keep30_19, keep29_19]; exact fill19 _ _
  · rw [keep30_18, keep29_18]; exact fill18 _ _
/-- The third table the projections read. -/
theorem tab34 (i : S2048x128.Idx) : StableHlo.after hostOps0 V (Proc.devRef .tc main_v34) i
    = tab2 (fun k => Cert.ProjRefIdeal.Read.val_main_v17 (F := Ideal) (ix2 (i 0) k)) (i 1) := by
  rw [split0]
  refine (twice34 _ i).trans ?_
  refine make25 _ (fun s k => Cert.ProjRefIdeal.Read.val_main_v17 (F := Ideal) (ix2 s k)) (fun s k => ?_) (fun s k => ?_) (fun s k => ?_) _ _ _ rfl
  · rw [keep31_17, keep30_17, keep29_17, keep22_17]; exact head17 V s k
  · rw [keep31_19, keep30_19, keep29_19]; exact fill19 _ _
  · rw [keep31_18, keep30_18, keep29_18]; exact fill18 _ _

end Cert.ProjIdeal.ProjTab

end

end
-- ==== Proof.ProjHost.lean ====
module

public import proofs.«01_k».proof.Proof.Gen.ProjIdeal.Frame
public import proofs.«01_k».proof.Proof.ProjTab
public import proofs.«01_k».proof.Proof.Gen.ProjRefIdeal.Read
public import Idealize.ShloMosaic.Lib.Routing.OpsPair
public import Idealize.ShloMosaic.Lib.Routing.Ops
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.Tactic

namespace Cert.ProjIdeal.ProjHost
open Cert.ProjIdeal Cert.ProjIdeal.Gen Cert.ProjRow

variable (m : (ℓ : Loc nD τ sig) → Buf (Elt Ideal) ℓ) (ρ : Dev nD → PrngReg)

/-- What the second call's prepared arrays held before the token permutation is made. -/
theorem early (c : Dev nD) (r : Ref sig .tc) (h1 : r ∉ hostOps1_1_W) (h2 : r ∉ hostOps1_2_W) (h3 : r ∉ hostOps1_3_W) (h4 : r ∉ hostOps1_4_W)
    (h5 : r ∉ hostOps1_5_W) (h6 : r ∉ hostOps1_6_W) (h7 : r ∉ hostOps1_7_W) (h8 : r ∉ hostOps1_8_W) :
    V11 m ρ c r = W3 m ρ c (Proc.devRef .tc r) :=
  (W11_of m ρ c r h8).trans ((W10_of m ρ c r h7).trans ((W9_of m ρ c r h6).trans ((W8_of m ρ c r h5).trans ((W7_of m ρ c r h4).trans
    ((W6_of m ρ c r h3).trans ((W5_of m ρ c r h2).trans (W4_of m ρ c r h1)))))))

/-- A left fold that takes up a value only where `P` holds, over a list where it never holds. -/
theorem fold_one {α : Type} {n : ℕ} (P : Fin n → Prop) [DecidablePred P] (v : Fin n → α) (a : α) (l : List (Fin n)) (hno : ∀ k, k ∈ l → ¬P k) :
    l.foldl (fun b k => if P k then v k else b) a = a := by
  induction l generalizing a with
  | nil => rfl
  | cons k t ih => rw [List.foldl_cons, if_neg (hno k (List.mem_cons_self ..))]; exact ih a fun j hj => hno j (List.mem_cons_of_mem _ hj)
/-- The same where `P` holds at one position of the list. -/
theorem fold_pick {α : Type} {n : ℕ} (P : Fin n → Prop) [DecidablePred P] (v : Fin n → α) (a : α) (k0 : Fin n) (hP : ∀ k, P k ↔ k = k0)
    (l : List (Fin n)) (hm : k0 ∈ l) :
    l.foldl (fun b k => if P k then v k else b) a = v k0 := by
  induction l generalizing a with
  | nil => cases hm
  | cons k t ih =>
    rw [List.foldl_cons]
    by_cases ht : k0 ∈ t
    · exact ih _ ht
    · have e : k = k0 := by
        rcases List.mem_cons.mp hm with h | h
        · exact h.symm
        · exact absurd h ht
      rw [if_pos ((hP k).mpr e), e]
      exact fold_one P v _ t fun j hj hPj => ht ((hP j).mp hPj ▸ hj)
/-- A row of at most 128 values written from the first lane of a row of 128: each value stands at its own lane and the rest stays. -/
theorem put {u : Shape} (d : ScatterDims S1x128 S2 u) (x0 : S1x128.Idx → EReal) (idx : IVec S2 32) (upd : u.Idx → EReal)
    (key : ∀ n : Fin u.numel, d.resultIdx? (u.rowMajor.symm n) idx = some (ix2 (n0 := 1) (n1 := 128) 0 ⟨n.val % 128, by omega⟩))
    (hN : u.numel ≤ 128) (b : Fin 128) :
    Host.scatter d (fun _ b => b) x0 idx upd (ix2 (n0 := 1) (n1 := 128) 0 b)
      = if h : b.val < u.numel then upd (u.rowMajor.symm ⟨b.val, h⟩) else x0 (ix2 (n0 := 1) (n1 := 128) 0 b) := by
  refine (Idealize.ShloMosaic.Routing.scatter_at _ _ _ _ _ _).trans ?_
  have hiff : ∀ n : Fin u.numel, (d.resultIdx? (u.rowMajor.symm n) idx = some (ix2 (n0 := 1) (n1 := 128) 0 b)) ↔ n.val = b.val := by
    intro n
    have hn := n.isLt
    rw [key n, Option.some_inj]
    refine ⟨fun e => ?_, fun e => congrArg (ix2 (n0 := 1) (n1 := 128) 0) (Fin.ext (by dsimp only; omega))⟩
    have e1 : n.val % 128 = b.val := congrArg (fun j : S1x128.Idx => (j 1).val) e
    omega
  by_cases g : b.val < u.numel
  · refine (fold_pick _ (fun n => upd (u.rowMajor.symm n)) _ (⟨b.val, g⟩ : Fin u.numel) (fun n => (hiff n).trans (Fin.ext_iff (a := n) (b := ⟨b.val, g⟩)).symm) _ (List.mem_finRange _)).trans ?_
    rw [dif_pos g]
  · rw [dif_neg g]
    refine fold_one _ (fun n => upd (u.rowMajor.symm n)) _ _ fun n _ e => g ?_
    have := (hiff n).mp e
    have := n.isLt
    omega
/-- The same with 64 values. -/
theorem put64 (x0 : S1x128.Idx → EReal) (hx : ∀ i, x0 i = 0) (upd : S64.Idx → EReal) (b : Fin 128) :
    Host.scatter scatter_S1x128_S2_S64_0_0_01_0 (fun _ b => b) x0 (fun _ => 0#32) upd (ix2 (n0 := 1) (n1 := 128) 0 b)
      = if h : b.val < 64 then upd (ix1 ⟨b.val, h⟩) else 0 := by
  refine (put scatter_S1x128_S2_S64_0_0_01_0 x0 (fun _ => 0#32) upd (by decide +kernel) (by decide) b).trans ?_
  by_cases g : b.val < 64
  · rw [dif_pos g]
    exact (dif_pos (c := b.val < S64.numel) g).trans (congrArg upd (Idealize.ShloMosaic.Routing.symm1 (N := 64) _))
  · rw [dif_neg g]
    exact (dif_neg (c := b.val < S64.numel) g).trans (hx _)
/-- The same with 32 values. -/
theorem put32 (x0 : S1x128.Idx → EReal) (hx : ∀ i, x0 i = 0) (upd : S32.Idx → EReal) (b : Fin 128) :
    Host.scatter scatter_S1x128_S2_S32_0_0_01_0 (fun _ b => b) x0 (fun _ => 0#32) upd (ix2 (n0 := 1) (n1 := 128) 0 b)
      = if h : b.val < 32 then upd (ix1 ⟨b.val, h⟩) else 0 := by
  refine (put scatter_S1x128_S2_S32_0_0_01_0 x0 (fun _ => 0#32) upd (by decide +kernel) (by decide) b).trans ?_
  by_cases g : b.val < 32
  · rw [dif_pos g]
    exact (dif_pos (c := b.val < S32.numel) g).trans (congrArg upd (Idealize.ShloMosaic.Routing.symm1 (N := 32) _))
  · rw [dif_neg g]
    exact (dif_neg (c := b.val < S32.numel) g).trans (hx _)
/-- The weight of the latent. -/
theorem at38 (c : Dev nD) (i : S1x256.Idx) : V11 m ρ c main_v38 i = m ((c : Thread nD τ).loc main_arg2) (ix1 (i 1)) := by
  refine (congrFun (early m ρ c main_v38 (by decide) (by decide) (by decide) (by decide) (by decide) (by decide) (by decide) (by decide)) i).trans ?_
  show StableHlo.after hostOps1 (W2 m ρ c) (Proc.devRef .tc main_v38) i = _
  entry_read
  pointwise
  exact congrFun (W2_args m ρ c main_arg2 (by decide)) _
/-- The query weights. -/
theorem at39 (c : Dev nD) (i : S256x1024.Idx) : V11 m ρ c main_v39 i = m ((c : Thread nD τ).loc main_arg3) i := by
  refine (congrFun (early m ρ c main_v39 (by decide) (by decide) (by decide) (by decide) (by decide) (by decide) (by decide) (by decide)) i).trans ?_
  show StableHlo.after hostOps1 (W2 m ρ c) (Proc.devRef .tc main_v39) i = _
  entry_read
  exact congrFun (W2_args m ρ c main_arg3 (by decide)) _
/-- The indexer query weights. -/
theorem at40 (c : Dev nD) (i : S256x512.Idx) : V11 m ρ c main_v40 i = m ((c : Thread nD τ).loc main_arg4) i := by
  refine (congrFun (early m ρ c main_v40 (by decide) (by decide) (by decide) (by decide) (by decide) (by decide) (by decide) (by decide)) i).trans ?_
  show StableHlo.after hostOps1 (W2 m ρ c) (Proc.devRef .tc main_v40) i = _
  entry_read
  exact congrFun (W2_args m ρ c main_arg4 (by decide)) _
/-- The lane row of the key norm's scale. -/
theorem at45 (c : Dev nD) (l : Fin 128) : V11 m ρ c main_v45 (ix2 0 l)
    = ((if h : l.val < 64 then m ((c : Thread nD τ).loc main_arg5) (ix1 ⟨l.val, h⟩) else 0 : EReal)) := by
  refine (congrFun (early m ρ c main_v45 (by decide) (by decide) (by decide) (by decide) (by decide) (by decide) (by decide) (by decide)) _).trans ?_
  show StableHlo.after hostOps1 (W2 m ρ c) (Proc.devRef .tc main_v45) (ix2 0 l) = _
  entry_read
  rw [← W2_args m ρ c main_arg5 (by decide)]
  generalize W2 m ρ c (Proc.devRef .tc main_arg5) = u
  refine Eq.trans ?_ (put64 (broadcastInDim S1x128 ![] bcast_S_S1x128 (constant (F := Ideal) S_ .f32 0x00000000#32)) (fun i => ?_) u l)
  · refine congrArg (fun idx : IVec S2 32 => Host.scatter scatter_S1x128_S2_S64_0_0_01_0 (fun _ b => b) _ idx u (ix2 (n0 := 1) (n1 := 128) 0 l)) ?_
    funext k; revert k
    decide +kernel
  · pointwise
/-- The lane row of the key norm's shift. -/
theorem at50 (c : Dev nD) (l : Fin 128) : V11 m ρ c main_v50 (ix2 0 l)
    = ((if h : l.val < 64 then m ((c : Thread nD τ).loc main_arg6) (ix1 ⟨l.val, h⟩) else 0 : EReal)) := by
  refine (congrFun (early m ρ c main_v50 (by decide) (by decide) (by decide) (by decide) (by decide) (by decide) (by decide) (by decide)) _).trans ?_
  show StableHlo.after hostOps1 (W2 m ρ c) (Proc.devRef .tc main_v50) (ix2 0 l) = _
  entry_read
  rw [← W2_args m ρ c main_arg6 (by decide)]
  generalize W2 m ρ c (Proc.devRef .tc main_arg6) = u
  refine Eq.trans ?_ (put64 (broadcastInDim S1x128 ![] bcast_S_S1x128 (constant (F := Ideal) S_ .f32 0x00000000#32)) (fun i => ?_) u l)
  · refine congrArg (fun idx : IVec S2 32 => Host.scatter scatter_S1x128_S2_S64_0_0_01_0 (fun _ b => b) _ idx u (ix2 (n0 := 1) (n1 := 128) 0 l)) ?_
    funext k; revert k
    decide +kernel
  · pointwise
/-- The lane row of the step sizes' bias. -/
theorem at55 (c : Dev nD) (l : Fin 128) : V11 m ρ c main_v55 (ix2 0 l)
    = ((if h : l.val < 32 then m ((c : Thread nD τ).loc main_arg7) (ix1 ⟨l.val, h⟩) else 0 : EReal)) := by
  refine (congrFun (early m ρ c main_v55 (by decide) (by decide) (by decide) (by decide) (by decide) (by decide) (by decide) (by decide)) _).trans ?_
  show StableHlo.after hostOps1 (W2 m ρ c) (Proc.devRef .tc main_v55) (ix2 0 l) = _
  entry_read
  rw [← W2_args m ρ c main_arg7 (by decide)]
  generalize W2 m ρ c (Proc.devRef .tc main_arg7) = u
  refine Eq.trans ?_ (put32 (broadcastInDim S1x128 ![] bcast_S_S1x128 (constant (F := Ideal) S_ .f32 0x00000000#32)) (fun i => ?_) u l)
  · refine congrArg (fun idx : IVec S2 32 => Host.scatter scatter_S1x128_S2_S32_0_0_01_0 (fun _ b => b) _ idx u (ix2 (n0 := 1) (n1 := 128) 0 l)) ?_
    funext k; revert k
    decide +kernel
  · pointwise
/-- A table of the rotations. -/
theorem at28 (c : Dev nD) (i : S2048x128.Idx) : V11 m ρ c main_v28 i
    = tab0 (fun k => Cert.ProjRefIdeal.Read.val_main_v16 (F := Ideal) (ix2 (i 0) k)) (i 1) := by
  refine (congrFun (early m ρ c main_v28 (by decide) (by decide) (by decide) (by decide) (by decide) (by decide) (by decide) (by decide)) i).trans ?_
  refine (congrFun (W3_of m ρ c main_v28 (by decide)) i).trans ?_
  refine (congrFun (W2_of m ρ c main_v28 (by decide)) i).trans ?_
  exact ProjTab.tab28 _ i
/-- A table of the rotations. -/
theorem at31 (c : Dev nD) (i : S2048x128.Idx) : V11 m ρ c main_v31 i
    = tab1 (fun k => Cert.ProjRefIdeal.Read.val_main_v17 (F := Ideal) (ix2 (i 0) k)) (i 1) := by
  refine (congrFun (early m ρ c main_v31 (by decide) (by decide) (by decide) (by decide) (by decide) (by decide) (by decide) (by decide)) i).trans ?_
  refine (congrFun (W3_of m ρ c main_v31 (by decide)) i).trans ?_
  refine (congrFun (W2_of m ρ c main_v31 (by decide)) i).trans ?_
  exact ProjTab.tab31 _ i
/-- A table of the rotations. -/
theorem at34 (c : Dev nD) (i : S2048x128.Idx) : V11 m ρ c main_v34 i
    = tab2 (fun k => Cert.ProjRefIdeal.Read.val_main_v17 (F := Ideal) (ix2 (i 0) k)) (i 1) := by
  refine (congrFun (early m ρ c main_v34 (by decide) (by decide) (by decide) (by decide) (by decide) (by decide) (by decide) (by decide)) i).trans ?_
  refine (congrFun (W3_of m ρ c main_v34 (by decide)) i).trans ?_
  refine (congrFun (W2_of m ρ c main_v34 (by decide)) i).trans ?_
  exact ProjTab.tab34 _ i
/-- The row permutation: the half a row lies in. -/
theorem word57 (c : Dev nD) : ∀ k : Fin 256, (W4 m ρ c (Proc.devRef .tc main_v57) (ix1 k) : BitVec 32) = BitVec.ofNat 32 (k.val / 128) := by
  intro k
  show (StableHlo.after hostOps1_1 (W3 m ρ c) (Proc.devRef .tc main_v57) (ix1 k) : BitVec 32) = _
  entry_read
  revert k
  decide +kernel
/-- The row permutation: its place in its group of eight. -/
theorem word60 (c : Dev nD) : ∀ k : Fin 256, (W6 m ρ c (Proc.devRef .tc main_v60) (ix1 k) : BitVec 32) = BitVec.ofNat 32 (k.val % 8) := by
  intro k
  show (StableHlo.after hostOps1_3 (W5 m ρ c) (Proc.devRef .tc main_v60) (ix1 k) : BitVec 32) = _
  entry_read
  revert k
  decide +kernel
/-- The row permutation: its group in the half. -/
theorem word65 (c : Dev nD) : ∀ k : Fin 256, (W10 m ρ c (Proc.devRef .tc main_v65) (ix1 k) : BitVec 32) = BitVec.ofNat 32 (k.val % 128 / 8) := by
  intro k
  show (StableHlo.after hostOps1_7 (W9 m ρ c) (Proc.devRef .tc main_v65) (ix1 k) : BitVec 32) = _
  entry_read
  revert k
  decide +kernel
/-- One step of the permutation's arithmetic: the half times 128. -/
theorem read59 (σ : Valuation τ sig (Elt Ideal)) (k : Fin 256) (u : BitVec 32)
    (hu : σ (Proc.devRef .tc main_v57) (ix1 k) = u) :
    StableHlo.after hostOps1_2 σ (Proc.devRef .tc main_v59) (ix1 k) = u * 128#32 := by
  entry_read
  rw [← hu]
  rfl
/-- One step of the permutation's arithmetic: plus sixteen times the place. -/
theorem read63 (σ : Valuation τ sig (Elt Ideal)) (k : Fin 256) (u v : BitVec 32)
    (hu : σ (Proc.devRef .tc main_v59) (ix1 k) = u) (hv : σ (Proc.devRef .tc main_v60) (ix1 k) = v) :
    StableHlo.after hostOps1_4 σ (Proc.devRef .tc main_v63) (ix1 k) = u + 16#32 * v := by
  entry_read
  rw [← hu, ← hv]
  rfl
/-- The permutation as a matrix of ones and zeros. -/
theorem read73 (σ : Valuation τ sig (Elt Ideal)) (a b : Fin 256) (u v : BitVec 32)
    (hu : σ (Proc.devRef .tc main_v63) (ix1 a) = u) (hv : σ (Proc.devRef .tc main_v65) (ix1 a) = v) :
    StableHlo.after hostOps1_8 σ (Proc.devRef .tc main_v73) (ix2 a b) = ((if BitVec.ofNat 32 b.val = u + v then 1 else 0 : EReal)) := by
  entry_read
  pointwise
  refine (congrArg (fun x : BitVec 32 => FloatOps.uitofp (F := Ideal) .bf16 (IntOp.cmpi CmpIPredicate.eq (BitVec.ofNat 32 b.val) x)) (congrArg₂ IntOp.addi hu hv)).trans ?_
  show (((BitVec.ofBool (BitVec.ofNat 32 b.val == u + v)).toNat : ℝ) : EReal) = _
  by_cases e : BitVec.ofNat 32 b.val = u + v
  · rw [if_pos e, beq_iff_eq.mpr e]; simp
  · rw [if_neg e, beq_eq_false_iff_ne.mpr e]; simp
/-- The place `k` of a block of 256 tokens takes its row from. -/
theorem word_eq : ∀ a b : Fin 256, (BitVec.ofNat 32 b.val = (BitVec.ofNat 32 (a.val / 128) * 128#32 + 16#32 * BitVec.ofNat 32 (a.val % 8)) + BitVec.ofNat 32 (a.val % 128 / 8))
    ↔ b.val = a.val / 128 * 128 + a.val % 8 * 16 + a.val / 8 % 16 := by
  intro a b
  have ha := a.isLt
  have hb := b.isLt
  have key : ∀ a : Fin 256, (BitVec.ofNat 32 (a.val / 128) * 128#32 + 16#32 * BitVec.ofNat 32 (a.val % 8)) + BitVec.ofNat 32 (a.val % 128 / 8)
      = BitVec.ofNat 32 (a.val / 128 * 128 + a.val % 8 * 16 + a.val / 8 % 16) := by decide +kernel
  rw [key a, ← BitVec.toNat_inj, BitVec.toNat_ofNat, BitVec.toNat_ofNat, Nat.mod_eq_of_lt (by omega), Nat.mod_eq_of_lt (by omega)]
/-- The row permutation: row `a` takes token `a / 128 * 128 + a % 8 * 16 + a / 8 % 16`. -/
theorem at73 (c : Dev nD) (a b : Fin 256) : V11 m ρ c main_v73 (ix2 a b)
    = ((if b.val = a.val / 128 * 128 + a.val % 8 * 16 + a.val / 8 % 16 then 1 else 0 : EReal)) := by
  have h59 : W5 m ρ c (Proc.devRef .tc main_v59) (ix1 a) = BitVec.ofNat 32 (a.val / 128) * 128#32 := read59 (W4 m ρ c) a _ (word57 m ρ c a)
  have h59' : W6 m ρ c (Proc.devRef .tc main_v59) (ix1 a) = BitVec.ofNat 32 (a.val / 128) * 128#32 :=
    (congrFun (W6_of m ρ c main_v59 (by decide)) _).trans h59
  have h63 := read63 (W6 m ρ c) a _ _ h59' (word60 m ρ c a)
  have h63' := (congrFun ((W10_of m ρ c main_v63 (by decide)).trans ((W9_of m ρ c main_v63 (by decide)).trans (W8_of m ρ c main_v63 (by decide)))) _).trans h63
  refine (read73 (W10 m ρ c) a b _ _ h63' (word65 m ρ c a)).trans ?_
  simp only [word_eq]

end Cert.ProjIdeal.ProjHost

end

end
-- ==== Proof.ProjPack.lean ====
module

public import proofs.«01_k».proof.Proof.Gen.ProjIdeal.Frame
public import proofs.«01_k».proof.Proof.PackValue
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.Tactic
open Idealize.ShloMosaic.Pipeline (Dat)

namespace Cert.ProjIdeal.ProjPack
open Cert.ProjIdeal Cert.ProjIdeal.Gen
open Cert.KernelIdeal.PackValue (src group src_eq src_cases)

variable {F : FTy → Type} [FloatOps F]
variable (m : (ℓ : Loc nD τ sig) → Buf (Elt F) ℓ) (ρ : Dev nD → PrngReg)

/-- The blocks the four element-indexed windows and the result window sit on at every grid point. -/
theorem idx : ∀ t : Fin cfg0.N, win0_0.index t = ![group (4 * t.val), 0, 0]
    ∧ win0_1.index t = ![group (4 * t.val + 1), 0, 0] ∧ win0_2.index t = ![group (4 * t.val + 2), 0, 0]
    ∧ win0_3.index t = ![group (4 * t.val + 3), 0, 0] ∧ win0_4.index t = ![0, t.val] :=
  (by decide +kernel : ∀ t : Fin grid0.N, _)

/-- One tile: rows regrouped eight by eight, transposed, and rounded to bf16. -/
theorem pay_at (x : Vec F S16x8x1024 .f32) (i : S1024x128.Idx) (j : S16x8x1024.Idx)
    (h0 : (j 0 : ℕ) = i 1 / 8) (h1 : (j 1 : ℕ) = i 1 % 8) (h2 : (j 2 : ℕ) = i 0) :
    k0_pay1 x i = FloatOps.truncf .bf16 bitsLt_bf16_f32 (x j) := by
  exact Cert.KernelIdeal.PackValue.pay_at x i j h0 h1 h2

/-- The transposed weights in groups of eight rows, at one element: an element of `w_in`. -/
theorem host_at (c : Dev nD) (i : S1005x8x1024.Idx) (k : S1024x8040.Idx)
    (h0 : (k 0 : ℕ) = i 2) (h1 : (k 1 : ℕ) = (i 0 : ℕ) * 8 + i 1) :
    V1 m ρ c main_v36 i = m ((c : Thread nD τ).loc main_arg1) k := by
  show StableHlo.after hostOps0 (W0 m ρ c) (Proc.devRef .tc main_v36) i = _
  entry_read
  pointwise
  blk_ext

/-- Window 0's block at one element. -/
theorem blk0 (c : Dev nD) (t : Fin cfg0.N) (j : S16x8x1024.Idx) (k : S1024x8040.Idx)
    (h0 : (k 0 : ℕ) = j 2) (h1 : (k 1 : ℕ) = (group (4 * t.val) + j 0) * 8 + j 1) :
    iblk0 (V1 m ρ) c 0 t j = m ((c : Thread nD τ).loc main_arg1) k := by
  have e := fun a => Pipeline.Window.rect_emb_val_off win0_0 t j a
  simp only [(idx t).1] at e
  exact host_at m ρ c _ k (h0.trans ((e 2).trans (Nat.zero_add _)).symm) (h1.trans (congrArg₂ (fun a b => a * 8 + b) (e 0).symm ((e 1).trans (Nat.zero_add _)).symm))

/-- Window 1's block at one element. -/
theorem blk1 (c : Dev nD) (t : Fin cfg0.N) (j : S16x8x1024.Idx) (k : S1024x8040.Idx)
    (h0 : (k 0 : ℕ) = j 2) (h1 : (k 1 : ℕ) = (group (4 * t.val + 1) + j 0) * 8 + j 1) :
    iblk0 (V1 m ρ) c 1 t j = m ((c : Thread nD τ).loc main_arg1) k := by
  have e := fun a => Pipeline.Window.rect_emb_val_off win0_1 t j a
  simp only [(idx t).2.1] at e
  exact host_at m ρ c _ k (h0.trans ((e 2).trans (Nat.zero_add _)).symm) (h1.trans (congrArg₂ (fun a b => a * 8 + b) (e 0).symm ((e 1).trans (Nat.zero_add _)).symm))

/-- Window 2's block at one element. -/
theorem blk2 (c : Dev nD) (t : Fin cfg0.N) (j : S16x8x1024.Idx) (k : S1024x8040.Idx)
    (h0 : (k 0 : ℕ) = j 2) (h1 : (k 1 : ℕ) = (group (4 * t.val + 2) + j 0) * 8 + j 1) :
    iblk0 (V1 m ρ) c 2 t j = m ((c : Thread nD τ).loc main_arg1) k := by
  have e := fun a => Pipeline.Window.rect_emb_val_off win0_2 t j a
  simp only [(idx t).2.2.1] at e
  exact host_at m ρ c _ k (h0.trans ((e 2).trans (Nat.zero_add _)).symm) (h1.trans (congrArg₂ (fun a b => a * 8 + b) (e 0).symm ((e 1).trans (Nat.zero_add _)).symm))

/-- Window 3's block at one element. -/
theorem blk3 (c : Dev nD) (t : Fin cfg0.N) (j : S16x8x1024.Idx) (k : S1024x8040.Idx)
    (h0 : (k 0 : ℕ) = j 2) (h1 : (k 1 : ℕ) = (group (4 * t.val + 3) + j 0) * 8 + j 1) :
    iblk0 (V1 m ρ) c 3 t j = m ((c : Thread nD τ).loc main_arg1) k := by
  have e := fun a => Pipeline.Window.rect_emb_val_off win0_3 t j a
  simp only [(idx t).2.2.2.1] at e
  exact host_at m ρ c _ k (h0.trans ((e 2).trans (Nat.zero_add _)).symm) (h1.trans (congrArg₂ (fun a b => a * 8 + b) (e 0).symm ((e 1).trans (Nat.zero_add _)).symm))

/-- What point `t` leaves at `y` of its result block: the rounded element of `w_in` that belongs there. -/
theorem point (c : Dev nD) (t : Fin cfg0.N) (y : S1024x512.Idx) (k : S1024x8040.Idx)
    (h0' : (k 0 : ℕ) = y 0) (h1' : (k 1 : ℕ) = src (512 * t.val + y 1)) :
    out0_4 (iblk0 (V1 m ρ) c 0 t) (iblk0 (V1 m ρ) c 1 t) (iblk0 (V1 m ρ) c 2 t) (iblk0 (V1 m ρ) c 3 t) y
      = FloatOps.truncf .bf16 bitsLt_bf16_f32 (m ((c : Thread nD τ).loc main_arg1) k) := by
  have ht : t.val < 16 := lt_of_lt_of_eq t.isLt N_0
  frame_out
  canon_tiles x h
  · have hs := src_eq (4 * t.val + 3) (x 1) (by omega) x1_lt
    refine (pay_at _ x (ix3 ⟨x 1 / 8, by omega⟩ ⟨x 1 % 8, by omega⟩ (x 0)) rfl rfl rfl).trans
      (congrArg _ (blk3 m ρ c t _ k (h0'.trans h0) (h1'.trans (Eq.trans (congrArg src ?_) hs.1))))
    omega
  · have hs := src_eq (4 * t.val + 2) (x 1) (by omega) x1_lt
    refine (pay_at _ x (ix3 ⟨x 1 / 8, by omega⟩ ⟨x 1 % 8, by omega⟩ (x 0)) rfl rfl rfl).trans
      (congrArg _ (blk2 m ρ c t _ k (h0'.trans h0) (h1'.trans (Eq.trans (congrArg src ?_) hs.1))))
    omega
  · have hs := src_eq (4 * t.val + 1) (x 1) (by omega) x1_lt
    refine (pay_at _ x (ix3 ⟨x 1 / 8, by omega⟩ ⟨x 1 % 8, by omega⟩ (x 0)) rfl rfl rfl).trans
      (congrArg _ (blk1 m ρ c t _ k (h0'.trans h0) (h1'.trans (Eq.trans (congrArg src ?_) hs.1))))
    omega
  · have hs := src_eq (4 * t.val) (x 1) (by omega) x1_lt
    refine (pay_at _ x (ix3 ⟨x 1 / 8, by omega⟩ ⟨x 1 % 8, by omega⟩ (x 0)) rfl rfl rfl).trans
      (congrArg _ (blk0 m ρ c t _ k (h0'.trans h0) (h1'.trans (Eq.trans (congrArg src ?_) hs.1))))
    omega

/-- After the packing, row `i` and packed column `p` hold the rounded element of `w_in` in column `src p`. -/
theorem packed (c : Dev nD) (G : S1024x8192.Idx → Elt F .bf16)
    (hG : ∀ (j : S1024x8192.Idx) (k : S1024x8040.Idx), (k 0 : ℕ) = j 0 → (k 1 : ℕ) = src (j 1) →
      G j = FloatOps.truncf .bf16 bitsLt_bf16_f32 (m ((c : Thread nD τ).loc main_arg1) k)) :
    (dat0 (V1 m ρ) c).arrAt 4 cfg0.N = G := by
  refine (dat0 (V1 m ρ) c).arrAt_eq_of_covers 4 _ (by decide +kernel) fun t _ y => ?_
  blk_simp
  rw [after0_4]
  have ht : t.val < 16 := lt_of_lt_of_eq t.isLt N_0
  have hy : ((y 1 : Fin _) : ℕ) < 512 := (y 1).isLt
  have hs := src_cases (512 * t.val + y 1)
  have hb : src (512 * t.val + y 1) < 8040 := by omega
  obtain_idx k : S1024x8040 := [(y 0 : ℕ), src (512 * t.val + y 1)] with hk
  refine (point m ρ c t y k hk0 hk1).trans (hG _ k ?_ ?_).symm
  · blk_simp [idx t]
    omega
  · rw [hk1]
    refine congrArg src ?_
    blk_simp [idx t]
    omega

end Cert.ProjIdeal.ProjPack

end
-- ==== Proof.ProjPay.lean ====
module

public import proofs.«01_k».proof.Proof.Gen.ProjIdeal.Skeleton
public import proofs.«01_k».proof.Proof.ProjRow
public import Idealize.ShloMosaic.Lib.Pointwise

@[expose] public section

set_option maxRecDepth 16384

noncomputable section

open Idealize.ShloMosaic Idealize.ShloMosaic.TcCoe Idealize.SL.Sem

namespace Cert.ProjIdeal.ProjPay
open Cert.ProjIdeal Cert.ProjIdeal.Gen Cert.ProjRow

/-- Row `r` of a block of 128 columns. -/
abbrev lanes (a : FVec Ideal S256x128 .f32) (r : Fin 256) : Fin 128 → EReal := fun l => a (ix2 r l)

/-- The 128 columns from `o` on of row `r` of a wider block. -/
abbrev cols {n : ℕ} (x : (Fin 256) → Fin n → EReal) (o : ℕ) (h : o + 128 ≤ n) (r : Fin 256) : Fin 128 → EReal :=
  fun l => x r ⟨o + l.val, by omega⟩

/-- A select under a comparison of two numbers. -/
theorem sel_of {α : Type} (c : BitVec 1) (p : Prop) [Decidable p] (h : c = BitVec.ofBool (decide p)) (x y : α) :
    Scalar.select c x y = if p then x else y := by
  subst h
  by_cases hp : p <;> simp [Scalar.select, hp]

/-- The lanes below 64. -/
theorem lt64 {α : Type} {n : ℕ} (h : n < 128) (x y : α) :
    Scalar.select (IntOp.cmpi .slt (BitVec.ofNat 32 n) 64#32) x y = if n < 64 then x else y :=
  sel_of _ _ ((by decide +kernel : ∀ n : Fin 128, IntOp.cmpi .slt (BitVec.ofNat 32 n.val) 64#32 = BitVec.ofBool (decide (n.val < 64))) ⟨n, h⟩) x y

/-- The lanes below 72. -/
theorem lt72 {α : Type} {n : ℕ} (h : n < 128) (x y : α) :
    Scalar.select (IntOp.cmpi .slt (BitVec.ofNat 32 n) 72#32) x y = if n < 72 then x else y :=
  sel_of _ _ ((by decide +kernel : ∀ n : Fin 128, IntOp.cmpi .slt (BitVec.ofNat 32 n.val) 72#32 = BitVec.ofBool (decide (n.val < 72))) ⟨n, h⟩) x y

/-- Lane 64. -/
theorem eq64 {α : Type} {n : ℕ} (h : n < 128) (x y : α) :
    Scalar.select (IntOp.cmpi .eq (BitVec.ofNat 32 n) 64#32) x y = if n = 64 then x else y :=
  sel_of _ _ ((by decide +kernel : ∀ n : Fin 128, IntOp.cmpi .eq (BitVec.ofNat 32 n.val) 64#32 = BitVec.ofBool (decide (n.val = 64))) ⟨n, h⟩) x y

/-- Row 0 of the rows under a value head. -/
theorem eq0 {α : Type} {n : ℕ} (h : n < 128) (x y : α) :
    Scalar.select (IntOp.cmpi .eq (BitVec.ofNat 32 n) 0#32) x y = if n = 0 then x else y :=
  sel_of _ _ ((by decide +kernel : ∀ n : Fin 128, IntOp.cmpi .eq (BitVec.ofNat 32 n.val) 0#32 = BitVec.ofBool (decide (n.val = 0))) ⟨n, h⟩) x y

/-- The lanes from 0 up to 32. -/
theorem in32 {α : Type} {n : ℕ} (h : n < 128) (x y : α) :
    Scalar.select (IntOp.andi (IntOp.cmpi .sge (BitVec.ofNat 32 n) 0#32) (IntOp.cmpi .slt (BitVec.ofNat 32 n) 32#32)) x y
      = if n < 32 then x else y :=
  sel_of _ _ ((by decide +kernel : ∀ n : Fin 128, IntOp.andi (IntOp.cmpi .sge (BitVec.ofNat 32 n.val) 0#32)
    (IntOp.cmpi .slt (BitVec.ofNat 32 n.val) 32#32) = BitVec.ofBool (decide (n.val < 32))) ⟨n, h⟩) x y

variable (a b d : FVec Ideal S256x128 .f32)

/-- Head pair 0 of the queries: its columns under `spin`, scaled, one column per token. -/
theorem q0 (y : FVec Ideal S256x256 .f32) (w : FVec Ideal S256x1024 .bf16) (i : S1x128x256.Idx) :
    k1_pay16 a b d y w i
      = spin (lanes a (i 2)) (lanes b (i 2)) (lanes d (i 2)) (cols (n := 1024) (fun r j => k1_pay15 (F := Ideal) y w (ix2 r j)) 0 (by decide) (i 2)) (i 1) * Ideal.ofBits .f32 0x3E38AA3B#32 := by
  pointwise [k1_pay16]
  simp only [spin, lanes, cols, Nat.zero_add]

/-- Head pair 1 of the queries: its columns under `spin`, scaled, one column per token. -/
theorem q1 (y : FVec Ideal S256x256 .f32) (w : FVec Ideal S256x1024 .bf16) (i : S1x128x256.Idx) :
    k1_pay17 a b d y w i
      = spin (lanes a (i 2)) (lanes b (i 2)) (lanes d (i 2)) (cols (n := 1024) (fun r j => k1_pay15 (F := Ideal) y w (ix2 r j)) 128 (by decide) (i 2)) (i 1) * Ideal.ofBits .f32 0x3E38AA3B#32 := by
  pointwise [k1_pay17]
  rfl

/-- Head pair 2 of the queries: its columns under `spin`, scaled, one column per token. -/
theorem q2 (y : FVec Ideal S256x256 .f32) (w : FVec Ideal S256x1024 .bf16) (i : S1x128x256.Idx) :
    k1_pay21 (k1_pay19 a b y w) (k1_pay20 d y w) i
      = spin (lanes a (i 2)) (lanes b (i 2)) (lanes d (i 2)) (cols (n := 1024) (fun r j => k1_pay15 (F := Ideal) y w (ix2 r j)) 256 (by decide) (i 2)) (i 1) * Ideal.ofBits .f32 0x3E38AA3B#32 := by
  pointwise [k1_pay21, k1_pay20, k1_pay19, k1_pay18]
  rfl

/-- Head pair 3 of the queries: its columns under `spin`, scaled, one column per token. -/
theorem q3 (x : FVec Ideal S256x1024 .f32) (i : S1x128x256.Idx) :
    k1_pay22 a b d x i
      = spin (lanes a (i 2)) (lanes b (i 2)) (lanes d (i 2)) (cols (n := 1024) (fun r j => x (ix2 r j)) 384 (by decide) (i 2)) (i 1) * Ideal.ofBits .f32 0x3E38AA3B#32 := by
  pointwise [k1_pay22]
  rfl

/-- Head pair 4 of the queries: its columns under `spin`, scaled, one column per token. -/
theorem q4 (x : FVec Ideal S256x1024 .f32) (i : S1x128x256.Idx) :
    k1_pay23 a b d x i
      = spin (lanes a (i 2)) (lanes b (i 2)) (lanes d (i 2)) (cols (n := 1024) (fun r j => x (ix2 r j)) 512 (by decide) (i 2)) (i 1) * Ideal.ofBits .f32 0x3E38AA3B#32 := by
  pointwise [k1_pay23]
  rfl

/-- Head pair 5 of the queries: its columns under `spin`, scaled, one column per token. -/
theorem q5 (x : FVec Ideal S256x1024 .f32) (i : S1x128x256.Idx) :
    k1_pay26 b d (k1_pay24 x) (k1_pay25 a x) 120#32 i
      = spin (lanes a (i 2)) (lanes b (i 2)) (lanes d (i 2)) (cols (n := 1024) (fun r j => x (ix2 r j)) 640 (by decide) (i 2)) (i 1) * Ideal.ofBits .f32 0x3E38AA3B#32 := by
  pointwise [k1_pay26, k1_pay25, k1_pay24]
  rfl

/-- Head pair 6 of the queries: its columns under `spin`, scaled, one column per token. -/
theorem q6 (x : FVec Ideal S256x1024 .f32) (i : S1x128x256.Idx) :
    k1_pay27 a b d x i
      = spin (lanes a (i 2)) (lanes b (i 2)) (lanes d (i 2)) (cols (n := 1024) (fun r j => x (ix2 r j)) 768 (by decide) (i 2)) (i 1) * Ideal.ofBits .f32 0x3E38AA3B#32 := by
  pointwise [k1_pay27]
  rfl

/-- Head pair 7 of the queries: its columns under `spin`, scaled, one column per token. -/
theorem q7 (x : FVec Ideal S256x1024 .f32) (i : S1x128x256.Idx) :
    k1_pay29 (k1_pay28 a b d x) i
      = spin (lanes a (i 2)) (lanes b (i 2)) (lanes d (i 2)) (cols (n := 1024) (fun r j => x (ix2 r j)) 896 (by decide) (i 2)) (i 1) * Ideal.ofBits .f32 0x3E38AA3B#32 := by
  pointwise [k1_pay29, k1_pay28]
  rfl

/-- Head pair 0 of the index queries: its columns under `spin`, scaled, one column per token. -/
theorem i0 (y : FVec Ideal S256x256 .bf16) (w : FVec Ideal S256x512 .bf16) (i : S1x128x256.Idx) :
    k1_pay31 a b d y w i
      = spin (lanes a (i 2)) (lanes b (i 2)) (lanes d (i 2)) (cols (n := 512) (fun r j => k1_pay30 (F := Ideal) y w (ix2 r j)) 0 (by decide) (i 2)) (i 1) * Ideal.ofBits .f32 0x3E000000#32 := by
  pointwise [k1_pay31]
  simp only [spin, lanes, cols, Nat.zero_add]

/-- Head pair 1 of the index queries: its columns under `spin`, scaled, one column per token. -/
theorem i1 (y : FVec Ideal S256x256 .bf16) (w : FVec Ideal S256x512 .bf16) (i : S1x128x256.Idx) :
    k1_pay32 a b d y w i
      = spin (lanes a (i 2)) (lanes b (i 2)) (lanes d (i 2)) (cols (n := 512) (fun r j => k1_pay30 (F := Ideal) y w (ix2 r j)) 128 (by decide) (i 2)) (i 1) * Ideal.ofBits .f32 0x3E000000#32 := by
  pointwise [k1_pay32]
  rfl

/-- Head pair 2 of the index queries: its columns under `spin`, scaled, one column per token. -/
theorem i2 (y : FVec Ideal S256x256 .bf16) (w : FVec Ideal S256x512 .bf16) (i : S1x128x256.Idx) :
    k1_pay35 d (k1_pay33 y w) (k1_pay34 a b y w) 8#32 i
      = spin (lanes a (i 2)) (lanes b (i 2)) (lanes d (i 2)) (cols (n := 512) (fun r j => k1_pay30 (F := Ideal) y w (ix2 r j)) 256 (by decide) (i 2)) (i 1) * Ideal.ofBits .f32 0x3E000000#32 := by
  pointwise [k1_pay35, k1_pay34, k1_pay33]
  rfl

/-- Head pair 3 of the index queries: its columns under `spin`, scaled, one column per token. -/
theorem i3 (x : FVec Ideal S256x512 .f32) (i : S1x128x256.Idx) :
    k1_pay36 a b d x i
      = spin (lanes a (i 2)) (lanes b (i 2)) (lanes d (i 2)) (cols (n := 512) (fun r j => x (ix2 r j)) 384 (by decide) (i 2)) (i 1) * Ideal.ofBits .f32 0x3E000000#32 := by
  pointwise [k1_pay36]
  rfl

/-- One key head: its columns under `spin`, then a column of ones and columns of zeros. -/
theorem k0 (x : FVec Ideal S256x896 .f32) (i : S1x1x256x128.Idx) :
    k1_pay41 (k1_pay37 a b d x) (k1_pay39 (iota .tc S256x128 32 [1] iota_S256x128_d1_w32)) (k1_pay40 (iota .tc S256x128 32 [1] iota_S256x128_d1_w32)) i
      = if (i 3).val < 64 then spin (lanes a (i 2)) (lanes b (i 2)) (lanes d (i 2)) (cols (n := 896) (fun r j => x (ix2 r j)) 256 (by decide) (i 2)) (i 3) else if (i 3).val = 64 then 1 else 0 := by
  pointwise [k1_pay41, k1_pay40, k1_pay39, k1_pay37]
  rw [lt64 (i 3).isLt, eq64 (i 3).isLt]
  rfl

/-- One key head: its columns under `spin`, then a column of ones and columns of zeros. -/
theorem k1 (x : FVec Ideal S256x896 .f32) (i : S1x1x256x128.Idx) :
    k1_pay42 (iota .tc S256x128 32 [1] iota_S256x128_d1_w32) (k1_pay38 a b d x) i
      = if (i 3).val < 64 then spin (lanes a (i 2)) (lanes b (i 2)) (lanes d (i 2)) (cols (n := 896) (fun r j => x (ix2 r j)) 256 (by decide) (i 2)) ⟨((i 3).val + 128 - 64) % 128, Nat.mod_lt _ (by decide)⟩ else if (i 3).val = 64 then 1 else 0 := by
  pointwise [k1_pay42, k1_pay38, k1_pay37]
  rw [lt64 (i 3).isLt, eq64 (i 3).isLt]
  rfl

/-- One key head: its columns under `spin`, then a column of ones and columns of zeros. -/
theorem k2 (x : FVec Ideal S256x896 .f32) (i : S1x1x256x128.Idx) :
    k1_pay49 a b d x (iota .tc S256x128 32 [1] iota_S256x128_d1_w32) i
      = if (i 3).val < 64 then spin (lanes a (i 2)) (lanes b (i 2)) (lanes d (i 2)) (cols (n := 896) (fun r j => x (ix2 r j)) 384 (by decide) (i 2)) (i 3) else if (i 3).val = 64 then 1 else 0 := by
  pointwise [k1_pay49, k1_pay48]
  rw [lt64 (i 3).isLt, eq64 (i 3).isLt]
  rfl

/-- One key head: its columns under `spin`, then a column of ones and columns of zeros. -/
theorem k3 (x : FVec Ideal S256x896 .f32) (i : S1x1x256x128.Idx) :
    k1_pay50 a b d x (iota .tc S256x128 32 [1] iota_S256x128_d1_w32) i
      = if (i 3).val < 64 then spin (lanes a (i 2)) (lanes b (i 2)) (lanes d (i 2)) (cols (n := 896) (fun r j => x (ix2 r j)) 384 (by decide) (i 2)) ⟨((i 3).val + 128 - 64) % 128, Nat.mod_lt _ (by decide)⟩ else if (i 3).val = 64 then 1 else 0 := by
  pointwise [k1_pay50, k1_pay48]
  rw [lt64 (i 3).isLt, eq64 (i 3).isLt]
  rfl

/-- One value head, a row per dimension, then a row of ones and rows of zeros. -/
theorem v0 (x : FVec Ideal S256x896 .f32) (i : S1x1x1x80x256.Idx) :
    k1_pay45 x i
      = if h : (i 3).val < 64 then x (ix2 (i 4) ⟨512 + (i 3).val, by omega⟩) else if (i 3).val = 64 then 1 else 0 := by
  pointwise [k1_pay45, k1_pay43, k1_pay44]
  have h80 : (i 3).val < 80 := (i 3).isLt
  rw [eq0 (by omega)]
  split_ifs <;> first | rfl | omega | exact congrArg x (congrArg (ix2 (i 4)) (Fin.ext (by dsimp only; omega)))

/-- One value head, a row per dimension, then a row of ones and rows of zeros. -/
theorem v1 (x : FVec Ideal S256x896 .f32) (i : S1x1x1x80x256.Idx) :
    k1_pay47 (k1_pay46 x) i
      = if h : (i 3).val < 64 then x (ix2 (i 4) ⟨576 + (i 3).val, by omega⟩) else if (i 3).val = 64 then 1 else 0 := by
  pointwise [k1_pay47, k1_pay46, k1_pay43, k1_pay44]
  have h80 : (i 3).val < 80 := (i 3).isLt
  rw [eq0 (by omega)]
  split_ifs <;> first | rfl | omega | exact congrArg x (congrArg (ix2 (i 4)) (Fin.ext (by dsimp only; omega)))

/-- One value head, a row per dimension, then a row of ones and rows of zeros. -/
theorem v2 (x : FVec Ideal S256x896 .f32) (i : S1x1x1x80x256.Idx) :
    k1_pay53 x i
      = if h : (i 3).val < 64 then x (ix2 (i 4) ⟨640 + (i 3).val, by omega⟩) else if (i 3).val = 64 then 1 else 0 := by
  pointwise [k1_pay53, k1_pay51, k1_pay52]
  have h80 : (i 3).val < 80 := (i 3).isLt
  rw [eq0 (by omega)]
  split_ifs <;> first | rfl | omega | exact congrArg x (congrArg (ix2 (i 4)) (Fin.ext (by dsimp only; omega)))

/-- One value head, a row per dimension, then a row of ones and rows of zeros. -/
theorem v3 (x : FVec Ideal S256x896 .f32) (i : S1x1x1x80x256.Idx) :
    k1_pay54 x i
      = if h : (i 3).val < 64 then x (ix2 (i 4) ⟨704 + (i 3).val, by omega⟩) else if (i 3).val = 64 then 1 else 0 := by
  pointwise [k1_pay54, k1_pay51, k1_pay52]
  have h80 : (i 3).val < 80 := (i 3).isLt
  rw [eq0 (by omega)]
  split_ifs <;> first | rfl | omega | exact congrArg x (congrArg (ix2 (i 4)) (Fin.ext (by dsimp only; omega)))

/-- The small columns: every token's row against the packed weights. -/
theorem small (x : FVec Ideal S1x256x1024 .f32) (w : FVec Ideal S1024x896 .bf16) (r : Fin 256) (j : Fin 896) :
    k1_pay7 (F := Ideal) x w (ix2 r j)
      = mulCol (fun k : Fin 1024 => x (ix3 0 r k)) (fun k j => w (ix2 k j)) j := by
  pointwise [k1_pay7, k1_pay2]
  rfl

/-- The token rows reordered by the permutation block. -/
theorem perm (x : FVec Ideal S1x256x1024 .f32) (w : FVec Ideal S256x256 .bf16) (r : Fin 256) (k : Fin 1024) :
    k1_pay6 (F := Ideal) x w (ix2 r k)
      = ∑ t : Fin 256, w (ix2 r t) * x (ix3 0 t k) := by
  pointwise [k1_pay6, k1_pay2]

/-- The state-space gate's columns from the reordered rows. -/
theorem zcols (x : FVec Ideal S256x1024 .bf16) (w : FVec Ideal S1024x2048 .bf16) (i : S1x256x2048.Idx) :
    k1_pay11 (F := Ideal) x w i
      = mulCol (fun k : Fin 1024 => x (ix2 (i 1) k)) (fun k j => w (ix2 k j)) (i 2) := by
  pointwise [k1_pay11]
  rfl

/-- The state-space input columns from the reordered rows. -/
theorem xcols (x : FVec Ideal S256x1024 .bf16) (w : FVec Ideal S1024x3072 .bf16) (i : S1x256x3072.Idx) :
    k1_pay12 (F := Ideal) x w i
      = mulCol (fun k : Fin 1024 => x (ix2 (i 1) k)) (fun k j => w (ix2 k j)) (i 2) := by
  pointwise [k1_pay12]
  rfl

/-- The branch gates' columns. -/
theorem gcols (x : FVec Ideal S1x256x1024 .f32) (w : FVec Ideal S1024x2048 .bf16) (i : S1x256x2048.Idx) :
    k1_pay1 (F := Ideal) (k1_pay2 x) (k1_pay62 w) i
      = mulCol (fun k : Fin 1024 => x (ix3 0 (i 1) k)) (fun k j => w (ix2 k j)) (i 2) := by
  pointwise [k1_pay1, k1_pay2, k1_pay62]
  rfl

/-- The normalised query latent. -/
theorem lat (x : FVec Ideal S256x896 .f32) (q : FVec Ideal S1x256 .f32) (r l : Fin 256) :
    k1_pay13 (F := Ideal) x q (ix2 r l)
      = latent (fun j : Fin 256 => x (ix2 r ⟨j.val, by omega⟩)) (fun l => q (ix2 0 l)) l := by
  pointwise [k1_pay13]
  rfl

/-- The queries from the latent. -/
theorem upq (y : FVec Ideal S256x256 .f32) (w : FVec Ideal S256x1024 .bf16) (r : Fin 256) (j : Fin 1024) :
    k1_pay15 (F := Ideal) y w (ix2 r j)
      = mulCol (fun l : Fin 256 => y (ix2 r l)) (fun k j => w (ix2 k j)) j := by
  pointwise [k1_pay15, k1_pay14]
  rfl

/-- The index queries from the latent. -/
theorem upi (y : FVec Ideal S256x256 .f32) (w : FVec Ideal S256x512 .bf16) (r : Fin 256) (j : Fin 512) :
    k1_pay30 (F := Ideal) (k1_pay14 y) w (ix2 r j)
      = mulCol (fun l : Fin 256 => y (ix2 r l)) (fun k j => w (ix2 k j)) j := by
  pointwise [k1_pay30, k1_pay14]
  rfl

/-- The step sizes: the softplus of the shifted columns on the first 32 lanes. -/
theorem steps (x : FVec Ideal S1x256x1024 .f32) (p : FVec Ideal S256x256 .bf16) (w : FVec Ideal S1024x128 .bf16) (g : FVec Ideal S1x128 .f32) (i : S1x256x128.Idx) :
    k1_pay10 (F := Ideal) (iota .tc S256x128 32 [1] iota_S256x128_d1_w32) (k1_pay8 x p w g) k1_pay9 32#32 i
      = if (i 2).val < 32 then softplus (mulCol (fun k : Fin 1024 => k1_pay6 (F := Ideal) x p (ix2 (i 1) k)) (fun k j => w (ix2 k j)) (i 2) + g (ix2 0 (i 2))) else 0 := by
  pointwise [k1_pay10, k1_pay9, k1_pay8]
  rw [in32 (i 2).isLt]
  rfl

/-- The index key's 64 lanes less their mean. -/
theorem cen (x : FVec Ideal S256x896 .f32) (r : Fin 256) (l : Fin 128) :
    k1_pay57 (F := Ideal) x (iota .tc S256x128 32 [1] iota_S256x128_d1_w32) (ix2 r l)
      = if l.val < 64 then x (ix2 r ⟨768 + l.val, by omega⟩) - mean64 (fun i => x (ix2 r ⟨768 + i.val, by omega⟩)) else 0 := by
  pointwise [k1_pay57, k1_pay56, k1_pay55]
  rw [lt64 l.isLt, mean64_eq]
  refine if_congr Iff.rfl (congrArg (x (ix2 r ⟨768 + l.val, _⟩) - ·) (congrArg (· * _) ?_)) rfl
  refine sum_half _ _ (fun i l h => ?_) (fun l h => ?_)
  · rw [lt64 l.isLt, if_pos (by omega)]
    exact congrArg x (congrArg (ix2 r) (Fin.ext (congrArg (768 + ·) h)))
  · rw [lt64 l.isLt, if_neg (by omega)]

/-- The sum of squares of a row. -/
theorem sq (x : FVec Ideal S256x896 .f32) (r : Fin 256) :
    k1_pay58 (F := Ideal) x (iota .tc S256x128 32 [1] iota_S256x128_d1_w32) (ix2 r 0)
      = ∑ l : Fin 128, k1_pay57 (F := Ideal) x (iota .tc S256x128 32 [1] iota_S256x128_d1_w32) (ix2 r l) * k1_pay57 (F := Ideal) x (iota .tc S256x128 32 [1] iota_S256x128_d1_w32) (ix2 r l) := by
  pointwise [k1_pay58]

/-- The index key after its normalisation, under `spin`. -/
theorem rot (u : FVec Ideal S256x128 .f32) (v : FVec Ideal S256x1 .f32) (s : EReal) (g h : FVec Ideal S1x128 .f32) (r : Fin 256) (l : Fin 128) :
    k1_pay59 (F := Ideal) a b d u v s g h (ix2 r l)
      = spin (lanes a r) (lanes b r) (lanes d r) (fun l => u (ix2 r l) * Ideal.rsqrt (v (ix2 r 0) * s + Ideal.ofBits .f32 0x3727C5AC#32) * g (ix2 0 l) + h (ix2 0 l)) l := by
  pointwise [k1_pay59]
  rfl

/-- The index key's 64 lanes. -/
theorem kidx (u : FVec Ideal S256x128 .f32) (v : FVec Ideal S256x1 .f32) (s : EReal) (g h : FVec Ideal S1x128 .f32) (i : S1x256x64.Idx) :
    k1_pay60 (F := Ideal) a b d u v s g h i
      = k1_pay59 (F := Ideal) a b d u v s g h (ix2 (i 1) ⟨(i 2).val, lt_of_lt_of_le (i 2).isLt (by decide)⟩) := by
  pointwise [k1_pay60]

/-- The transposed tail: the index key, the scaled index weights, zeros. -/
theorem tailt (e u : FVec Ideal S256x128 .f32) (v : FVec Ideal S256x1 .f32) (s : EReal) (g h : FVec Ideal S1x128 .f32) (i : S1x128x256.Idx) :
    k1_pay61 (F := Ideal) a b d (iota .tc S256x128 32 [1] iota_S256x128_d1_w32) e (k1_pay56 (iota .tc S256x128 32 [1] iota_S256x128_d1_w32)) u v s g h i
      = if (i 1).val < 64 then k1_pay59 (F := Ideal) a b d u v s g h (ix2 (i 2) (i 1)) else if (i 1).val < 72 then e (ix2 (i 2) (i 1)) * Ideal.ofBits .f32 0x3EB504F3#32 else 0 := by
  pointwise [k1_pay61, k1_pay56]
  rw [lt64 (i 1).isLt, lt72 (i 1).isLt]

end Cert.ProjIdeal.ProjPay

end
-- ==== Proof.ProjOut.lean ====
module

public import proofs.«01_k».proof.Proof.Gen.ProjIdeal.Frame
public import proofs.«01_k».proof.Proof.ProjPay
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjIdeal.ProjOut
open Cert.ProjIdeal Cert.ProjIdeal.Gen Cert.ProjRow

variable (x0 : Vec Ideal S1x256x1024 .f32) (x1 : Vec Ideal S1024x8192 .bf16) (x2 : Vec Ideal S256x256 .bf16)
  (x3 : Vec Ideal S1x256 .f32) (x4 : Vec Ideal S256x1024 .bf16) (x5 : Vec Ideal S256x512 .bf16)
  (x6 x7 x8 : Vec Ideal S1x128 .f32) (x9 x10 x11 : Vec Ideal S256x128 .f32)

/-- Token row `r` against packed column `j`. -/
def col (r : Fin 256) (j : Fin 8192) : EReal := mulCol (fun k : Fin 1024 => x0 (ix3 0 r k)) (fun k j => x1 (ix2 k j)) j

/-- Reordered token row `r` against packed column `j`. -/
def colp (r : Fin 256) (j : Fin 8192) : EReal :=
  mulCol (fun k : Fin 1024 => ∑ t : Fin 256, x2 (ix2 r t) * x0 (ix3 0 t k)) (fun k j => x1 (ix2 k j)) j

/-- The normalised query latent of token row `r`. -/
def lq (r l : Fin 256) : EReal := latent (fun j => col x0 x1 r ⟨j.val, by omega⟩) (fun l => x3 (ix2 0 l)) l

/-- The tables' row `r` applied to a row of 128 lanes. -/
def turn (r : Fin 256) (t : Fin 128 → EReal) (l : Fin 128) : EReal :=
  spin (fun l => x9 (ix2 r l)) (fun l => x10 (ix2 r l)) (fun l => x11 (ix2 r l)) t l

/-- The centred index-key lanes. -/
def cenl (r : Fin 256) (l : Fin 128) : EReal :=
  if l.val < 64 then col x0 x1 r ⟨768 + l.val, by omega⟩ - mean64 (fun i => col x0 x1 r ⟨768 + i.val, by omega⟩) else 0

/-- The index key's 128 lanes after normalisation and rope. -/
def kil (r : Fin 256) (l : Fin 128) : EReal :=
  turn x9 x10 x11 r (fun l => cenl x0 x1 r l * Ideal.rsqrt ((∑ i : Fin 128, cenl x0 x1 r i * cenl x0 x1 r i) * Ideal.ofBits .f32 0x3C800000#32
    + Ideal.ofBits .f32 0x3727C5AC#32) * x6 (ix2 0 l) + x7 (ix2 0 l)) l

/-- The first table's block, unchanged. -/
theorem rc_at (r : Fin 256) (l : Fin 128) :
    k1_pay64 (F := Ideal) x0 x1 x2 x3 x4 x5 x6 x7 x8 x9 x10 x11 (ix2 r l)
      = x9 (ix2 r l) := by
  pointwise [k1_pay64, k1_pay3]

/-- The second table's block, unchanged. -/
theorem rs1_at (r : Fin 256) (l : Fin 128) :
    k1_pay65 (F := Ideal) x0 x1 x2 x3 x4 x5 x6 x7 x8 x9 x10 x11 (ix2 r l)
      = x10 (ix2 r l) := by
  pointwise [k1_pay65, k1_pay4]

/-- The third table's block, unchanged. -/
theorem rs2_at (r : Fin 256) (l : Fin 128) :
    k1_pay66 (F := Ideal) x0 x1 x2 x3 x4 x5 x6 x7 x8 x9 x10 x11 (ix2 r l)
      = x11 (ix2 r l) := by
  pointwise [k1_pay66, k1_pay5]

/-- The small columns. -/
theorem pa_at (r : Fin 256) (j : Fin 896) :
    k1_pay68 (F := Ideal) x0 x1 x2 x3 x4 x5 x6 x7 x8 x9 x10 x11 (ix2 r j)
      = col x0 x1 r ⟨j.val, by omega⟩ := by
  unfold k1_pay68
  rw [ProjPay.small]
  pointwise [mulCol, col]

/-- The reordered rows. -/
theorem xp_at (r : Fin 256) (k : Fin 1024) :
    k1_pay67 (F := Ideal) x0 x1 x2 x3 x4 x5 x6 x7 x8 x9 x10 x11 (ix2 r k)
      = ∑ t : Fin 256, x2 (ix2 r t) * x0 (ix3 0 t k) := by
  unfold k1_pay67
  rw [ProjPay.perm]
  pointwise

/-- The latent. -/
theorem cq_at (r l : Fin 256) :
    k1_pay69 (F := Ideal) x0 x1 x2 x3 x4 x5 x6 x7 x8 x9 x10 x11 (ix2 r l)
      = lq x0 x1 x3 r l := by
  unfold k1_pay69
  rw [ProjPay.lat]
  simp only [pa_at, lq]
  pointwise

/-- The queries. -/
theorem qf_at (r : Fin 256) (j : Fin 1024) :
    k1_pay71 (F := Ideal) x0 x1 x2 x3 x4 x5 x6 x7 x8 x9 x10 x11 (ix2 r j)
      = mulCol (lq x0 x1 x3 r) (fun k j => x4 (ix2 k j)) j := by
  unfold k1_pay71
  rw [ProjPay.upq]
  simp only [cq_at]
  pointwise

/-- A head pair of a tiled output: the tile at `o` holds the 128 columns from `o` on. -/
theorem pair_eq (n : ℕ) (hn : n % 128 = 0) (a b d : FVec Ideal S256x128 .f32) (ha : ∀ r l, a (ix2 r l) = x9 (ix2 r l))
    (hb : ∀ r l, b (ix2 r l) = x10 (ix2 r l)) (hd : ∀ r l, d (ix2 r l) = x11 (ix2 r l)) (u : Fin 256 → Fin n → EReal)
    (t : Fin 256 → Fin n → EReal) (r r' : Fin 256) (o : ℕ) (h : o + 128 ≤ n) (l : Fin 128) (y : Fin n)
    (ho : o % 128 = 0) (hy : y.val = o + l.val) (hr : r'.val = r.val) (hu : ∀ r j, u r j = t r j) :
    spin (ProjPay.lanes a r) (ProjPay.lanes b r) (ProjPay.lanes d r) (ProjPay.cols u o h r) l
      = turn x9 x10 x11 r' (fun l => t r' ⟨128 * (y.val / 128) + l.val, by have := y.isLt; omega⟩) ⟨y.val % 128, Nat.mod_lt _ (by decide)⟩ := by
  obtain rfl : r' = r := Fin.ext hr
  have e : 128 * (y.val / 128) = o := by have := l.isLt; omega
  have e' : (⟨y.val % 128, Nat.mod_lt _ (by decide)⟩ : Fin 128) = l := Fin.ext (by have := l.isLt; dsimp only; omega)
  have e1 : ProjPay.lanes a r' = fun l => x9 (ix2 r' l) := funext fun l => ha r' l
  have e2 : ProjPay.lanes b r' = fun l => x10 (ix2 r' l) := funext fun l => hb r' l
  have e3 : ProjPay.lanes d r' = fun l => x11 (ix2 r' l) := funext fun l => hd r' l
  have e4 : ProjPay.cols u o h r' = fun l => t r' ⟨128 * (y.val / 128) + l.val, by have := y.isLt; omega⟩ :=
    funext fun l => (hu _ _).trans (congrArg (t r') (Fin.ext (congrArg (· + l.val) e.symm)))
  unfold turn
  rw [e', e1, e2, e3, e4]

/-- The queries' block: every head pair turned and scaled, one column per token. -/
theorem out12_at (y : S1x1024x256.Idx) :
    out1_12 (F := Ideal) x0 x1 x2 x3 x4 x5 x6 x7 x8 x9 x10 x11 y
      = turn x9 x10 x11 (y 2) (fun l => mulCol (lq x0 x1 x3 (y 2)) (fun k j => x4 (ix2 k j)) ⟨128 * ((y 1).val / 128) + l.val, by have : (y 1).val < 1024 := (y 1).isLt; omega⟩) ⟨(y 1).val % 128, Nat.mod_lt _ (by decide)⟩ * Ideal.ofBits .f32 0x3E38AA3B#32 := by
  unfold out1_12 k1_pay71
  canon_tiles x h
  · refine (ProjPay.q7 _ _ _ _ x).trans (congrArg (· * _) (pair_eq x9 x10 x11 1024 (by decide) _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _
      (fun r j => mulCol (lq x0 x1 x3 r) (fun k j => x4 (ix2 k j)) j) (x 2) (y 2) 896 _ (x 1) (y 1) (by decide) h1 h2 fun r j => ?_))
    simp only [ProjPay.upq, cq_at]
    pointwise
  · refine (ProjPay.q6 _ _ _ _ x).trans (congrArg (· * _) (pair_eq x9 x10 x11 1024 (by decide) _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _
      (fun r j => mulCol (lq x0 x1 x3 r) (fun k j => x4 (ix2 k j)) j) (x 2) (y 2) 768 _ (x 1) (y 1) (by decide) h1 h2 fun r j => ?_))
    simp only [ProjPay.upq, cq_at]
    pointwise
  · refine (ProjPay.q5 _ _ _ _ x).trans (congrArg (· * _) (pair_eq x9 x10 x11 1024 (by decide) _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _
      (fun r j => mulCol (lq x0 x1 x3 r) (fun k j => x4 (ix2 k j)) j) (x 2) (y 2) 640 _ (x 1) (y 1) (by decide) h1 h2 fun r j => ?_))
    simp only [ProjPay.upq, cq_at]
    pointwise
  · refine (ProjPay.q4 _ _ _ _ x).trans (congrArg (· * _) (pair_eq x9 x10 x11 1024 (by decide) _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _
      (fun r j => mulCol (lq x0 x1 x3 r) (fun k j => x4 (ix2 k j)) j) (x 2) (y 2) 512 _ (x 1) (y 1) (by decide) h1 h2 fun r j => ?_))
    simp only [ProjPay.upq, cq_at]
    pointwise
  · refine (ProjPay.q3 _ _ _ _ x).trans (congrArg (· * _) (pair_eq x9 x10 x11 1024 (by decide) _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _
      (fun r j => mulCol (lq x0 x1 x3 r) (fun k j => x4 (ix2 k j)) j) (x 2) (y 2) 384 _ (x 1) (y 1) (by decide) h1 h2 fun r j => ?_))
    simp only [ProjPay.upq, cq_at]
    pointwise
  · refine (ProjPay.q2 _ _ _ _ _ x).trans (congrArg (· * _) (pair_eq x9 x10 x11 1024 (by decide) _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _
      (fun r j => mulCol (lq x0 x1 x3 r) (fun k j => x4 (ix2 k j)) j) (x 2) (y 2) 256 _ (x 1) (y 1) (by decide) h1 h2 fun r j => ?_))
    simp only [ProjPay.upq, cq_at]
    pointwise
  · refine (ProjPay.q1 _ _ _ _ _ x).trans (congrArg (· * _) (pair_eq x9 x10 x11 1024 (by decide) _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _
      (fun r j => mulCol (lq x0 x1 x3 r) (fun k j => x4 (ix2 k j)) j) (x 2) (y 2) 128 _ (x 1) (y 1) (by decide) h1 h2 fun r j => ?_))
    simp only [ProjPay.upq, cq_at]
    pointwise
  · refine (ProjPay.q0 _ _ _ _ _ x).trans (congrArg (· * _) (pair_eq x9 x10 x11 1024 (by decide) _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _
      (fun r j => mulCol (lq x0 x1 x3 r) (fun k j => x4 (ix2 k j)) j) (x 2) (y 2) 0 _ (x 1) (y 1) (by decide) (h1.trans (Nat.zero_add _).symm) h2 fun r j => ?_))
    simp only [ProjPay.upq, cq_at]
    pointwise

/-- The index queries' block: every head pair turned and scaled, one column per token. -/
theorem out13_at (y : S1x512x256.Idx) :
    out1_13 (F := Ideal) x0 x1 x2 x3 x4 x5 x6 x7 x8 x9 x10 x11 y
      = turn x9 x10 x11 (y 2) (fun l => mulCol (lq x0 x1 x3 (y 2)) (fun k j => x5 (ix2 k j)) ⟨128 * ((y 1).val / 128) + l.val, by have : (y 1).val < 512 := (y 1).isLt; omega⟩) ⟨(y 1).val % 128, Nat.mod_lt _ (by decide)⟩ * Ideal.ofBits .f32 0x3E000000#32 := by
  unfold out1_13 k1_pay70
  canon_tiles x h
  · refine (ProjPay.i3 _ _ _ _ x).trans (congrArg (· * _) (pair_eq x9 x10 x11 512 (by decide) _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _
      (fun r j => mulCol (lq x0 x1 x3 r) (fun k j => x5 (ix2 k j)) j) (x 2) (y 2) 384 _ (x 1) (y 1) (by decide) h1 h2 fun r j => ?_))
    simp only [ProjPay.upi, cq_at]
    pointwise
  · refine (ProjPay.i2 _ _ _ _ _ x).trans (congrArg (· * _) (pair_eq x9 x10 x11 512 (by decide) _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _
      (fun r j => mulCol (lq x0 x1 x3 r) (fun k j => x5 (ix2 k j)) j) (x 2) (y 2) 256 _ (x 1) (y 1) (by decide) h1 h2 fun r j => ?_))
    simp only [ProjPay.upi, cq_at]
    pointwise
  · refine (ProjPay.i1 _ _ _ _ _ x).trans (congrArg (· * _) (pair_eq x9 x10 x11 512 (by decide) _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _
      (fun r j => mulCol (lq x0 x1 x3 r) (fun k j => x5 (ix2 k j)) j) (x 2) (y 2) 128 _ (x 1) (y 1) (by decide) h1 h2 fun r j => ?_))
    simp only [ProjPay.upi, cq_at]
    pointwise
  · refine (ProjPay.i0 _ _ _ _ _ x).trans (congrArg (· * _) (pair_eq x9 x10 x11 512 (by decide) _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _
      (fun r j => mulCol (lq x0 x1 x3 r) (fun k j => x5 (ix2 k j)) j) (x 2) (y 2) 0 _ (x 1) (y 1) (by decide) (h1.trans (Nat.zero_add _).symm) h2 fun r j => ?_))
    simp only [ProjPay.upi, cq_at]
    pointwise

/-- A tile's 128 columns under the tables, at a lane and an offset given by their values. -/
theorem turn_eq (a b d : FVec Ideal S256x128 .f32) (ha : ∀ r l, a (ix2 r l) = x9 (ix2 r l))
    (hb : ∀ r l, b (ix2 r l) = x10 (ix2 r l)) (hd : ∀ r l, d (ix2 r l) = x11 (ix2 r l)) (u : Fin 256 → Fin 896 → EReal)
    (hu : ∀ r (j : Fin 896), u r j = col x0 x1 r ⟨j.val, by omega⟩) (r r' : Fin 256) (o o' : ℕ) (h : o + 128 ≤ 896) (h' : o' + 128 ≤ 896) (l l' : Fin 128)
    (ho : o' = o) (hl : l'.val = l.val) (hr : r'.val = r.val) :
    spin (ProjPay.lanes a r) (ProjPay.lanes b r) (ProjPay.lanes d r) (ProjPay.cols u o h r) l
      = turn x9 x10 x11 r' (fun l => col x0 x1 r' ⟨o' + l.val, by omega⟩) l' := by
  obtain rfl : r' = r := Fin.ext hr
  obtain rfl : l' = l := Fin.ext hl
  subst ho
  have e1 : ProjPay.lanes a r' = fun l => x9 (ix2 r' l) := funext fun l => ha r' l
  have e2 : ProjPay.lanes b r' = fun l => x10 (ix2 r' l) := funext fun l => hb r' l
  have e3 : ProjPay.lanes d r' = fun l => x11 (ix2 r' l) := funext fun l => hd r' l
  have e4 : ProjPay.cols u o' h r' = fun l => col x0 x1 r' ⟨o' + l.val, by omega⟩ := funext fun l => hu _ _
  unfold turn
  rw [e1, e2, e3, e4]

/-- The keys' block: four heads, then a column of ones and columns of zeros. -/
theorem out14_at (y : S1x4x256x128.Idx) :
    out1_14 (F := Ideal) x0 x1 x2 x3 x4 x5 x6 x7 x8 x9 x10 x11 y
      = if g : (y 3).val < 64 then turn x9 x10 x11 (y 2) (fun l => col x0 x1 (y 2) ⟨256 + 128 * ((y 1).val / 2) + l.val, by have : (y 1).val < 4 := (y 1).isLt; omega⟩) ⟨64 * ((y 1).val % 2) + (y 3).val, by omega⟩ else if (y 3).val = 64 then 1 else 0 := by
  unfold out1_14 k1_pay63
  canon_tiles x h
  · have e1 : (y 1).val = 3 := by omega
    refine (ProjPay.k3 _ _ _ _ x).trans ?_
    by_cases g : (x 3).val < 64
    · have g3 : (y 3).val < 64 := by omega
      rw [if_pos g, dif_pos g3]
      refine turn_eq x0 x1 x9 x10 x11 _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _ (pa_at x0 x1 x2 x3 x4 x5 x6 x7 x8 x9 x10 x11) (x 2) (y 2) _ _ _ (by omega) _ _ ?_ ?_ h2
      · omega
      · dsimp only
        omega
    · have g3 : ¬ (y 3).val < 64 := by omega
      rw [if_neg g, dif_neg g3]
      exact if_congr (by omega) rfl rfl
  · have e1 : (y 1).val = 2 := by omega
    refine (ProjPay.k2 _ _ _ _ x).trans ?_
    by_cases g : (x 3).val < 64
    · have g3 : (y 3).val < 64 := by omega
      rw [if_pos g, dif_pos g3]
      refine turn_eq x0 x1 x9 x10 x11 _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _ (pa_at x0 x1 x2 x3 x4 x5 x6 x7 x8 x9 x10 x11) (x 2) (y 2) _ _ _ (by omega) _ _ ?_ ?_ h2
      · omega
      · dsimp only
        omega
    · have g3 : ¬ (y 3).val < 64 := by omega
      rw [if_neg g, dif_neg g3]
      exact if_congr (by omega) rfl rfl
  · have e1 : (y 1).val = 1 := by omega
    refine (ProjPay.k1 _ _ _ _ x).trans ?_
    by_cases g : (x 3).val < 64
    · have g3 : (y 3).val < 64 := by omega
      rw [if_pos g, dif_pos g3]
      refine turn_eq x0 x1 x9 x10 x11 _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _ (pa_at x0 x1 x2 x3 x4 x5 x6 x7 x8 x9 x10 x11) (x 2) (y 2) _ _ _ (by omega) _ _ ?_ ?_ h2
      · omega
      · dsimp only
        omega
    · have g3 : ¬ (y 3).val < 64 := by omega
      rw [if_neg g, dif_neg g3]
      exact if_congr (by omega) rfl rfl
  · have e1 : (y 1).val = 0 := by omega
    refine (ProjPay.k0 _ _ _ _ x).trans ?_
    by_cases g : (x 3).val < 64
    · have g3 : (y 3).val < 64 := by omega
      rw [if_pos g, dif_pos g3]
      refine turn_eq x0 x1 x9 x10 x11 _ _ _ (rc_at x0 x1 x2 x3 x4 x5 x6 x7 x8 x9 x10 x11) (rs1_at x0 x1 x2 x3 x4 x5 x6 x7 x8 x9 x10 x11) (rs2_at x0 x1 x2 x3 x4 x5 x6 x7 x8 x9 x10 x11) _ (pa_at x0 x1 x2 x3 x4 x5 x6 x7 x8 x9 x10 x11) (x 2) (y 2) _ _ _ (by omega) _ _ ?_ ?_ h2
      · omega
      · dsimp only
        omega
    · have g3 : ¬ (y 3).val < 64 := by omega
      rw [if_neg g, dif_neg g3]
      exact if_congr (by omega) rfl rfl

/-- The values' block: four heads, one row per dimension, then a row of ones and rows of zeros. -/
theorem out15_at (y : S1x4x1x80x256.Idx) :
    out1_15 (F := Ideal) x0 x1 x2 x3 x4 x5 x6 x7 x8 x9 x10 x11 y
      = if g : (y 3).val < 64 then col x0 x1 (y 4) ⟨512 + 64 * (y 1).val + (y 3).val, by have : (y 1).val < 4 := (y 1).isLt; omega⟩ else if (y 3).val = 64 then 1 else 0 := by
  unfold out1_15
  canon_tiles x h
  · have e1 : (y 1).val = 3 := by omega
    have e4 : y 4 = x 4 := Fin.ext h4
    refine (ProjPay.v3 _ x).trans ?_
    by_cases g : (x 3).val < 64
    · rw [dif_pos g, dif_pos (by omega)]
      exact (pa_at x0 x1 x2 x3 x4 x5 x6 x7 x8 x9 x10 x11 (x 4) _).trans (congr (congrArg (col x0 x1) e4.symm) (Fin.ext (by dsimp only; omega)))
    · rw [dif_neg g, dif_neg (by omega)]
      exact if_congr (by omega) rfl rfl
  · have e1 : (y 1).val = 2 := by omega
    have e4 : y 4 = x 4 := Fin.ext h4
    refine (ProjPay.v2 _ x).trans ?_
    by_cases g : (x 3).val < 64
    · rw [dif_pos g, dif_pos (by omega)]
      exact (pa_at x0 x1 x2 x3 x4 x5 x6 x7 x8 x9 x10 x11 (x 4) _).trans (congr (congrArg (col x0 x1) e4.symm) (Fin.ext (by dsimp only; omega)))
    · rw [dif_neg g, dif_neg (by omega)]
      exact if_congr (by omega) rfl rfl
  · have e1 : (y 1).val = 1 := by omega
    have e4 : y 4 = x 4 := Fin.ext h4
    refine (ProjPay.v1 _ x).trans ?_
    by_cases g : (x 3).val < 64
    · rw [dif_pos g, dif_pos (by omega)]
      exact (pa_at x0 x1 x2 x3 x4 x5 x6 x7 x8 x9 x10 x11 (x 4) _).trans (congr (congrArg (col x0 x1) e4.symm) (Fin.ext (by dsimp only; omega)))
    · rw [dif_neg g, dif_neg (by omega)]
      exact if_congr (by omega) rfl rfl
  · have e1 : (y 1).val = 0 := by omega
    have e4 : y 4 = x 4 := Fin.ext h4
    refine (ProjPay.v0 _ x).trans ?_
    by_cases g : (x 3).val < 64
    · rw [dif_pos g, dif_pos (by omega)]
      exact (pa_at x0 x1 x2 x3 x4 x5 x6 x7 x8 x9 x10 x11 (x 4) _).trans (congr (congrArg (col x0 x1) e4.symm) (Fin.ext (by dsimp only; omega)))
    · rw [dif_neg g, dif_neg (by omega)]
      exact if_congr (by omega) rfl rfl

/-- The centred index-key lanes. -/
theorem cen_at (r : Fin 256) (l : Fin 128) :
    k1_pay72 (F := Ideal) x0 x1 x2 x3 x4 x5 x6 x7 x8 x9 x10 x11 (ix2 r l)
      = cenl x0 x1 r l := by
  unfold k1_pay72 k1_pay63
  rw [ProjPay.cen]
  simp only [pa_at, cenl]

/-- Their sum of squares. -/
theorem sq_at (r : Fin 256) :
    k1_pay73 (F := Ideal) x0 x1 x2 x3 x4 x5 x6 x7 x8 x9 x10 x11 (ix2 r 0)
      = ∑ l : Fin 128, cenl x0 x1 r l * cenl x0 x1 r l := by
  have e := fun l => cen_at x0 x1 x2 x3 x4 x5 x6 x7 x8 x9 x10 x11 r l
  unfold k1_pay72 k1_pay63 at e
  unfold k1_pay73 k1_pay63
  rw [ProjPay.sq]
  simp only [e]

/-- The index key's 128 lanes. -/
theorem kil_at (g h : FVec Ideal S1x128 .f32) (hg : ∀ l, g (ix2 0 l) = x6 (ix2 0 l)) (hh : ∀ l, h (ix2 0 l) = x7 (ix2 0 l)) (r : Fin 256) (l : Fin 128) :
    k1_pay59 (F := Ideal) (k1_pay64 x0 x1 x2 x3 x4 x5 x6 x7 x8 x9 x10 x11) (k1_pay65 x0 x1 x2 x3 x4 x5 x6 x7 x8 x9 x10 x11) (k1_pay66 x0 x1 x2 x3 x4 x5 x6 x7 x8 x9 x10 x11) (k1_pay72 x0 x1 x2 x3 x4 x5 x6 x7 x8 x9 x10 x11) (k1_pay73 x0 x1 x2 x3 x4 x5 x6 x7 x8 x9 x10 x11) (Scalar.ofBits .f32 0x3C800000#32) g h (ix2 r l)
      = kil x0 x1 x6 x7 x9 x10 x11 r l := by
  rw [ProjPay.rot]
  have e1 : ProjPay.lanes (k1_pay64 x0 x1 x2 x3 x4 x5 x6 x7 x8 x9 x10 x11) r = fun l => x9 (ix2 r l) := funext fun l => rc_at x0 x1 x2 x3 x4 x5 x6 x7 x8 x9 x10 x11 r l
  have e2 : ProjPay.lanes (k1_pay65 x0 x1 x2 x3 x4 x5 x6 x7 x8 x9 x10 x11) r = fun l => x10 (ix2 r l) := funext fun l => rs1_at x0 x1 x2 x3 x4 x5 x6 x7 x8 x9 x10 x11 r l
  have e3 : ProjPay.lanes (k1_pay66 x0 x1 x2 x3 x4 x5 x6 x7 x8 x9 x10 x11) r = fun l => x11 (ix2 r l) := funext fun l => rs2_at x0 x1 x2 x3 x4 x5 x6 x7 x8 x9 x10 x11 r l
  rw [e1, e2, e3]
  simp only [cen_at, sq_at, hg, hh]
  rfl

/-- The index key's block. -/
theorem out16_at (y : S1x256x64.Idx) :
    out1_16 (F := Ideal) x0 x1 x2 x3 x4 x5 x6 x7 x8 x9 x10 x11 y
      = kil x0 x1 x6 x7 x9 x10 x11 (y 1) ⟨(y 2).val, lt_of_lt_of_le (y 2).isLt (by decide)⟩ := by
  unfold out1_16
  canon_tiles x h
  refine (ProjPay.kidx _ _ _ _ _ _ _ _ x).trans ((kil_at x0 x1 x2 x3 x4 x5 x6 x7 x8 x9 x10 x11 _ _ ?_ ?_ _ _).trans ?_)
  · intro l; pointwise
  · intro l; pointwise
  · exact congr (congrArg (kil x0 x1 x6 x7 x9 x10 x11) (Fin.ext h1.symm)) (Fin.ext h2.symm)

/-- The transposed tail's block. -/
theorem out18_at (y : S1x128x256.Idx) :
    out1_18 (F := Ideal) x0 x1 x2 x3 x4 x5 x6 x7 x8 x9 x10 x11 y
      = if (y 1).val < 64 then kil x0 x1 x6 x7 x9 x10 x11 (y 2) (y 1) else if g : (y 1).val < 72 then col x0 x1 (y 2) ⟨768 + (y 1).val, by omega⟩ * Ideal.ofBits .f32 0x3EB504F3#32 else 0 := by
  unfold out1_18
  canon_tiles x h
  obtain rfl : y = x := funext fun a => Fin.ext (by fin_cases a; exacts [h0, h1, h2])
  refine (ProjPay.tailt _ _ _ _ _ _ _ _ _ y).trans ?_
  refine if_congr Iff.rfl (kil_at x0 x1 x2 x3 x4 x5 x6 x7 x8 x9 x10 x11 _ _ ?_ ?_ _ _) ?_
  · intro l; pointwise
  · intro l; pointwise
  · split_ifs with g
    · refine congrArg (· * _) ?_
      pointwise [k1_pay55]
      exact pa_at x0 x1 x2 x3 x4 x5 x6 x7 x8 x9 x10 x11 _ _
    · rfl

/-- The step sizes' block. -/
theorem out17_at (y : S1x256x128.Idx) :
    out1_17 (F := Ideal) x0 x1 x2 x3 x4 x5 x6 x7 x8 x9 x10 x11 y
      = if (y 2).val < 32 then softplus (colp x0 x1 x2 (y 1) ⟨896 + (y 2).val, by have : (y 2).val < 128 := (y 2).isLt; omega⟩ + x8 (ix2 0 (y 2))) else 0 := by
  unfold out1_17 k1_pay63
  canon_tiles x h
  obtain rfl : y = x := funext fun a => Fin.ext (by fin_cases a; exacts [h0, h1, h2])
  refine (ProjPay.steps _ _ _ _ y).trans ?_
  have e := xp_at x0 x1 x2 x3 x4 x5 x6 x7 x8 x9 x10 x11
  unfold k1_pay67 at e
  pointwise [mulCol, colp]
  exact if_congr Iff.rfl (congrArg (fun v => softplus (v + _)) (Finset.sum_congr rfl fun k _ => congrArg (· * _) (e (y 1) k))) rfl

/-- The state-space gate's block. -/
theorem out19_at (y : S1x256x2048.Idx) :
    out1_19 (F := Ideal) x0 x1 x2 x3 x4 x5 x6 x7 x8 x9 x10 x11 y
      = colp x0 x1 x2 (y 1) ⟨1024 + (y 2).val, by have : (y 2).val < 2048 := (y 2).isLt; omega⟩ := by
  unfold out1_19
  canon_tiles x h
  obtain rfl : y = x := funext fun a => Fin.ext (by fin_cases a; exacts [h0, h1, h2])
  refine (ProjPay.zcols _ _ y).trans ?_
  have e := fun k => xp_at x0 x1 x2 x3 x4 x5 x6 x7 x8 x9 x10 x11 (y 1) k
  pointwise [mulCol, colp]
  exact Finset.sum_congr rfl fun k _ => congrArg (· * _) (e k)

/-- The state-space input's block. -/
theorem out20_at (y : S1x256x3072.Idx) :
    out1_20 (F := Ideal) x0 x1 x2 x3 x4 x5 x6 x7 x8 x9 x10 x11 y
      = colp x0 x1 x2 (y 1) ⟨3072 + (y 2).val, by have : (y 2).val < 3072 := (y 2).isLt; omega⟩ := by
  unfold out1_20
  canon_tiles x h
  obtain rfl : y = x := funext fun a => Fin.ext (by fin_cases a; exacts [h0, h1, h2])
  refine (ProjPay.xcols _ _ y).trans ?_
  have e := fun k => xp_at x0 x1 x2 x3 x4 x5 x6 x7 x8 x9 x10 x11 (y 1) k
  pointwise [mulCol, colp]
  exact Finset.sum_congr rfl fun k _ => congrArg (· * _) (e k)

/-- The branch gates' block. -/
theorem out21_at (y : S1x256x2048.Idx) :
    out1_21 (F := Ideal) x0 x1 x2 x3 x4 x5 x6 x7 x8 x9 x10 x11 y
      = col x0 x1 (y 1) ⟨6144 + (y 2).val, by have : (y 2).val < 2048 := (y 2).isLt; omega⟩ := by
  unfold out1_21
  canon_tiles x h
  obtain rfl : y = x := funext fun a => Fin.ext (by fin_cases a; exacts [h0, h1, h2])
  refine (ProjPay.gcols _ _ y).trans ?_
  pointwise [mulCol, col]

end Cert.ProjIdeal.ProjOut

end
-- ==== Proof.ProjRefRow.lean ====
module

public import proofs.«01_k».proof.Proof.Gen.ProjRefIdeal.Read
public import proofs.«01_k».proof.Proof.ProjRow
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.Tactic

namespace Cert.ProjRefIdeal.ProjRefRow

open Cert.ProjRefIdeal Cert.ProjRefIdeal.Gen Cert.ProjRow Cert.ProjRefIdeal.Read

variable (x0 : FVec Ideal S8x2048x1024 .f32) (x1 : FVec Ideal S1024x8040 .f32) (x2 : FVec Ideal S256 .f32)
  (x3 : FVec Ideal S256x1024 .f32) (x4 : FVec Ideal S256x512 .f32) (x5 : FVec Ideal S64 .f32) (x6 : FVec Ideal S64 .f32)
  (x7 : FVec Ideal S32 .f32)

/-- Token `s` of batch `b` projected onto column `j` of the input weights. -/
def colr (b : Fin 8) (s : Fin 2048) (j : Fin 8040) : EReal := mulCol (fun k => x0 (ix3 b s k)) (fun k j => x1 (ix2 k j)) j

/-- The input projection. -/
theorem dot_at (i : S8x2048x8040.Idx) : val_main_v18 (F := Ideal) x0 x1 i = colr x0 x1 (i 0) (i 1) (i 2) := by
  unfold val_main_v18
  pointwise [colr, mulCol]

/-- The rope of sixteen heads, one head and one token at a time. -/
theorem rope16 (u : FVec Ideal S8x2048x16x64 .f32) (C S : FVec Ideal S2048x8 .f32) (i : S8x2048x16x64.Idx) :
    concatenate S8x2048x16x64 3 [⟨S8x2048x16x8, subf (mulf (extractStridedSlice S8x2048x16x8 ![0, 0, 0, 0] u slices_S8x2048x16x64_S8x2048x16x8_0_0_0_0) (broadcastInDim S8x2048x16x8 ![0, 1, 2, 3] bcast_S1x2048x1x8_S8x2048x16x8_0_1_2_3 (broadcastInDim S1x2048x1x8 ![1, 3] bcast_S2048x8_S1x2048x1x8_1_3 C))) (mulf (extractStridedSlice S8x2048x16x8 ![0, 0, 0, 8] u slices_S8x2048x16x64_S8x2048x16x8_0_0_0_8) (broadcastInDim S8x2048x16x8 ![0, 1, 2, 3] bcast_S1x2048x1x8_S8x2048x16x8_0_1_2_3 (broadcastInDim S1x2048x1x8 ![1, 3] bcast_S2048x8_S1x2048x1x8_1_3 S)))⟩, ⟨S8x2048x16x8, addf (mulf (extractStridedSlice S8x2048x16x8 ![0, 0, 0, 8] u slices_S8x2048x16x64_S8x2048x16x8_0_0_0_8) (broadcastInDim S8x2048x16x8 ![0, 1, 2, 3] bcast_S1x2048x1x8_S8x2048x16x8_0_1_2_3 (broadcastInDim S1x2048x1x8 ![1, 3] bcast_S2048x8_S1x2048x1x8_1_3 C))) (mulf (extractStridedSlice S8x2048x16x8 ![0, 0, 0, 0] u slices_S8x2048x16x64_S8x2048x16x8_0_0_0_0) (broadcastInDim S8x2048x16x8 ![0, 1, 2, 3] bcast_S1x2048x1x8_S8x2048x16x8_0_1_2_3 (broadcastInDim S1x2048x1x8 ![1, 3] bcast_S2048x8_S1x2048x1x8_1_3 S)))⟩, ⟨S8x2048x16x48, (extractStridedSlice S8x2048x16x48 ![0, 0, 0, 16] u slices_S8x2048x16x64_S8x2048x16x48_0_0_0_16)⟩] concatenates_S8x2048x16x8_S8x2048x16x8_S8x2048x16x48_S8x2048x16x64_d3 i
      = rope (fun k => C (ix2 (i 1) k)) (fun k => S (ix2 (i 1) k)) (fun d => u (ix4 (i 0) (i 1) (i 2) d)) (i 3) := by
  have e : u i = u (ix4 (i 0) (i 1) (i 2) (i 3)) := congrArg u (funext fun a => by fin_cases a <;> rfl)
  pointwise
  rw [e]
  exact rope_slices (fun k => C (ix2 (i 1) k)) (fun k => S (ix2 (i 1) k)) (fun d => u (ix4 (i 0) (i 1) (i 2) d)) (i 3)

/-- The rope of eight heads, one head and one token at a time. -/
theorem rope8 (u : FVec Ideal S8x2048x8x64 .f32) (C S : FVec Ideal S2048x8 .f32) (i : S8x2048x8x64.Idx) :
    concatenate S8x2048x8x64 3 [⟨S8x2048x8x8, subf (mulf (extractStridedSlice S8x2048x8x8 ![0, 0, 0, 0] u slices_S8x2048x8x64_S8x2048x8x8_0_0_0_0) (broadcastInDim S8x2048x8x8 ![0, 1, 2, 3] bcast_S1x2048x1x8_S8x2048x8x8_0_1_2_3 (broadcastInDim S1x2048x1x8 ![1, 3] bcast_S2048x8_S1x2048x1x8_1_3 C))) (mulf (extractStridedSlice S8x2048x8x8 ![0, 0, 0, 8] u slices_S8x2048x8x64_S8x2048x8x8_0_0_0_8) (broadcastInDim S8x2048x8x8 ![0, 1, 2, 3] bcast_S1x2048x1x8_S8x2048x8x8_0_1_2_3 (broadcastInDim S1x2048x1x8 ![1, 3] bcast_S2048x8_S1x2048x1x8_1_3 S)))⟩, ⟨S8x2048x8x8, addf (mulf (extractStridedSlice S8x2048x8x8 ![0, 0, 0, 8] u slices_S8x2048x8x64_S8x2048x8x8_0_0_0_8) (broadcastInDim S8x2048x8x8 ![0, 1, 2, 3] bcast_S1x2048x1x8_S8x2048x8x8_0_1_2_3 (broadcastInDim S1x2048x1x8 ![1, 3] bcast_S2048x8_S1x2048x1x8_1_3 C))) (mulf (extractStridedSlice S8x2048x8x8 ![0, 0, 0, 0] u slices_S8x2048x8x64_S8x2048x8x8_0_0_0_0) (broadcastInDim S8x2048x8x8 ![0, 1, 2, 3] bcast_S1x2048x1x8_S8x2048x8x8_0_1_2_3 (broadcastInDim S1x2048x1x8 ![1, 3] bcast_S2048x8_S1x2048x1x8_1_3 S)))⟩, ⟨S8x2048x8x48, (extractStridedSlice S8x2048x8x48 ![0, 0, 0, 16] u slices_S8x2048x8x64_S8x2048x8x48_0_0_0_16)⟩] concatenates_S8x2048x8x8_S8x2048x8x8_S8x2048x8x48_S8x2048x8x64_d3 i
      = rope (fun k => C (ix2 (i 1) k)) (fun k => S (ix2 (i 1) k)) (fun d => u (ix4 (i 0) (i 1) (i 2) d)) (i 3) := by
  have e : u i = u (ix4 (i 0) (i 1) (i 2) (i 3)) := congrArg u (funext fun a => by fin_cases a <;> rfl)
  pointwise
  rw [e]
  exact rope_slices (fun k => C (ix2 (i 1) k)) (fun k => S (ix2 (i 1) k)) (fun d => u (ix4 (i 0) (i 1) (i 2) d)) (i 3)

/-- The rope of four heads, one head and one token at a time. -/
theorem rope4 (u : FVec Ideal S8x2048x4x64 .f32) (C S : FVec Ideal S2048x8 .f32) (i : S8x2048x4x64.Idx) :
    concatenate S8x2048x4x64 3 [⟨S8x2048x4x8, subf (mulf (extractStridedSlice S8x2048x4x8 ![0, 0, 0, 0] u slices_S8x2048x4x64_S8x2048x4x8_0_0_0_0) (broadcastInDim S8x2048x4x8 ![0, 1, 2, 3] bcast_S1x2048x1x8_S8x2048x4x8_0_1_2_3 (broadcastInDim S1x2048x1x8 ![1, 3] bcast_S2048x8_S1x2048x1x8_1_3 C))) (mulf (extractStridedSlice S8x2048x4x8 ![0, 0, 0, 8] u slices_S8x2048x4x64_S8x2048x4x8_0_0_0_8) (broadcastInDim S8x2048x4x8 ![0, 1, 2, 3] bcast_S1x2048x1x8_S8x2048x4x8_0_1_2_3 (broadcastInDim S1x2048x1x8 ![1, 3] bcast_S2048x8_S1x2048x1x8_1_3 S)))⟩, ⟨S8x2048x4x8, addf (mulf (extractStridedSlice S8x2048x4x8 ![0, 0, 0, 8] u slices_S8x2048x4x64_S8x2048x4x8_0_0_0_8) (broadcastInDim S8x2048x4x8 ![0, 1, 2, 3] bcast_S1x2048x1x8_S8x2048x4x8_0_1_2_3 (broadcastInDim S1x2048x1x8 ![1, 3] bcast_S2048x8_S1x2048x1x8_1_3 C))) (mulf (extractStridedSlice S8x2048x4x8 ![0, 0, 0, 0] u slices_S8x2048x4x64_S8x2048x4x8_0_0_0_0) (broadcastInDim S8x2048x4x8 ![0, 1, 2, 3] bcast_S1x2048x1x8_S8x2048x4x8_0_1_2_3 (broadcastInDim S1x2048x1x8 ![1, 3] bcast_S2048x8_S1x2048x1x8_1_3 S)))⟩, ⟨S8x2048x4x48, (extractStridedSlice S8x2048x4x48 ![0, 0, 0, 16] u slices_S8x2048x4x64_S8x2048x4x48_0_0_0_16)⟩] concatenates_S8x2048x4x8_S8x2048x4x8_S8x2048x4x48_S8x2048x4x64_d3 i
      = rope (fun k => C (ix2 (i 1) k)) (fun k => S (ix2 (i 1) k)) (fun d => u (ix4 (i 0) (i 1) (i 2) d)) (i 3) := by
  have e : u i = u (ix4 (i 0) (i 1) (i 2) (i 3)) := congrArg u (funext fun a => by fin_cases a <;> rfl)
  pointwise
  rw [e]
  exact rope_slices (fun k => C (ix2 (i 1) k)) (fun k => S (ix2 (i 1) k)) (fun d => u (ix4 (i 0) (i 1) (i 2) d)) (i 3)

/-- The rope of one head, one head and one token at a time. -/
theorem rope1 (u : FVec Ideal S8x2048x1x64 .f32) (C S : FVec Ideal S2048x8 .f32) (i : S8x2048x1x64.Idx) :
    concatenate S8x2048x1x64 3 [⟨S8x2048x1x8, subf (mulf (extractStridedSlice S8x2048x1x8 ![0, 0, 0, 0] u slices_S8x2048x1x64_S8x2048x1x8_0_0_0_0) (broadcastInDim S8x2048x1x8 ![0, 1, 2, 3] bcast_S1x2048x1x8_S8x2048x1x8_0_1_2_3 (broadcastInDim S1x2048x1x8 ![1, 3] bcast_S2048x8_S1x2048x1x8_1_3 C))) (mulf (extractStridedSlice S8x2048x1x8 ![0, 0, 0, 8] u slices_S8x2048x1x64_S8x2048x1x8_0_0_0_8) (broadcastInDim S8x2048x1x8 ![0, 1, 2, 3] bcast_S1x2048x1x8_S8x2048x1x8_0_1_2_3 (broadcastInDim S1x2048x1x8 ![1, 3] bcast_S2048x8_S1x2048x1x8_1_3 S)))⟩, ⟨S8x2048x1x8, addf (mulf (extractStridedSlice S8x2048x1x8 ![0, 0, 0, 8] u slices_S8x2048x1x64_S8x2048x1x8_0_0_0_8) (broadcastInDim S8x2048x1x8 ![0, 1, 2, 3] bcast_S1x2048x1x8_S8x2048x1x8_0_1_2_3 (broadcastInDim S1x2048x1x8 ![1, 3] bcast_S2048x8_S1x2048x1x8_1_3 C))) (mulf (extractStridedSlice S8x2048x1x8 ![0, 0, 0, 0] u slices_S8x2048x1x64_S8x2048x1x8_0_0_0_0) (broadcastInDim S8x2048x1x8 ![0, 1, 2, 3] bcast_S1x2048x1x8_S8x2048x1x8_0_1_2_3 (broadcastInDim S1x2048x1x8 ![1, 3] bcast_S2048x8_S1x2048x1x8_1_3 S)))⟩, ⟨S8x2048x1x48, (extractStridedSlice S8x2048x1x48 ![0, 0, 0, 16] u slices_S8x2048x1x64_S8x2048x1x48_0_0_0_16)⟩] concatenates_S8x2048x1x8_S8x2048x1x8_S8x2048x1x48_S8x2048x1x64_d3 i
      = rope (fun k => C (ix2 (i 1) k)) (fun k => S (ix2 (i 1) k)) (fun d => u (ix4 (i 0) (i 1) (i 2) d)) (i 3) := by
  have e : (⟨(i 2).val, (i 2).isLt⟩ : Fin 1) = 0 := Subsingleton.elim _ _
  pointwise
  refine (rope_slices (fun k => C (ix2 (i 1) k)) (fun k => S (ix2 (i 1) k)) (fun d => u (ix4 (i 0) (i 1) 0 d)) (i 3)).trans ?_
  exact congrArg (fun t : Fin 1 => rope (fun k => C (ix2 (i 1) k)) (fun k => S (ix2 (i 1) k)) (fun d => u (ix4 (i 0) (i 1) t d)) (i 3)) e.symm

/-- The rows of cosines. -/
def cosr (s : Fin 2048) (k : Fin 8) : EReal := val_main_v16 (F := Ideal) (ix2 s k)
/-- The rows of sines. -/
def sinr (s : Fin 2048) (k : Fin 8) : EReal := val_main_v17 (F := Ideal) (ix2 s k)

/-- The latent of the queries. -/
def cqr (b : Fin 8) (s : Fin 2048) (l : Fin 256) : EReal :=
  latent (fun l => colr x0 x1 b s ⟨l.val, by omega⟩) (fun l => x2 (ix1 l)) l

/-- The normalised and turned index key. -/
def kir (b : Fin 8) (s : Fin 2048) (d : Fin 64) : EReal :=
  rope (cosr s) (sinr s) (normed (fun i => colr x0 x1 b s ⟨768 + i.val, by omega⟩) (fun i => x5 (ix1 i)) (fun i => x6 (ix1 i))) d

/-- The token in row `s` of a result whose chunks of 128 tokens interleave eight runs of sixteen. -/
def tok (s : Fin 2048) : Fin 2048 := ⟨s.val / 128 * 128 + s.val % 8 * 16 + s.val / 8 % 16, by omega⟩

/-- The columns of the latent. -/
theorem cols19 (i : S8x2048x256.Idx) : val_main_v19 (F := Ideal) x0 x1 i = colr x0 x1 (i 0) (i 1) ⟨(i 2).val, by have : (i 2).val < 256 := (i 2).isLt; omega⟩ := by
  unfold val_main_v19
  pointwise
  rw [dot_at]
  rfl

/-- The columns of the keys. -/
theorem cols20 (i : S8x2048x256.Idx) : val_main_v20 (F := Ideal) x0 x1 i = colr x0 x1 (i 0) (i 1) ⟨256 + (i 2).val, by have : (i 2).val < 256 := (i 2).isLt; omega⟩ := by
  unfold val_main_v20
  pointwise
  rw [dot_at]
  rfl

/-- The columns of the values. -/
theorem cols21 (i : S8x2048x256.Idx) : val_main_v21 (F := Ideal) x0 x1 i = colr x0 x1 (i 0) (i 1) ⟨512 + (i 2).val, by have : (i 2).val < 256 := (i 2).isLt; omega⟩ := by
  unfold val_main_v21
  pointwise
  rw [dot_at]
  rfl

/-- The columns of the index key. -/
theorem cols22 (i : S8x2048x64.Idx) : val_main_v22 (F := Ideal) x0 x1 i = colr x0 x1 (i 0) (i 1) ⟨768 + (i 2).val, by have : (i 2).val < 64 := (i 2).isLt; omega⟩ := by
  unfold val_main_v22
  pointwise
  rw [dot_at]
  rfl

/-- The columns of the index weights. -/
theorem cols23 (i : S8x2048x8.Idx) : val_main_v23 (F := Ideal) x0 x1 i = colr x0 x1 (i 0) (i 1) ⟨832 + (i 2).val, by have : (i 2).val < 8 := (i 2).isLt; omega⟩ := by
  unfold val_main_v23
  pointwise
  rw [dot_at]
  rfl

/-- The columns of z. -/
theorem cols24 (i : S8x2048x2048.Idx) : val_main_v24 (F := Ideal) x0 x1 i = colr x0 x1 (i 0) (i 1) ⟨840 + (i 2).val, by have : (i 2).val < 2048 := (i 2).isLt; omega⟩ := by
  unfold val_main_v24
  pointwise
  rw [dot_at]
  rfl

/-- The columns of the convolved part. -/
theorem cols25 (i : S8x2048x3072.Idx) : val_main_v25 (F := Ideal) x0 x1 i = colr x0 x1 (i 0) (i 1) ⟨2888 + (i 2).val, by have : (i 2).val < 3072 := (i 2).isLt; omega⟩ := by
  unfold val_main_v25
  pointwise
  rw [dot_at]
  rfl

/-- The columns of the steps. -/
theorem cols26 (i : S8x2048x32.Idx) : val_main_v26 (F := Ideal) x0 x1 i = colr x0 x1 (i 0) (i 1) ⟨5960 + (i 2).val, by have : (i 2).val < 32 := (i 2).isLt; omega⟩ := by
  unfold val_main_v26
  pointwise
  rw [dot_at]
  rfl

/-- The columns of the gates. -/
theorem cols27 (i : S8x2048x2048.Idx) : val_main_v27 (F := Ideal) x0 x1 i = colr x0 x1 (i 0) (i 1) ⟨5992 + (i 2).val, by have : (i 2).val < 2048 := (i 2).isLt; omega⟩ := by
  unfold val_main_v27
  pointwise
  rw [dot_at]
  rfl

/-- The normalised latent. -/
theorem cq_at (i : S8x2048x256.Idx) : val_main_v40 (F := Ideal) x0 x1 x2 i = cqr x0 x1 x2 (i 0) (i 1) (i 2) := by
  have h := cols19 x0 x1
  simp only [val_main_v40, val_main_v39, val_main_v38, val_main_v37, val_main_v36, val_main_v35, val_main_v34, val_main_v33, val_main_cst_5, val_main_v32, val_main_v31, val_main_cst_4, val_main_v30, val_main_v29, val_main_cst_3, val_main_v28]
  generalize val_main_v19 (F := Ideal) x0 x1 = u at h ⊢
  pointwise [cqr, latent]
  simp only [h]
  rfl

/-- The queries: the heads side by side. -/
theorem up_q (i : S8x2048x1024.Idx) : val_main_v41 (F := Ideal) x0 x1 x2 x3 i
    = mulCol (cqr x0 x1 x2 (i 0) (i 1)) (fun k j => x3 (ix2 k j)) (i 2) := by
  have h := cq_at x0 x1 x2
  unfold val_main_v41
  generalize val_main_v40 (F := Ideal) x0 x1 x2 = u at h ⊢
  pointwise [mulCol]
  simp only [h]
  rfl

/-- The queries: by heads. -/
theorem heads_q (i : S8x2048x16x64.Idx) : val_main_v42 (F := Ideal) x0 x1 x2 x3 i
    = mulCol (cqr x0 x1 x2 (i 0) (i 1)) (fun k j => x3 (ix2 k j)) ⟨64 * (i 2).val + (i 3).val, by have : (i 2).val < 16 := (i 2).isLt; have : (i 3).val < 64 := (i 3).isLt; omega⟩ := by
  have h := up_q x0 x1 x2 x3
  unfold val_main_v42
  generalize val_main_v41 (F := Ideal) x0 x1 x2 x3 = u at h ⊢
  pointwise
  refine (h _).trans ?_
  exact congrArg (mulCol (cqr x0 x1 x2 (i 0) (i 1)) (fun k j => x3 (ix2 k j)) ) (Fin.ext (congrArg (· + (i 3).val) (Nat.mul_comm _ _)))

/-- The queries: turned. -/
theorem turned_q (i : S8x2048x16x64.Idx) : val_main_v58 (F := Ideal) x0 x1 x2 x3 i
    = rope (cosr (i 1)) (sinr (i 1)) (fun d => mulCol (cqr x0 x1 x2 (i 0) (i 1)) (fun k j => x3 (ix2 k j)) ⟨64 * (i 2).val + d.val, by have : (i 2).val < 16 := (i 2).isLt; omega⟩) (i 3) := by
  simp only [val_main_v43, val_main_v44, val_main_v45, val_main_v46, val_main_v47, val_main_v48, val_main_v49, val_main_v50, val_main_v51, val_main_v52, val_main_v53, val_main_v54, val_main_v55, val_main_v56, val_main_v57, val_main_v58]
  exact (rope16 _ _ _ i).trans (congrArg (fun t => rope (cosr (i 1)) (sinr (i 1)) t (i 3)) (funext fun d => heads_q x0 x1 x2 x3 _))

/-- The queries: the result, channels first. -/
theorem q_at (i : S8x1024x2048.Idx) : val_main_v162 (F := Ideal) x0 x1 x2 x3 i
    = rope (cosr (i 2)) (sinr (i 2)) (fun d => mulCol (cqr x0 x1 x2 (i 0) (i 2)) (fun k j => x3 (ix2 k j)) ⟨64 * ((i 1).val / 64) + d.val, by have : (i 1).val < 1024 := (i 1).isLt; omega⟩) ⟨(i 1).val % 64, by omega⟩ * Ideal.ofBits .f32 0x3E38AA3B#32 := by
  have h := turned_q x0 x1 x2 x3
  simp only [val_main_v162, val_main_v161, val_main_v160, val_main_v60, val_main_v59, val_main_cst_6]
  generalize val_main_v58 (F := Ideal) x0 x1 x2 x3 = u at h ⊢
  pointwise
  exact congrArg (· * _) (h _)

/-- The index queries: the heads side by side. -/
theorem up_qi (i : S8x2048x512.Idx) : val_main_v61 (F := Ideal) x0 x1 x2 x4 i
    = mulCol (cqr x0 x1 x2 (i 0) (i 1)) (fun k j => x4 (ix2 k j)) (i 2) := by
  have h := cq_at x0 x1 x2
  unfold val_main_v61
  generalize val_main_v40 (F := Ideal) x0 x1 x2 = u at h ⊢
  pointwise [mulCol]
  simp only [h]
  rfl

/-- The index queries: by heads. -/
theorem heads_qi (i : S8x2048x8x64.Idx) : val_main_v62 (F := Ideal) x0 x1 x2 x4 i
    = mulCol (cqr x0 x1 x2 (i 0) (i 1)) (fun k j => x4 (ix2 k j)) ⟨64 * (i 2).val + (i 3).val, by have : (i 2).val < 8 := (i 2).isLt; have : (i 3).val < 64 := (i 3).isLt; omega⟩ := by
  have h := up_qi x0 x1 x2 x4
  unfold val_main_v62
  generalize val_main_v61 (F := Ideal) x0 x1 x2 x4 = u at h ⊢
  pointwise
  refine (h _).trans ?_
  exact congrArg (mulCol (cqr x0 x1 x2 (i 0) (i 1)) (fun k j => x4 (ix2 k j)) ) (Fin.ext (congrArg (· + (i 3).val) (Nat.mul_comm _ _)))

/-- The index queries: turned. -/
theorem turned_qi (i : S8x2048x8x64.Idx) : val_main_v78 (F := Ideal) x0 x1 x2 x4 i
    = rope (cosr (i 1)) (sinr (i 1)) (fun d => mulCol (cqr x0 x1 x2 (i 0) (i 1)) (fun k j => x4 (ix2 k j)) ⟨64 * (i 2).val + d.val, by have : (i 2).val < 8 := (i 2).isLt; omega⟩) (i 3) := by
  simp only [val_main_v63, val_main_v64, val_main_v65, val_main_v66, val_main_v67, val_main_v68, val_main_v69, val_main_v70, val_main_v71, val_main_v72, val_main_v73, val_main_v74, val_main_v75, val_main_v76, val_main_v77, val_main_v78]
  exact (rope8 _ _ _ i).trans (congrArg (fun t => rope (cosr (i 1)) (sinr (i 1)) t (i 3)) (funext fun d => heads_qi x0 x1 x2 x4 _))

/-- The index queries: the result, channels first. -/
theorem qi_at (i : S8x512x2048.Idx) : val_main_v165 (F := Ideal) x0 x1 x2 x4 i
    = rope (cosr (i 2)) (sinr (i 2)) (fun d => mulCol (cqr x0 x1 x2 (i 0) (i 2)) (fun k j => x4 (ix2 k j)) ⟨64 * ((i 1).val / 64) + d.val, by have : (i 1).val < 512 := (i 1).isLt; omega⟩) ⟨(i 1).val % 64, by omega⟩ * Ideal.ofBits .f32 0x3E000000#32 := by
  have h := turned_qi x0 x1 x2 x4
  simp only [val_main_v165, val_main_v164, val_main_v163, val_main_v80, val_main_v79, val_main_cst_7]
  generalize val_main_v78 (F := Ideal) x0 x1 x2 x4 = u at h ⊢
  pointwise
  exact congrArg (· * _) (h _)

/-- The keys by heads, turned. -/
theorem turned_k (i : S8x2048x4x64.Idx) : val_main_v97 (F := Ideal) x0 x1 i
    = rope (cosr (i 1)) (sinr (i 1)) (fun d => colr x0 x1 (i 0) (i 1) ⟨256 + 64 * (i 2).val + d.val, by have : (i 2).val < 4 := (i 2).isLt; omega⟩) (i 3) := by
  simp only [val_main_v82, val_main_v83, val_main_v84, val_main_v85, val_main_v86, val_main_v87, val_main_v88, val_main_v89, val_main_v90, val_main_v91, val_main_v92, val_main_v93, val_main_v94, val_main_v95, val_main_v96, val_main_v97]
  refine (rope4 _ _ _ i).trans (congrArg (fun t => rope (cosr (i 1)) (sinr (i 1)) t (i 3)) (funext fun d => ?_))
  have h := cols20 x0 x1
  unfold val_main_v81
  generalize val_main_v20 (F := Ideal) x0 x1 = u at h ⊢
  pointwise
  exact (h _).trans (congrArg (colr x0 x1 (i 0) (i 1)) (Fin.ext (by dsimp only [ix3]; omega)))

/-- The keys' result: the turned keys, a column of ones and columns of zeros. -/
theorem k_at (i : S8x4x2048x128.Idx) : val_main_v166 (F := Ideal) x0 x1 i
    = if g : (i 3).val < 64 then rope (cosr (i 2)) (sinr (i 2)) (fun d => colr x0 x1 (i 0) (i 2) ⟨256 + 64 * (i 1).val + d.val, by have : (i 1).val < 4 := (i 1).isLt; omega⟩) ⟨(i 3).val, g⟩
      else if (i 3).val = 64 then 1 else 0 := by
  have h := turned_k x0 x1
  simp only [val_main_v166, val_main_v150, val_main_v149, val_main_v148, val_main_v147, val_main_cst_14, val_main_cst_15]
  generalize val_main_v97 (F := Ideal) x0 x1 = u at h ⊢
  pointwise
  exact pick_one _ _ _ fun g => h _

/-- The values by heads. -/
theorem vheads_at (i : S8x4x2048x64.Idx) : val_main_v151 (F := Ideal) x0 x1 i
    = colr x0 x1 (i 0) (i 2) ⟨512 + ((i 1).val * 64 + (i 3).val), by have : (i 1).val < 4 := (i 1).isLt; have : (i 3).val < 64 := (i 3).isLt; omega⟩ := by
  have h := cols21 x0 x1
  simp only [val_main_v151, val_main_v98]
  generalize val_main_v21 (F := Ideal) x0 x1 = u at h ⊢
  pointwise
  exact h _

/-- The values by heads, a column of ones and columns of zeros. -/
theorem vrow_at (i : S8x4x2048x80.Idx) : val_main_v153 (F := Ideal) x0 x1 i
    = if g : (i 3).val < 64 then colr x0 x1 (i 0) (i 2) ⟨512 + ((i 1).val * 64 + (i 3).val), by have : (i 1).val < 4 := (i 1).isLt; omega⟩
      else if (i 3).val = 64 then 1 else 0 := by
  have h := vheads_at x0 x1
  unfold val_main_v153
  generalize val_main_v151 (F := Ideal) x0 x1 = u at h ⊢
  pointwise [val_main_v152, val_main_v147, val_main_cst_14, val_main_cst_16]
  exact pick_one _ _ _ fun g => h _

/-- The values by heads, in blocks of 256 tokens. -/
theorem vblock_at (i : S8x4x8x256x80.Idx) : val_main_v154 (F := Ideal) x0 x1 i
    = val_main_v153 (F := Ideal) x0 x1 (ix4 (i 0) (i 1) ⟨(i 2).val * 256 + (i 3).val, by have : (i 2).val < 8 := (i 2).isLt; have : (i 3).val < 256 := (i 3).isLt; omega⟩ (i 4)) := by
  unfold val_main_v154
  generalize val_main_v153 (F := Ideal) x0 x1 = u
  refine shapeCast_apply u shapeCasts_S8x4x2048x80_S8x4x8x256x80 i _ ?_
  rewrite [Shape.rowMajor_val_four, Shape.rowMajor_val_five]
  show (((i 0).val * 4 + (i 1).val) * 2048 + ((i 2).val * 256 + (i 3).val)) * 80 + (i 4).val
    = ((((i 0).val * 4 + (i 1).val) * 8 + (i 2).val) * 256 + (i 3).val) * 80 + (i 4).val
  omega

/-- The values' result: the values, a row of ones and rows of zeros. -/
theorem v_at (i : S8x4x8x80x256.Idx) : val_main_v167 (F := Ideal) x0 x1 i
    = if g : (i 3).val < 64 then colr x0 x1 (i 0) ⟨(i 2).val * 256 + (i 4).val, by have : (i 2).val < 8 := (i 2).isLt; have : (i 4).val < 256 := (i 4).isLt; omega⟩ ⟨512 + ((i 1).val * 64 + (i 3).val), by have : (i 1).val < 4 := (i 1).isLt; omega⟩
      else if (i 3).val = 64 then 1 else 0 := by
  have h := fun i => (vblock_at x0 x1 i).trans (vrow_at x0 x1 _)
  simp only [val_main_v167, val_main_v155]
  generalize val_main_v154 (F := Ideal) x0 x1 = u at h ⊢
  pointwise
  exact h _

/-- The index key before its rope. -/
theorem norm_at (i : S8x2048x64.Idx) : val_main_v122 (F := Ideal) x0 x1 x5 x6 i
    = normed (fun k => colr x0 x1 (i 0) (i 1) ⟨768 + k.val, by omega⟩) (fun k => x5 (ix1 k)) (fun k => x6 (ix1 k)) (i 2) := by
  have h := cols22 x0 x1
  simp only [val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_cst_8, val_main_cst_9, val_main_cst_10, val_main_cst_11, val_main_cst_12]
  generalize val_main_v22 (F := Ideal) x0 x1 = u at h ⊢
  pointwise [normed, mean64]
  simp only [h]
  rfl

/-- The index key. -/
theorem ki_at (i : S8x2048x64.Idx) : val_main_v140 (F := Ideal) x0 x1 x5 x6 i = kir x0 x1 x5 x6 (i 0) (i 1) (i 2) := by
  have h := rope1 (val_main_v123 (F := Ideal) x0 x1 x5 x6) (val_main_v16 (F := Ideal)) (val_main_v17 (F := Ideal))
  have h' := norm_at x0 x1 x5 x6
  simp only [val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140] at h ⊢
  generalize hu : concatenate _ _ _ _ = u at h ⊢
  clear hu
  generalize val_main_v122 (F := Ideal) x0 x1 x5 x6 = v at h h' ⊢
  pointwise
  refine (h _).trans ?_
  pointwise
  exact congrArg (fun t => rope (cosr (i 1)) (sinr (i 1)) t (i 2)) (funext fun d => h' _)

/-- The steps. -/
theorem soft_at (i : S8x2048x32.Idx) : val_main_v146 (F := Ideal) x0 x1 x7 i
    = softplus (colr x0 x1 (i 0) (i 1) ⟨5960 + (i 2).val, by have : (i 2).val < 32 := (i 2).isLt; omega⟩ + x7 (ix1 (i 2))) := by
  have h := cols26 x0 x1
  simp only [val_main_v146, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v145, val_main_v144, val_main_v143]
  generalize val_main_v26 (F := Ideal) x0 x1 = u at h ⊢
  pointwise
  refine (softplus_eq _).trans (congrArg (fun v => softplus (v + _)) (h _))

/-- The steps, then zeros. -/
theorem steps_at (i : S8x2048x128.Idx) : val_main_v157 (F := Ideal) x0 x1 x7 i
    = if g : (i 2).val < 32 then softplus (colr x0 x1 (i 0) (i 1) ⟨5960 + (i 2).val, by omega⟩ + x7 (ix1 ⟨(i 2).val, g⟩)) else 0 := by
  have h := soft_at x0 x1 x7
  unfold val_main_v157
  generalize val_main_v146 (F := Ideal) x0 x1 x7 = u at h ⊢
  pointwise [val_main_v156, val_main_cst_17]
  refine dite_congr rfl (fun g => h _) (fun _ => rfl)

/-- The steps' result, its tokens interleaved. -/
theorem dt_at (i : S8x2048x128.Idx) : val_main_v171 (F := Ideal) x0 x1 x7 i
    = if g : (i 2).val < 32 then softplus (colr x0 x1 (i 0) (tok (i 1)) ⟨5960 + (i 2).val, by omega⟩ + x7 (ix1 ⟨(i 2).val, g⟩)) else 0 := by
  have h := steps_at x0 x1 x7
  simp only [val_main_v171, val_main_v170, val_main_v169]
  generalize val_main_v157 (F := Ideal) x0 x1 x7 = u at h ⊢
  pointwise
  exact h _

/-- The index result: the index key, the index weights and zeros, channels first. -/
theorem idx_at (i : S8x128x2048.Idx) : val_main_v172 (F := Ideal) x0 x1 x5 x6 i
    = if g : (i 1).val < 64 then kir x0 x1 x5 x6 (i 0) (i 2) ⟨(i 1).val, g⟩
      else if g' : (i 1).val < 72 then colr x0 x1 (i 0) (i 2) ⟨768 + (i 1).val, by omega⟩ * Ideal.ofBits .f32 0x3EB504F3#32 else 0 := by
  have h := ki_at x0 x1 x5 x6
  have h' := cols23 x0 x1
  simp only [val_main_v172, val_main_v159, val_main_v158, val_main_cst_18, val_main_v142, val_main_v141, val_main_cst_13]
  generalize val_main_v140 (F := Ideal) x0 x1 x5 x6 = u at h ⊢
  generalize val_main_v23 (F := Ideal) x0 x1 = v at h' ⊢
  pointwise
  refine pick_eight _ _ _ (fun g' => v (ix3 (i 0) (i 2) ⟨(i 1).val - 64, g'⟩) * Ideal.ofBits .f32 0x3EB504F3#32)
    (fun g' => colr x0 x1 (i 0) (i 2) ⟨768 + (i 1).val, by omega⟩ * Ideal.ofBits .f32 0x3EB504F3#32) (fun g => h _) fun e g g' => congrArg (fun v : EReal => v * Ideal.ofBits .f32 0x3EB504F3#32) ((h' _).trans ?_)
  exact congrArg (colr x0 x1 (i 0) (i 2)) (Fin.ext (by dsimp only [ix3]; omega))

/-- The result of z, its tokens interleaved. -/
theorem z_at (i : S8x2048x2048.Idx) : val_main_v176 (F := Ideal) x0 x1 i = colr x0 x1 (i 0) (tok (i 1)) ⟨840 + (i 2).val, by have : (i 2).val < 2048 := (i 2).isLt; omega⟩ := by
  have h := cols24 x0 x1
  simp only [val_main_v176, val_main_v175, val_main_v174, val_main_v173]
  generalize val_main_v24 (F := Ideal) x0 x1 = u at h ⊢
  pointwise
  exact h _

/-- The result of the convolved part, its tokens interleaved. -/
theorem xbc_at (i : S8x2048x3072.Idx) : val_main_v179 (F := Ideal) x0 x1 i = colr x0 x1 (i 0) (tok (i 1)) ⟨2888 + (i 2).val, by have : (i 2).val < 3072 := (i 2).isLt; omega⟩ := by
  have h := cols25 x0 x1
  simp only [val_main_v179, val_main_v178, val_main_v177]
  generalize val_main_v25 (F := Ideal) x0 x1 = u at h ⊢
  pointwise
  exact h _

/-- The result of the gates. -/
theorem gates_at (i : S8x2048x2048.Idx) : val_main_v180 (F := Ideal) x0 x1 i = colr x0 x1 (i 0) (i 1) ⟨5992 + (i 2).val, by have : (i 2).val < 2048 := (i 2).isLt; omega⟩ :=
  cols27 x0 x1 i

end Cert.ProjRefIdeal.ProjRefRow

end

end
-- ==== Proof.ProjMatch.lean ====
module

public import proofs.«01_k».proof.Proof.ProjOut
public import proofs.«01_k».proof.Proof.ProjRefRow
public import proofs.«01_k».proof.Proof.PackValue

@[expose] public section

set_option maxRecDepth 16384

noncomputable section

open Idealize.ShloMosaic Idealize.ShloMosaic.TcCoe Idealize.SL.Sem

namespace Cert.ProjIdeal.ProjMatch
open Cert.ProjIdeal Cert.ProjIdeal.Gen Cert.ProjRow Cert.ProjIdeal.ProjOut
open Cert.ProjRefIdeal.ProjRefRow (colr cosr sinr cqr kir tok)
open Cert.KernelIdeal.PackValue (src src_cases)

/-- The token in row `r` of the `q`-th block of 256. -/
def tk (q : Fin 8) (r : Fin 256) : Fin 2048 := ⟨256 * q.val + r.val, by omega⟩

/-- The blocks a grid point reads are those of batch `p` and token block `q`: tokens, packed columns, the row permutation, the weights and the tables. -/
structure Fits (x0 : Vec Ideal S1x256x1024 .f32) (x1 : Vec Ideal S1024x8192 .bf16) (x2 : Vec Ideal S256x256 .bf16)
    (x3 : Vec Ideal S1x256 .f32) (x4 : Vec Ideal S256x1024 .bf16) (x5 : Vec Ideal S256x512 .bf16)
    (x6 x7 x8 : Vec Ideal S1x128 .f32) (x9 x10 x11 : Vec Ideal S256x128 .f32)
    (a0 : FVec Ideal S8x2048x1024 .f32) (a1 : FVec Ideal S1024x8040 .f32) (a2 : FVec Ideal S256 .f32)
    (a3 : FVec Ideal S256x1024 .f32) (a4 : FVec Ideal S256x512 .f32) (a5 : FVec Ideal S64 .f32) (a6 : FVec Ideal S64 .f32)
    (a7 : FVec Ideal S32 .f32) (p q : Fin 8) : Prop where
  tokens : ∀ r k, x0 (ix3 0 r k) = a0 (ix3 p (tk q r) k)
  columns : ∀ k (j : Fin 8192) (J : Fin 8040), J.val = src j.val → x1 (ix2 k j) = a1 (ix2 k J)
  order : ∀ r t : Fin 256, x2 (ix2 r t) = ((if t.val = r.val / 128 * 128 + r.val % 8 * 16 + r.val / 8 % 16 then 1 else 0 : EReal))
  scale : ∀ l, x3 (ix2 0 l) = a2 (ix1 l)
  query : ∀ k j, x4 (ix2 k j) = a3 (ix2 k j)
  iquery : ∀ k j, x5 (ix2 k j) = a4 (ix2 k j)
  gain : ∀ (l : Fin 128) (d : Fin 64), d.val = l.val → x6 (ix2 0 l) = a5 (ix1 d)
  shift : ∀ (l : Fin 128) (d : Fin 64), d.val = l.val → x7 (ix2 0 l) = a6 (ix1 d)
  bias : ∀ (l : Fin 128) (d : Fin 32), d.val = l.val → x8 (ix2 0 l) = a7 (ix1 d)
  cosines : ∀ r l, x9 (ix2 r l) = tab0 (cosr (tk q r)) l
  sines : ∀ r l, x10 (ix2 r l) = tab1 (sinr (tk q r)) l
  sines' : ∀ r l, x11 (ix2 r l) = tab2 (sinr (tk q r)) l

variable {x0 : Vec Ideal S1x256x1024 .f32} {x1 : Vec Ideal S1024x8192 .bf16} {x2 : Vec Ideal S256x256 .bf16}
  {x3 : Vec Ideal S1x256 .f32} {x4 : Vec Ideal S256x1024 .bf16} {x5 : Vec Ideal S256x512 .bf16}
  {x6 x7 x8 : Vec Ideal S1x128 .f32} {x9 x10 x11 : Vec Ideal S256x128 .f32}
  {a0 : FVec Ideal S8x2048x1024 .f32} {a1 : FVec Ideal S1024x8040 .f32} {a2 : FVec Ideal S256 .f32}
  {a3 : FVec Ideal S256x1024 .f32} {a4 : FVec Ideal S256x512 .f32} {a5 : FVec Ideal S64 .f32} {a6 : FVec Ideal S64 .f32}
  {a7 : FVec Ideal S32 .f32} {p q : Fin 8}
  (h : Fits x0 x1 x2 x3 x4 x5 x6 x7 x8 x9 x10 x11 a0 a1 a2 a3 a4 a5 a6 a7 p q)

include h

/-- A packed column is the column of `w_in` it was taken from. -/
theorem col_eq (r : Fin 256) (j : Fin 8192) (J : Fin 8040)
    (hJ : j.val < 896 ∧ J.val = j.val ∨ 896 ≤ j.val ∧ j.val < 1024 ∧ J.val = j.val + 5064 ∨ 1024 ≤ j.val ∧ j.val < 6144 ∧ J.val = j.val - 184
      ∨ 6144 ≤ j.val ∧ J.val = j.val - 152) :
    col x0 x1 r j = colr a0 a1 p (tk q r) J := by
  have e : J.val = src j.val := by
    have := src_cases j.val
    omega
  unfold col colr mulCol
  exact Finset.sum_congr rfl fun k _ => congrArg₂ (fun a b : EReal => a * b) (h.tokens r k) (h.columns k j J e)

/-- Row `r` of the reordered tokens is one token of the same block of 256. -/
theorem row_eq (r : Fin 256) (k : Fin 1024) : ∑ t : Fin 256, x2 (ix2 r t) * x0 (ix3 0 t k) = (a0 (ix3 p (tok (tk q r)) k) : EReal) := by
  have hr := r.isLt
  have e : tk q ⟨r.val / 128 * 128 + r.val % 8 * 16 + r.val / 8 % 16, by omega⟩ = tok (tk q r) := by
    refine Fin.ext ?_
    unfold tok tk
    dsimp only
    omega
  rw [← e]
  refine (Finset.sum_eq_single (⟨r.val / 128 * 128 + r.val % 8 * 16 + r.val / 8 % 16, by omega⟩ : Fin 256) ?_ ?_).trans ?_
  · intro t _ ht
    rw [h.order, if_neg fun e => ht (Fin.ext e), zero_mul]
  · intro hn
    exact absurd (Finset.mem_univ _) hn
  · rw [h.order, if_pos rfl, one_mul]
    exact h.tokens _ k

/-- The same over the reordered rows. -/
theorem colp_eq (r : Fin 256) (j : Fin 8192) (J : Fin 8040)
    (hJ : j.val < 896 ∧ J.val = j.val ∨ 896 ≤ j.val ∧ j.val < 1024 ∧ J.val = j.val + 5064 ∨ 1024 ≤ j.val ∧ j.val < 6144 ∧ J.val = j.val - 184
      ∨ 6144 ≤ j.val ∧ J.val = j.val - 152) :
    colp x0 x1 x2 r j = colr a0 a1 p (tok (tk q r)) J := by
  have e : J.val = src j.val := by
    have := src_cases j.val
    omega
  unfold colp colr mulCol
  exact Finset.sum_congr rfl fun k _ => congrArg₂ (fun a b : EReal => a * b) (row_eq h r k) (h.columns k j J e)

/-- The query latents agree. -/
theorem lq_eq (r l : Fin 256) : lq x0 x1 x3 r l = cqr a0 a1 a2 p (tk q r) l := by
  unfold lq cqr
  have e1 : (fun j : Fin 256 => col x0 x1 r ⟨j.val, by omega⟩) = fun l : Fin 256 => colr a0 a1 p (tk q r) ⟨l.val, by omega⟩ :=
    funext fun j => col_eq h r _ _ (Or.inl ⟨by dsimp only; omega, rfl⟩)
  have e2 : (fun l : Fin 256 => x3 (ix2 0 l)) = fun l : Fin 256 => a2 (ix1 l) := funext fun l => h.scale l
  rw [e1, e2]

/-- The three tables turn a row of two heads as the reference's rope turns each head. -/
theorem turn_rope (r : Fin 256) (t : Fin 128 → EReal) (u : Fin 64 → EReal) (l : Fin 128) (d : Fin 64) (hd : d.val = l.val % 64)
    (hu : ∀ (d : Fin 64) (k : Fin 128), k.val = 64 * (l.val / 64) + d.val → t k = u d) :
    turn x9 x10 x11 r t l = rope (cosr (tk q r)) (sinr (tk q r)) u d := by
  have ed : d = ⟨l.val % 64, by omega⟩ := Fin.ext hd
  rw [ed]
  unfold turn
  rw [← spin_eq (cosr (tk q r)) (sinr (tk q r)) t u l hu]
  have e0 : (fun l => x9 (ix2 r l)) = tab0 (cosr (tk q r)) := funext fun l => h.cosines r l
  have e1 : (fun l => x10 (ix2 r l)) = tab1 (sinr (tk q r)) := funext fun l => h.sines r l
  have e2 : (fun l => x11 (ix2 r l)) = tab2 (sinr (tk q r)) := funext fun l => h.sines' r l
  rw [e0, e1, e2]

/-- The lower 64 lanes of the centred index key. -/
theorem cen_low (r : Fin 256) (l : Fin 128) (d : Fin 64) (e : l.val = d.val) :
    cenl x0 x1 r l = colr a0 a1 p (tk q r) ⟨768 + d.val, by omega⟩ - mean64 (fun i => colr a0 a1 p (tk q r) ⟨768 + i.val, by omega⟩) := by
  unfold cenl
  rw [if_pos (by omega)]
  refine congrArg₂ (fun a b : EReal => a - b) (col_eq h r _ _ (Or.inl ⟨by dsimp only; omega, by dsimp only; omega⟩)) (congrArg mean64 (funext fun i => ?_))
  exact col_eq h r _ _ (Or.inl ⟨by dsimp only; omega, rfl⟩)

/-- The index keys agree. -/
theorem kil_eq (r : Fin 256) (l : Fin 128) (d : Fin 64) (e : l.val = d.val) :
    kil x0 x1 x6 x7 x9 x10 x11 r l = kir a0 a1 a5 a6 p (tk q r) d := by
  unfold kil kir
  refine turn_rope h r _ _ l d (by omega) fun d' k hk => ?_
  have ek : k.val = d'.val := by omega
  have es : ∑ i : Fin 128, cenl x0 x1 r i * cenl x0 x1 r i
      = ∑ i : Fin 64, (colr a0 a1 p (tk q r) ⟨768 + i.val, by omega⟩ - mean64 (fun i => colr a0 a1 p (tk q r) ⟨768 + i.val, by omega⟩))
        * (colr a0 a1 p (tk q r) ⟨768 + i.val, by omega⟩ - mean64 (fun i => colr a0 a1 p (tk q r) ⟨768 + i.val, by omega⟩)) := by
    refine sum_half _ _ (fun i l e => ?_) fun l hl => ?_
    · rw [cen_low h r l i e]
    · have e0 : cenl x0 x1 r l = 0 := by
        unfold cenl
        exact if_neg (by omega)
      rw [e0, zero_mul]
  rw [es, ← mean64_eq, cen_low h r k d' ek, h.gain k d' ek.symm, h.shift k d' ek.symm]
  rfl

/-- Window 12: the queries. -/
theorem match12 (y : S1x1024x256.Idx) (i : S8x1024x2048.Idx) (h0 : (i 0).val = p.val) (h1 : (i 1).val = (y 1).val) (h2 : (i 2).val = 256 * q.val + (y 2).val) :
    out1_12 (F := Ideal) x0 x1 x2 x3 x4 x5 x6 x7 x8 x9 x10 x11 y = Cert.ProjRefIdeal.Read.val_main_v162 (F := Ideal) a0 a1 a2 a3 i := by
  have hy : (y 1).val < 1024 := (y 1).isLt
  have hi : i = ix3 p ⟨(y 1).val, hy⟩ (tk q (y 2)) := by
    funext a
    refine Fin.ext ?_
    fin_cases a
    · exact h0
    · exact h1
    · exact h2
  rw [hi]
  refine (out12_at x0 x1 x2 x3 x4 x5 x6 x7 x8 x9 x10 x11 y).trans (Eq.trans ?_ (Cert.ProjRefIdeal.ProjRefRow.q_at a0 a1 a2 a3 _).symm)
  have e1 : lq x0 x1 x3 (y 2) = cqr a0 a1 a2 p (tk q (y 2)) := funext fun l => lq_eq h (y 2) l
  have e2 : (fun k j => x4 (ix2 k j)) = fun (k : Fin 256) (j : Fin 1024) => a3 (ix2 k j) := funext fun k => funext fun j => h.query k j
  rw [e1, e2]
  refine congrArg (fun v : EReal => v * _) (turn_rope h (y 2) _ _ _ _ ?_ fun d k hk => congrArg _ (Fin.ext ?_))
  · show (y 1).val % 64 = (y 1).val % 128 % 64
    omega
  · have hk' : k.val = 64 * ((y 1).val % 128 / 64) + d.val := hk
    show 128 * ((y 1).val / 128) + k.val = 64 * ((y 1).val / 64) + d.val
    omega

/-- Window 13: the index queries. -/
theorem match13 (y : S1x512x256.Idx) (i : S8x512x2048.Idx) (h0 : (i 0).val = p.val) (h1 : (i 1).val = (y 1).val) (h2 : (i 2).val = 256 * q.val + (y 2).val) :
    out1_13 (F := Ideal) x0 x1 x2 x3 x4 x5 x6 x7 x8 x9 x10 x11 y = Cert.ProjRefIdeal.Read.val_main_v165 (F := Ideal) a0 a1 a2 a4 i := by
  have hy : (y 1).val < 512 := (y 1).isLt
  have hi : i = ix3 p ⟨(y 1).val, hy⟩ (tk q (y 2)) := by
    funext a
    refine Fin.ext ?_
    fin_cases a
    · exact h0
    · exact h1
    · exact h2
  rw [hi]
  refine (out13_at x0 x1 x2 x3 x4 x5 x6 x7 x8 x9 x10 x11 y).trans (Eq.trans ?_ (Cert.ProjRefIdeal.ProjRefRow.qi_at a0 a1 a2 a4 _).symm)
  have e1 : lq x0 x1 x3 (y 2) = cqr a0 a1 a2 p (tk q (y 2)) := funext fun l => lq_eq h (y 2) l
  have e2 : (fun k j => x5 (ix2 k j)) = fun (k : Fin 256) (j : Fin 512) => a4 (ix2 k j) := funext fun k => funext fun j => h.iquery k j
  rw [e1, e2]
  refine congrArg (fun v : EReal => v * _) (turn_rope h (y 2) _ _ _ _ ?_ fun d k hk => congrArg _ (Fin.ext ?_))
  · show (y 1).val % 64 = (y 1).val % 128 % 64
    omega
  · have hk' : k.val = 64 * ((y 1).val % 128 / 64) + d.val := hk
    show 128 * ((y 1).val / 128) + k.val = 64 * ((y 1).val / 64) + d.val
    omega

/-- Window 14: the keys with their ones. -/
theorem match14 (y : S1x4x256x128.Idx) (i : S8x4x2048x128.Idx) (h0 : (i 0).val = p.val) (h1 : (i 1).val = (y 1).val) (h2 : (i 2).val = 256 * q.val + (y 2).val) (h3 : (i 3).val = (y 3).val) :
    out1_14 (F := Ideal) x0 x1 x2 x3 x4 x5 x6 x7 x8 x9 x10 x11 y = Cert.ProjRefIdeal.Read.val_main_v166 (F := Ideal) a0 a1 i := by
  have hy : (y 1).val < 4 := (y 1).isLt
  have hy3 : (y 3).val < 128 := (y 3).isLt
  have hi : i = ix4 p ⟨(y 1).val, hy⟩ (tk q (y 2)) ⟨(y 3).val, hy3⟩ := by
    funext a
    refine Fin.ext ?_
    fin_cases a
    · exact h0
    · exact h1
    · exact h2
    · exact h3
  rw [hi]
  refine (out14_at x0 x1 x2 x3 x4 x5 x6 x7 x8 x9 x10 x11 y).trans (Eq.trans ?_ (Cert.ProjRefIdeal.ProjRefRow.k_at a0 a1 _).symm)
  refine dite_congr rfl (fun g => ?_) fun _ => rfl
  refine turn_rope h (y 2) _ _ _ _ ?_ fun d k hk => col_eq h (y 2) _ _ ?_
  · have g' : (y 3).val < 64 := g
    show (y 3).val = (64 * ((y 1).val % 2) + (y 3).val) % 64
    omega
  · have g' : (y 3).val < 64 := g
    have hk' : k.val = 64 * ((64 * ((y 1).val % 2) + (y 3).val) / 64) + d.val := hk
    refine Or.inl ⟨?_, ?_⟩
    · show 256 + 128 * ((y 1).val / 2) + k.val < 896
      omega
    · show 256 + 64 * (y 1).val + d.val = 256 + 128 * ((y 1).val / 2) + k.val
      omega

/-- Window 15: the values with their ones, one chunk of tokens at a time. -/
theorem match15 (y : S1x4x1x80x256.Idx) (i : S8x4x8x80x256.Idx) (h0 : (i 0).val = p.val) (h1 : (i 1).val = (y 1).val) (h2 : (i 2).val = q.val) (h3 : (i 3).val = (y 3).val) (h4 : (i 4).val = (y 4).val) :
    out1_15 (F := Ideal) x0 x1 x2 x3 x4 x5 x6 x7 x8 x9 x10 x11 y = Cert.ProjRefIdeal.Read.val_main_v167 (F := Ideal) a0 a1 i := by
  have hy : (y 1).val < 4 := (y 1).isLt
  have hy3 : (y 3).val < 80 := (y 3).isLt
  have hi : i = ix5 p ⟨(y 1).val, hy⟩ q ⟨(y 3).val, hy3⟩ (y 4) := by
    funext a
    refine Fin.ext ?_
    fin_cases a
    · exact h0
    · exact h1
    · exact h2
    · exact h3
    · exact h4
  rw [hi]
  refine (out15_at x0 x1 x2 x3 x4 x5 x6 x7 x8 x9 x10 x11 y).trans (Eq.trans ?_ (Cert.ProjRefIdeal.ProjRefRow.v_at a0 a1 _).symm)
  refine dite_congr rfl (fun g => ?_) fun _ => rfl
  have g' : (y 3).val < 64 := g
  refine (col_eq h (y 4) _ ⟨512 + ((y 1).val * 64 + (y 3).val), by omega⟩ ?_).trans (congrArg (fun s => colr a0 a1 p s _) (Fin.ext ?_))
  · refine Or.inl ⟨?_, ?_⟩
    · show 512 + 64 * (y 1).val + (y 3).val < 896
      omega
    · show 512 + ((y 1).val * 64 + (y 3).val) = 512 + 64 * (y 1).val + (y 3).val
      omega
  · show 256 * q.val + (y 4).val = q.val * 256 + (y 4).val
    omega

omit h in
/-- The index keys as a result: a cast that changes nothing here. -/
theorem key_at (a0 : FVec Ideal S8x2048x1024 .f32) (a1 : FVec Ideal S1024x8040 .f32) (a5 a6 : FVec Ideal S64 .f32) (i : S8x2048x64.Idx) :
    Cert.ProjRefIdeal.Read.val_main_v168 (F := Ideal) a0 a1 a5 a6 i = kir a0 a1 a5 a6 (i 0) (i 1) (i 2) := by
  have e := Cert.ProjRefIdeal.ProjRefRow.ki_at a0 a1 a5 a6 i
  unfold Cert.ProjRefIdeal.Read.val_main_v168
  generalize Cert.ProjRefIdeal.Read.val_main_v140 (F := Ideal) a0 a1 a5 a6 = u at e ⊢
  exact e

/-- Window 16: the index keys, one row per token. -/
theorem match16 (y : S1x256x64.Idx) (i : S8x2048x64.Idx) (h0 : (i 0).val = p.val) (h1 : (i 1).val = 256 * q.val + (y 1).val) (h2 : (i 2).val = (y 2).val) :
    out1_16 (F := Ideal) x0 x1 x2 x3 x4 x5 x6 x7 x8 x9 x10 x11 y = Cert.ProjRefIdeal.Read.val_main_v168 (F := Ideal) a0 a1 a5 a6 i := by
  have hy : (y 2).val < 64 := (y 2).isLt
  have hi : i = ix3 p (tk q (y 1)) ⟨(y 2).val, hy⟩ := by
    funext a
    refine Fin.ext ?_
    fin_cases a
    · exact h0
    · exact h1
    · exact h2
  rw [hi]
  refine (out16_at x0 x1 x2 x3 x4 x5 x6 x7 x8 x9 x10 x11 y).trans ?_
  refine Eq.trans ?_ (key_at a0 a1 a5 a6 _).symm
  have k : ∀ (r : Fin 256) (l : Fin 128) (d : Fin 64) (e : l.val = d.val), kil x0 x1 x6 x7 x9 x10 x11 r l = kir a0 a1 a5 a6 p (tk q r) d :=
    fun r l d e => kil_eq h r l d e
  show kil x0 x1 x6 x7 x9 x10 x11 (y 1) ⟨(y 2).val, by omega⟩ = kir a0 a1 a5 a6 p (tk q (y 1)) ⟨(y 2).val, hy⟩
  exact k _ _ _ rfl

/-- Window 17: the step sizes, rows reordered. -/
theorem match17 (y : S1x256x128.Idx) (i : S8x2048x128.Idx) (h0 : (i 0).val = p.val) (h1 : (i 1).val = 256 * q.val + (y 1).val) (h2 : (i 2).val = (y 2).val) :
    out1_17 (F := Ideal) x0 x1 x2 x3 x4 x5 x6 x7 x8 x9 x10 x11 y = Cert.ProjRefIdeal.Read.val_main_v171 (F := Ideal) a0 a1 a7 i := by
  have hy : (y 2).val < 128 := (y 2).isLt
  have hi : i = ix3 p (tk q (y 1)) ⟨(y 2).val, hy⟩ := by
    funext a
    refine Fin.ext ?_
    fin_cases a
    · exact h0
    · exact h1
    · exact h2
  rw [hi]
  refine (out17_at x0 x1 x2 x3 x4 x5 x6 x7 x8 x9 x10 x11 y).trans (Eq.trans ?_ (Cert.ProjRefIdeal.ProjRefRow.dt_at a0 a1 a7 _).symm)
  by_cases g : (y 2).val < 32
  · rw [if_pos g]
    refine Eq.trans ?_ (dif_pos (c := (y 2).val < 32) g).symm
    refine congrArg softplus (congrArg₂ (fun a b : EReal => a + b) (colp_eq h (y 1) _ _ (Or.inr (Or.inl ⟨?_, ?_, ?_⟩))) (h.bias _ _ rfl))
    · show 896 ≤ 896 + (y 2).val
      omega
    · show 896 + (y 2).val < 1024
      omega
    · show 5960 + (y 2).val = 896 + (y 2).val + 5064
      omega
  · rw [if_neg g]
    refine Eq.symm (dif_neg ?_)
    exact g

/-- Window 18: the index keys and the index weights, one column per token. -/
theorem match18 (y : S1x128x256.Idx) (i : S8x128x2048.Idx) (h0 : (i 0).val = p.val) (h1 : (i 1).val = (y 1).val) (h2 : (i 2).val = 256 * q.val + (y 2).val) :
    out1_18 (F := Ideal) x0 x1 x2 x3 x4 x5 x6 x7 x8 x9 x10 x11 y = Cert.ProjRefIdeal.Read.val_main_v172 (F := Ideal) a0 a1 a5 a6 i := by
  have hy : (y 1).val < 128 := (y 1).isLt
  have hi : i = ix3 p ⟨(y 1).val, hy⟩ (tk q (y 2)) := by
    funext a
    refine Fin.ext ?_
    fin_cases a
    · exact h0
    · exact h1
    · exact h2
  rw [hi]
  refine (out18_at x0 x1 x2 x3 x4 x5 x6 x7 x8 x9 x10 x11 y).trans (Eq.trans ?_ (Cert.ProjRefIdeal.ProjRefRow.idx_at a0 a1 a5 a6 _).symm)
  by_cases g : (y 1).val < 64
  · rw [if_pos g]
    refine Eq.trans ?_ (Eq.symm (dif_pos ?hc))
    case hc => exact g
    exact kil_eq h (y 2) _ _ rfl
  · rw [if_neg g]
    refine Eq.trans ?_ (Eq.symm (dif_neg ?hc))
    case hc => exact g
    refine dite_congr rfl (fun g' => ?_) fun _ => rfl
    have g2 : (y 1).val < 72 := g'
    refine congrArg (fun v : EReal => v * _) (col_eq h (y 2) _ _ (Or.inl ⟨?_, rfl⟩))
    show 768 + (y 1).val < 896
    omega

/-- Window 19: the gate of the state-space branch, rows reordered. -/
theorem match19 (y : S1x256x2048.Idx) (i : S8x2048x2048.Idx) (h0 : (i 0).val = p.val) (h1 : (i 1).val = 256 * q.val + (y 1).val) (h2 : (i 2).val = (y 2).val) :
    out1_19 (F := Ideal) x0 x1 x2 x3 x4 x5 x6 x7 x8 x9 x10 x11 y = Cert.ProjRefIdeal.Read.val_main_v176 (F := Ideal) a0 a1 i := by
  have hy : (y 2).val < 2048 := (y 2).isLt
  have hi : i = ix3 p (tk q (y 1)) ⟨(y 2).val, hy⟩ := by
    funext a
    refine Fin.ext ?_
    fin_cases a
    · exact h0
    · exact h1
    · exact h2
  rw [hi]
  refine (out19_at x0 x1 x2 x3 x4 x5 x6 x7 x8 x9 x10 x11 y).trans (Eq.trans ?_ (Cert.ProjRefIdeal.ProjRefRow.z_at a0 a1 _).symm)
  refine colp_eq h (y 1) _ _ (Or.inr (Or.inr (Or.inl ⟨?_, ?_, ?_⟩)))
  · show 1024 ≤ 1024 + (y 2).val
    omega
  · show 1024 + (y 2).val < 6144
    omega
  · show 840 + (y 2).val = 1024 + (y 2).val - 184
    omega

/-- Window 20: the inputs of the state-space branch, rows reordered. -/
theorem match20 (y : S1x256x3072.Idx) (i : S8x2048x3072.Idx) (h0 : (i 0).val = p.val) (h1 : (i 1).val = 256 * q.val + (y 1).val) (h2 : (i 2).val = (y 2).val) :
    out1_20 (F := Ideal) x0 x1 x2 x3 x4 x5 x6 x7 x8 x9 x10 x11 y = Cert.ProjRefIdeal.Read.val_main_v179 (F := Ideal) a0 a1 i := by
  have hy : (y 2).val < 3072 := (y 2).isLt
  have hi : i = ix3 p (tk q (y 1)) ⟨(y 2).val, hy⟩ := by
    funext a
    refine Fin.ext ?_
    fin_cases a
    · exact h0
    · exact h1
    · exact h2
  rw [hi]
  refine (out20_at x0 x1 x2 x3 x4 x5 x6 x7 x8 x9 x10 x11 y).trans (Eq.trans ?_ (Cert.ProjRefIdeal.ProjRefRow.xbc_at a0 a1 _).symm)
  refine colp_eq h (y 1) _ _ (Or.inr (Or.inr (Or.inl ⟨?_, ?_, ?_⟩)))
  · show 1024 ≤ 3072 + (y 2).val
    omega
  · show 3072 + (y 2).val < 6144
    omega
  · show 2888 + (y 2).val = 3072 + (y 2).val - 184
    omega

/-- Window 21: the gates. -/
theorem match21 (y : S1x256x2048.Idx) (i : S8x2048x2048.Idx) (h0 : (i 0).val = p.val) (h1 : (i 1).val = 256 * q.val + (y 1).val) (h2 : (i 2).val = (y 2).val) :
    out1_21 (F := Ideal) x0 x1 x2 x3 x4 x5 x6 x7 x8 x9 x10 x11 y = Cert.ProjRefIdeal.Read.val_main_v180 (F := Ideal) a0 a1 i := by
  have hy : (y 2).val < 2048 := (y 2).isLt
  have hi : i = ix3 p (tk q (y 1)) ⟨(y 2).val, hy⟩ := by
    funext a
    refine Fin.ext ?_
    fin_cases a
    · exact h0
    · exact h1
    · exact h2
  rw [hi]
  refine (out21_at x0 x1 x2 x3 x4 x5 x6 x7 x8 x9 x10 x11 y).trans (Eq.trans ?_ (Cert.ProjRefIdeal.ProjRefRow.gates_at a0 a1 _).symm)
  refine col_eq h (y 1) _ _ (Or.inr (Or.inr (Or.inr ⟨?_, ?_⟩)))
  · show 6144 ≤ 6144 + (y 2).val
    omega
  · show 5992 + (y 2).val = 6144 + (y 2).val - 152
    omega

end Cert.ProjIdeal.ProjMatch

end
-- ==== Proof.ProjValue.lean ====
module

public import proofs.«01_k».proof.Proof.Gen.ProjIdeal.Frame
public import proofs.«01_k».proof.Proof.ProjHost
public import proofs.«01_k».proof.Proof.ProjPack
public import proofs.«01_k».proof.Proof.ProjMatch
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.Tactic
open Idealize.ShloMosaic.Pipeline (Dat)

namespace Cert.ProjIdeal.ProjValue
open Cert.ProjIdeal Cert.ProjIdeal.Gen Cert.ProjRow Cert.ProjIdeal.ProjMatch
open Cert.KernelIdeal.PackValue (src src_cases)

variable (m : (ℓ : Loc nD τ sig) → Buf (Elt Ideal) ℓ) (ρ : Dev nD → PrngReg)

/-- The block window 0 sits on at a grid point. -/
theorem idx0 : ∀ t : Fin cfg1.N, win1_0.index t = ![t.val / 8, t.val % 8, 0] := (by decide +kernel : ∀ t : Fin grid1.N, _)
/-- The block window 1 sits on at a grid point. -/
theorem idx1 : ∀ t : Fin cfg1.N, win1_1.index t = ![0, 0] := (by decide +kernel : ∀ t : Fin grid1.N, _)
/-- The block window 2 sits on at a grid point. -/
theorem idx2 : ∀ t : Fin cfg1.N, win1_2.index t = ![0, 0] := (by decide +kernel : ∀ t : Fin grid1.N, _)
/-- The block window 3 sits on at a grid point. -/
theorem idx3 : ∀ t : Fin cfg1.N, win1_3.index t = ![0, 0] := (by decide +kernel : ∀ t : Fin grid1.N, _)
/-- The block window 4 sits on at a grid point. -/
theorem idx4 : ∀ t : Fin cfg1.N, win1_4.index t = ![0, 0] := (by decide +kernel : ∀ t : Fin grid1.N, _)
/-- The block window 5 sits on at a grid point. -/
theorem idx5 : ∀ t : Fin cfg1.N, win1_5.index t = ![0, 0] := (by decide +kernel : ∀ t : Fin grid1.N, _)
/-- The block window 6 sits on at a grid point. -/
theorem idx6 : ∀ t : Fin cfg1.N, win1_6.index t = ![0, 0] := (by decide +kernel : ∀ t : Fin grid1.N, _)
/-- The block window 7 sits on at a grid point. -/
theorem idx7 : ∀ t : Fin cfg1.N, win1_7.index t = ![0, 0] := (by decide +kernel : ∀ t : Fin grid1.N, _)
/-- The block window 8 sits on at a grid point. -/
theorem idx8 : ∀ t : Fin cfg1.N, win1_8.index t = ![0, 0] := (by decide +kernel : ∀ t : Fin grid1.N, _)
/-- The block window 9 sits on at a grid point. -/
theorem idx9 : ∀ t : Fin cfg1.N, win1_9.index t = ![t.val % 8, 0] := (by decide +kernel : ∀ t : Fin grid1.N, _)
/-- The block window 10 sits on at a grid point. -/
theorem idx10 : ∀ t : Fin cfg1.N, win1_10.index t = ![t.val % 8, 0] := (by decide +kernel : ∀ t : Fin grid1.N, _)
/-- The block window 11 sits on at a grid point. -/
theorem idx11 : ∀ t : Fin cfg1.N, win1_11.index t = ![t.val % 8, 0] := (by decide +kernel : ∀ t : Fin grid1.N, _)
/-- The block window 12 sits on at a grid point. -/
theorem idx12 : ∀ t : Fin cfg1.N, win1_12.index t = ![t.val / 8, 0, t.val % 8] := (by decide +kernel : ∀ t : Fin grid1.N, _)
/-- The block window 13 sits on at a grid point. -/
theorem idx13 : ∀ t : Fin cfg1.N, win1_13.index t = ![t.val / 8, 0, t.val % 8] := (by decide +kernel : ∀ t : Fin grid1.N, _)
/-- The block window 14 sits on at a grid point. -/
theorem idx14 : ∀ t : Fin cfg1.N, win1_14.index t = ![t.val / 8, 0, t.val % 8, 0] := (by decide +kernel : ∀ t : Fin grid1.N, _)
/-- The block window 15 sits on at a grid point. -/
theorem idx15 : ∀ t : Fin cfg1.N, win1_15.index t = ![t.val / 8, 0, t.val % 8, 0, 0] := (by decide +kernel : ∀ t : Fin grid1.N, _)
/-- The block window 16 sits on at a grid point. -/
theorem idx16 : ∀ t : Fin cfg1.N, win1_16.index t = ![t.val / 8, t.val % 8, 0] := (by decide +kernel : ∀ t : Fin grid1.N, _)
/-- The block window 17 sits on at a grid point. -/
theorem idx17 : ∀ t : Fin cfg1.N, win1_17.index t = ![t.val / 8, t.val % 8, 0] := (by decide +kernel : ∀ t : Fin grid1.N, _)
/-- The block window 18 sits on at a grid point. -/
theorem idx18 : ∀ t : Fin cfg1.N, win1_18.index t = ![t.val / 8, 0, t.val % 8] := (by decide +kernel : ∀ t : Fin grid1.N, _)
/-- The block window 19 sits on at a grid point. -/
theorem idx19 : ∀ t : Fin cfg1.N, win1_19.index t = ![t.val / 8, t.val % 8, 0] := (by decide +kernel : ∀ t : Fin grid1.N, _)
/-- The block window 20 sits on at a grid point. -/
theorem idx20 : ∀ t : Fin cfg1.N, win1_20.index t = ![t.val / 8, t.val % 8, 0] := (by decide +kernel : ∀ t : Fin grid1.N, _)
/-- The block window 21 sits on at a grid point. -/
theorem idx21 : ∀ t : Fin cfg1.N, win1_21.index t = ![t.val / 8, t.val % 8, 0] := (by decide +kernel : ∀ t : Fin grid1.N, _)

/-- The batch of a grid point. -/
def batch (t : Fin cfg1.N) : Fin 8 := ⟨t.val / 8, by have : t.val < 64 := lt_of_lt_of_eq t.isLt N_1; omega⟩
/-- The token block of a grid point. -/
def block (t : Fin cfg1.N) : Fin 8 := ⟨t.val % 8, by omega⟩

/-- Window 0's block: the tokens. -/
theorem blk0 (c : Dev nD) (t : Fin cfg1.N) (r : Fin 256) (k : Fin 1024) :
    iblk1 (V11 m ρ) c 0 t (ix3 0 r k) = m ((c : Thread nD τ).loc main_arg0) (ix3 (batch t) (tk (block t) r) k) := by
  refine (congrFun (W11_args m ρ c main_arg0 (by decide)) _).trans ?_
  unfold batch block tk
  blk_ext [idx0 t]

/-- What the packing leaves is still there at the projection call. -/
theorem host37 (c : Dev nD) (i : S1024x8192.Idx) (k : S1024x8040.Idx) (h0 : (k 0 : ℕ) = i 0) (h1 : (k 1 : ℕ) = src (i 1)) :
    V11 m ρ c main_v37 i = m ((c : Thread nD τ).loc main_arg1) k := by
  have hk : ∀ j : S1024x8192.Idx, src (j 1 : ℕ) < 8040 := by
    intro j
    have hj : (j 1 : ℕ) < 8192 := (j 1).isLt
    have := src_cases (j 1 : ℕ)
    omega
  refine (congrFun (ProjHost.early m ρ c main_v37 (by decide) (by decide) (by decide) (by decide) (by decide) (by decide) (by decide) (by decide)) i).trans ?_
  refine (congrFun (W3_of m ρ c main_v37 (by decide)) i).trans ?_
  refine (congrFun (W2_arr m ρ c 4) i).trans ?_
  refine (congrFun (ProjPack.packed m ρ c (fun j => m ((c : Thread nD τ).loc main_arg1) (ix2 (j 0) ⟨src (j 1 : ℕ), hk j⟩)) fun j k e0 e1 => ?_) i).trans ?_
  · refine congrArg (m ((c : Thread nD τ).loc main_arg1)) (funext fun a => Fin.ext ?_)
    fin_cases a
    · exact e0.symm
    · exact e1.symm
  · refine congrArg (m ((c : Thread nD τ).loc main_arg1)) (funext fun a => Fin.ext ?_)
    fin_cases a
    · exact h0.symm
    · exact h1.symm

/-- Window 1's block: the packed columns. -/
theorem blk1 (c : Dev nD) (t : Fin cfg1.N) (k : Fin 1024) (j : Fin 8192) (J : Fin 8040) (hJ : J.val = src j.val) :
    iblk1 (V11 m ρ) c 1 t (ix2 k j) = m ((c : Thread nD τ).loc main_arg1) (ix2 k J) := by
  refine host37 m ρ c _ _ ?_ ?_
  · blk_simp [idx1 t]
  · refine hJ.trans (congrArg src ?_)
    blk_simp [idx1 t]

/-- Window 2's block: the row permutation. -/
theorem blk2 (c : Dev nD) (t : Fin cfg1.N) (r t' : Fin 256) : iblk1 (V11 m ρ) c 2 t (ix2 r t') = ((if t'.val = r.val / 128 * 128 + r.val % 8 * 16 + r.val / 8 % 16 then 1 else 0 : EReal)) := by
  refine Eq.trans (b := V11 m ρ c main_v73 (ix2 r t')) ?_ (ProjHost.at73 m ρ c r t')
  show V11 m ρ c main_v73 _ = _
  refine congrArg (V11 m ρ c main_v73) ?_
  blk_ext [idx2 t]

/-- Window 3's block: the latent's weight. -/
theorem blk3 (c : Dev nD) (t : Fin cfg1.N) (l : Fin 256) : iblk1 (V11 m ρ) c 3 t (ix2 0 l) = m ((c : Thread nD τ).loc main_arg2) (ix1 l) := by
  refine Eq.trans (b := V11 m ρ c main_v38 (ix2 0 l)) ?_ (ProjHost.at38 m ρ c (ix2 0 l))
  show V11 m ρ c main_v38 _ = _
  refine congrArg (V11 m ρ c main_v38) ?_
  blk_ext [idx3 t]

/-- Window 4's block: the query weights. -/
theorem blk4 (c : Dev nD) (t : Fin cfg1.N) (k : Fin 256) (j : Fin 1024) : iblk1 (V11 m ρ) c 4 t (ix2 k j) = m ((c : Thread nD τ).loc main_arg3) (ix2 k j) := by
  refine Eq.trans (b := V11 m ρ c main_v39 (ix2 k j)) ?_ (ProjHost.at39 m ρ c (ix2 k j))
  show V11 m ρ c main_v39 _ = _
  refine congrArg (V11 m ρ c main_v39) ?_
  blk_ext [idx4 t]

/-- Window 5's block: the index query weights. -/
theorem blk5 (c : Dev nD) (t : Fin cfg1.N) (k : Fin 256) (j : Fin 512) : iblk1 (V11 m ρ) c 5 t (ix2 k j) = m ((c : Thread nD τ).loc main_arg4) (ix2 k j) := by
  refine Eq.trans (b := V11 m ρ c main_v40 (ix2 k j)) ?_ (ProjHost.at40 m ρ c (ix2 k j))
  show V11 m ρ c main_v40 _ = _
  refine congrArg (V11 m ρ c main_v40) ?_
  blk_ext [idx5 t]

/-- Window 6's block: the key norm's scale. -/
theorem blk6 (c : Dev nD) (t : Fin cfg1.N) (l : Fin 128) (d : Fin 64) (e : d.val = l.val) : iblk1 (V11 m ρ) c 6 t (ix2 0 l) = m ((c : Thread nD τ).loc main_arg5) (ix1 d) := by
  refine Eq.trans (b := V11 m ρ c main_v45 (ix2 0 l)) ?_ ((ProjHost.at45 m ρ c l).trans ((dif_pos (by have := d.isLt; omega)).trans (congrArg (fun z => m ((c : Thread nD τ).loc main_arg5) (ix1 z)) (Fin.ext e.symm))))
  show V11 m ρ c main_v45 _ = _
  refine congrArg (V11 m ρ c main_v45) ?_
  blk_ext [idx6 t]

/-- Window 7's block: the key norm's shift. -/
theorem blk7 (c : Dev nD) (t : Fin cfg1.N) (l : Fin 128) (d : Fin 64) (e : d.val = l.val) : iblk1 (V11 m ρ) c 7 t (ix2 0 l) = m ((c : Thread nD τ).loc main_arg6) (ix1 d) := by
  refine Eq.trans (b := V11 m ρ c main_v50 (ix2 0 l)) ?_ ((ProjHost.at50 m ρ c l).trans ((dif_pos (by have := d.isLt; omega)).trans (congrArg (fun z => m ((c : Thread nD τ).loc main_arg6) (ix1 z)) (Fin.ext e.symm))))
  show V11 m ρ c main_v50 _ = _
  refine congrArg (V11 m ρ c main_v50) ?_
  blk_ext [idx7 t]

/-- Window 8's block: the step sizes' bias. -/
theorem blk8 (c : Dev nD) (t : Fin cfg1.N) (l : Fin 128) (d : Fin 32) (e : d.val = l.val) : iblk1 (V11 m ρ) c 8 t (ix2 0 l) = m ((c : Thread nD τ).loc main_arg7) (ix1 d) := by
  refine Eq.trans (b := V11 m ρ c main_v55 (ix2 0 l)) ?_ ((ProjHost.at55 m ρ c l).trans ((dif_pos (by have := d.isLt; omega)).trans (congrArg (fun z => m ((c : Thread nD τ).loc main_arg7) (ix1 z)) (Fin.ext e.symm))))
  show V11 m ρ c main_v55 _ = _
  refine congrArg (V11 m ρ c main_v55) ?_
  blk_ext [idx8 t]

/-- Window 9's block: the first table. -/
theorem blk9 (c : Dev nD) (t : Fin cfg1.N) (r : Fin 256) (l : Fin 128) :
    iblk1 (V11 m ρ) c 9 t (ix2 r l) = tab0 (Cert.ProjRefIdeal.ProjRefRow.cosr (tk (block t) r)) l := by
  refine Eq.trans (b := V11 m ρ c main_v28 (ix2 (tk (block t) r) l)) ?_ (ProjHost.at28 m ρ c _)
  show V11 m ρ c main_v28 _ = _
  refine congrArg (V11 m ρ c main_v28) ?_
  unfold block tk
  blk_ext [idx9 t]

/-- Window 10's block: the second table. -/
theorem blk10 (c : Dev nD) (t : Fin cfg1.N) (r : Fin 256) (l : Fin 128) :
    iblk1 (V11 m ρ) c 10 t (ix2 r l) = tab1 (Cert.ProjRefIdeal.ProjRefRow.sinr (tk (block t) r)) l := by
  refine Eq.trans (b := V11 m ρ c main_v31 (ix2 (tk (block t) r) l)) ?_ (ProjHost.at31 m ρ c _)
  show V11 m ρ c main_v31 _ = _
  refine congrArg (V11 m ρ c main_v31) ?_
  unfold block tk
  blk_ext [idx10 t]

/-- Window 11's block: the third table. -/
theorem blk11 (c : Dev nD) (t : Fin cfg1.N) (r : Fin 256) (l : Fin 128) :
    iblk1 (V11 m ρ) c 11 t (ix2 r l) = tab2 (Cert.ProjRefIdeal.ProjRefRow.sinr (tk (block t) r)) l := by
  refine Eq.trans (b := V11 m ρ c main_v34 (ix2 (tk (block t) r) l)) ?_ (ProjHost.at34 m ρ c _)
  show V11 m ρ c main_v34 _ = _
  refine congrArg (V11 m ρ c main_v34) ?_
  unfold block tk
  blk_ext [idx11 t]

/-- The blocks of a grid point are those of its batch and its token block. -/
theorem fits (c : Dev nD) (t : Fin cfg1.N) : Fits (iblk1 (V11 m ρ) c 0 t) (iblk1 (V11 m ρ) c 1 t) (iblk1 (V11 m ρ) c 2 t) (iblk1 (V11 m ρ) c 3 t) (iblk1 (V11 m ρ) c 4 t) (iblk1 (V11 m ρ) c 5 t) (iblk1 (V11 m ρ) c 6 t) (iblk1 (V11 m ρ) c 7 t) (iblk1 (V11 m ρ) c 8 t) (iblk1 (V11 m ρ) c 9 t) (iblk1 (V11 m ρ) c 10 t) (iblk1 (V11 m ρ) c 11 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batch t) (block t) where
  tokens := blk0 m ρ c t
  columns := blk1 m ρ c t
  order := blk2 m ρ c t
  scale := blk3 m ρ c t
  query := blk4 m ρ c t
  iquery := blk5 m ρ c t
  gain := blk6 m ρ c t
  shift := blk7 m ρ c t
  bias := blk8 m ρ c t
  cosines := blk9 m ρ c t
  sines := blk10 m ρ c t
  sines' := blk11 m ρ c t

/-- Result 0 after the run is the reference's. -/
theorem final12 (c : Dev nD) : (dat1 (V11 m ρ) c).arrAt 12 cfg1.N = Cert.ProjRefIdeal.Read.val_main_v162 (F := Ideal) (m ((c : Thread nD τ).loc main_arg0)) (m ((c : Thread nD τ).loc main_arg1)) (m ((c : Thread nD τ).loc main_arg2)) (m ((c : Thread nD τ).loc main_arg3)) := by
  refine (dat1 (V11 m ρ) c).arrAt_eq_of_covers 12 _ (by decide +kernel) fun t _ y => ?_
  blk_simp
  rw [after1_12]
  have hp : (batch t).val = t.val / 8 := rfl
  have hq : (block t).val = t.val % 8 := rfl
  refine match12 (fits m ρ c t) y _ ?_ ?_ ?_ <;> blk_simp [idx12 t] <;> omega

/-- Result 1 after the run is the reference's. -/
theorem final13 (c : Dev nD) : (dat1 (V11 m ρ) c).arrAt 13 cfg1.N = Cert.ProjRefIdeal.Read.val_main_v165 (F := Ideal) (m ((c : Thread nD τ).loc main_arg0)) (m ((c : Thread nD τ).loc main_arg1)) (m ((c : Thread nD τ).loc main_arg2)) (m ((c : Thread nD τ).loc main_arg4)) := by
  refine (dat1 (V11 m ρ) c).arrAt_eq_of_covers 13 _ (by decide +kernel) fun t _ y => ?_
  blk_simp
  rw [after1_13]
  have hp : (batch t).val = t.val / 8 := rfl
  have hq : (block t).val = t.val % 8 := rfl
  refine match13 (fits m ρ c t) y _ ?_ ?_ ?_ <;> blk_simp [idx13 t] <;> omega

/-- Result 2 after the run is the reference's. -/
theorem final14 (c : Dev nD) : (dat1 (V11 m ρ) c).arrAt 14 cfg1.N = Cert.ProjRefIdeal.Read.val_main_v166 (F := Ideal) (m ((c : Thread nD τ).loc main_arg0)) (m ((c : Thread nD τ).loc main_arg1)) := by
  refine (dat1 (V11 m ρ) c).arrAt_eq_of_covers 14 _ (by decide +kernel) fun t _ y => ?_
  blk_simp
  rw [after1_14]
  have hp : (batch t).val = t.val / 8 := rfl
  have hq : (block t).val = t.val % 8 := rfl
  refine match14 (fits m ρ c t) y _ ?_ ?_ ?_ ?_ <;> blk_simp [idx14 t] <;> omega

/-- Result 3 after the run is the reference's. -/
theorem final15 (c : Dev nD) : (dat1 (V11 m ρ) c).arrAt 15 cfg1.N = Cert.ProjRefIdeal.Read.val_main_v167 (F := Ideal) (m ((c : Thread nD τ).loc main_arg0)) (m ((c : Thread nD τ).loc main_arg1)) := by
  refine (dat1 (V11 m ρ) c).arrAt_eq_of_covers 15 _ (by decide +kernel) fun t _ y => ?_
  blk_simp
  rw [after1_15]
  have hp : (batch t).val = t.val / 8 := rfl
  have hq : (block t).val = t.val % 8 := rfl
  refine match15 (fits m ρ c t) y _ ?_ ?_ ?_ ?_ ?_ <;> blk_simp [idx15 t] <;> omega

/-- Result 4 after the run is the reference's. -/
theorem final16 (c : Dev nD) : (dat1 (V11 m ρ) c).arrAt 16 cfg1.N = Cert.ProjRefIdeal.Read.val_main_v168 (F := Ideal) (m ((c : Thread nD τ).loc main_arg0)) (m ((c : Thread nD τ).loc main_arg1)) (m ((c : Thread nD τ).loc main_arg5)) (m ((c : Thread nD τ).loc main_arg6)) := by
  refine (dat1 (V11 m ρ) c).arrAt_eq_of_covers 16 _ (by decide +kernel) fun t _ y => ?_
  blk_simp
  rw [after1_16]
  have hp : (batch t).val = t.val / 8 := rfl
  have hq : (block t).val = t.val % 8 := rfl
  refine match16 (fits m ρ c t) y _ ?_ ?_ ?_ <;> blk_simp [idx16 t] <;> omega

/-- Result 5 after the run is the reference's. -/
theorem final17 (c : Dev nD) : (dat1 (V11 m ρ) c).arrAt 17 cfg1.N = Cert.ProjRefIdeal.Read.val_main_v171 (F := Ideal) (m ((c : Thread nD τ).loc main_arg0)) (m ((c : Thread nD τ).loc main_arg1)) (m ((c : Thread nD τ).loc main_arg7)) := by
  refine (dat1 (V11 m ρ) c).arrAt_eq_of_covers 17 _ (by decide +kernel) fun t _ y => ?_
  blk_simp
  rw [after1_17]
  have hp : (batch t).val = t.val / 8 := rfl
  have hq : (block t).val = t.val % 8 := rfl
  refine match17 (fits m ρ c t) y _ ?_ ?_ ?_ <;> blk_simp [idx17 t] <;> omega

/-- Result 6 after the run is the reference's. -/
theorem final18 (c : Dev nD) : (dat1 (V11 m ρ) c).arrAt 18 cfg1.N = Cert.ProjRefIdeal.Read.val_main_v172 (F := Ideal) (m ((c : Thread nD τ).loc main_arg0)) (m ((c : Thread nD τ).loc main_arg1)) (m ((c : Thread nD τ).loc main_arg5)) (m ((c : Thread nD τ).loc main_arg6)) := by
  refine (dat1 (V11 m ρ) c).arrAt_eq_of_covers 18 _ (by decide +kernel) fun t _ y => ?_
  blk_simp
  rw [after1_18]
  have hp : (batch t).val = t.val / 8 := rfl
  have hq : (block t).val = t.val % 8 := rfl
  refine match18 (fits m ρ c t) y _ ?_ ?_ ?_ <;> blk_simp [idx18 t] <;> omega

/-- Result 7 after the run is the reference's. -/
theorem final19 (c : Dev nD) : (dat1 (V11 m ρ) c).arrAt 19 cfg1.N = Cert.ProjRefIdeal.Read.val_main_v176 (F := Ideal) (m ((c : Thread nD τ).loc main_arg0)) (m ((c : Thread nD τ).loc main_arg1)) := by
  refine (dat1 (V11 m ρ) c).arrAt_eq_of_covers 19 _ (by decide +kernel) fun t _ y => ?_
  blk_simp
  rw [after1_19]
  have hp : (batch t).val = t.val / 8 := rfl
  have hq : (block t).val = t.val % 8 := rfl
  refine match19 (fits m ρ c t) y _ ?_ ?_ ?_ <;> blk_simp [idx19 t] <;> omega

/-- Result 8 after the run is the reference's. -/
theorem final20 (c : Dev nD) : (dat1 (V11 m ρ) c).arrAt 20 cfg1.N = Cert.ProjRefIdeal.Read.val_main_v179 (F := Ideal) (m ((c : Thread nD τ).loc main_arg0)) (m ((c : Thread nD τ).loc main_arg1)) := by
  refine (dat1 (V11 m ρ) c).arrAt_eq_of_covers 20 _ (by decide +kernel) fun t _ y => ?_
  blk_simp
  rw [after1_20]
  have hp : (batch t).val = t.val / 8 := rfl
  have hq : (block t).val = t.val % 8 := rfl
  refine match20 (fits m ρ c t) y _ ?_ ?_ ?_ <;> blk_simp [idx20 t] <;> omega

/-- Result 9 after the run is the reference's. -/
theorem final21 (c : Dev nD) : (dat1 (V11 m ρ) c).arrAt 21 cfg1.N = Cert.ProjRefIdeal.Read.val_main_v180 (F := Ideal) (m ((c : Thread nD τ).loc main_arg0)) (m ((c : Thread nD τ).loc main_arg1)) := by
  refine (dat1 (V11 m ρ) c).arrAt_eq_of_covers 21 _ (by decide +kernel) fun t _ y => ?_
  blk_simp
  rw [after1_21]
  have hp : (batch t).val = t.val / 8 := rfl
  have hq : (block t).val = t.val % 8 := rfl
  refine match21 (fits m ρ c t) y _ ?_ ?_ ?_ <;> blk_simp [idx21 t] <;> omega

end Cert.ProjIdeal.ProjValue

end
-- ==== Proof.ProjRefRun.lean ====
module

public import proofs.«01_k».proof.Proof.Gen.ProjRefIdeal.Run
public import proofs.«01_k».proof.Proof.Gen.ProjRefIdeal.Read

@[expose] public section

set_option maxRecDepth 16384

noncomputable section

open Idealize.ShloMosaic Idealize.ShloMosaic.TcCoe Idealize.SL.Sem

namespace Cert.ProjRefIdeal.ProjRefRun
open Cert.ProjRefIdeal Cert.ProjRefIdeal.Gen Cert.ProjRefIdeal.Read

/-- The projection reference's run: each of its ten results stated operation by operation over the arguments, which it keeps. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v162) = val_main_v162 (F := Ideal) (m ((c : Thread nD τ).loc main_arg0)) (m ((c : Thread nD τ).loc main_arg1)) (m ((c : Thread nD τ).loc main_arg2)) (m ((c : Thread nD τ).loc main_arg3))
        ∧ r.2.mem ((c : Thread nD τ).loc main_v165) = val_main_v165 (F := Ideal) (m ((c : Thread nD τ).loc main_arg0)) (m ((c : Thread nD τ).loc main_arg1)) (m ((c : Thread nD τ).loc main_arg2)) (m ((c : Thread nD τ).loc main_arg4))
        ∧ r.2.mem ((c : Thread nD τ).loc main_v166) = val_main_v166 (F := Ideal) (m ((c : Thread nD τ).loc main_arg0)) (m ((c : Thread nD τ).loc main_arg1))
        ∧ r.2.mem ((c : Thread nD τ).loc main_v167) = val_main_v167 (F := Ideal) (m ((c : Thread nD τ).loc main_arg0)) (m ((c : Thread nD τ).loc main_arg1))
        ∧ r.2.mem ((c : Thread nD τ).loc main_v168) = val_main_v168 (F := Ideal) (m ((c : Thread nD τ).loc main_arg0)) (m ((c : Thread nD τ).loc main_arg1)) (m ((c : Thread nD τ).loc main_arg5)) (m ((c : Thread nD τ).loc main_arg6))
        ∧ r.2.mem ((c : Thread nD τ).loc main_v171) = val_main_v171 (F := Ideal) (m ((c : Thread nD τ).loc main_arg0)) (m ((c : Thread nD τ).loc main_arg1)) (m ((c : Thread nD τ).loc main_arg7))
        ∧ r.2.mem ((c : Thread nD τ).loc main_v172) = val_main_v172 (F := Ideal) (m ((c : Thread nD τ).loc main_arg0)) (m ((c : Thread nD τ).loc main_arg1)) (m ((c : Thread nD τ).loc main_arg5)) (m ((c : Thread nD τ).loc main_arg6))
        ∧ r.2.mem ((c : Thread nD τ).loc main_v176) = val_main_v176 (F := Ideal) (m ((c : Thread nD τ).loc main_arg0)) (m ((c : Thread nD τ).loc main_arg1))
        ∧ r.2.mem ((c : Thread nD τ).loc main_v179) = val_main_v179 (F := Ideal) (m ((c : Thread nD τ).loc main_arg0)) (m ((c : Thread nD τ).loc main_arg1))
        ∧ r.2.mem ((c : Thread nD τ).loc main_v180) = val_main_v180 (F := Ideal) (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7) :=
  (θ_run defs _ _).mono (fun r h c =>
    ⟨(h c).1.trans (val_main_v162_eq (StableHlo.launchContents m c)),
      (h c).2.1.trans (val_main_v165_eq (StableHlo.launchContents m c)),
      (h c).2.2.1.trans (val_main_v166_eq (StableHlo.launchContents m c)),
      (h c).2.2.2.1.trans (val_main_v167_eq (StableHlo.launchContents m c)),
      (h c).2.2.2.2.1.trans (val_main_v168_eq (StableHlo.launchContents m c)),
      (h c).2.2.2.2.2.1.trans (val_main_v171_eq (StableHlo.launchContents m c)),
      (h c).2.2.2.2.2.2.1.trans (val_main_v172_eq (StableHlo.launchContents m c)),
      (h c).2.2.2.2.2.2.2.1.trans (val_main_v176_eq (StableHlo.launchContents m c)),
      (h c).2.2.2.2.2.2.2.2.1.trans (val_main_v179_eq (StableHlo.launchContents m c)),
      (h c).2.2.2.2.2.2.2.2.2.1.trans (val_main_v180_eq (StableHlo.launchContents m c)),
      (h c).2.2.2.2.2.2.2.2.2.2⟩) (Cert.ProjRefIdeal.Value.run m ρ)

end Cert.ProjRefIdeal.ProjRefRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.Gen.MixIdeal.Value
public import proofs.«01_k».proof.Proof.Gen.ReferenceIdeal.Run
public import proofs.«01_k».proof.Proof.Gen.Reference.Run
public import proofs.«01_k».proof.Proof.Gen.KernelIdeal.Value
public import proofs.«01_k».proof.Proof.Gen.Kernel.Value
public import proofs.«01_k».proof.Proof.Gen.MixRefIdeal.Read
public import proofs.«01_k».proof.Proof.Gen.ReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.PackValue
public import proofs.«01_k».proof.Proof.PackTwin
public import proofs.«01_k».proof.Proof.MixValue
public import proofs.«01_k».proof.Proof.ProjRun
public import proofs.«01_k».proof.Proof.ProjValue
public import proofs.«01_k».proof.Proof.ProjRefRun
public import Idealize.ShloMosaic.Adequacy
public import Idealize.ShloMosaic.Init
public import Idealize.ShloMosaic.Lib.Claim

@[expose] public section

noncomputable section

namespace Cert.Proof

open Idealize.ShloMosaic Idealize.SL.Sem

/-- The packing call with idealized floats packs exactly what the reference packs. -/
theorem pack_algebraic : Cert.algebraic_KernelIdeal_ReferenceIdeal := by
  pair_intro
  · run_from Cert.KernelIdeal.PackValue.run m g
  · run_from Cert.ReferenceIdeal.Value.run m' g'
    exact congrArg (Cert.ReferenceIdeal.Read.val_main_v14 (F := Ideal)) (hagree c)

/-- The packing call at machine floats packs, bit for bit, what the reference packs. -/
theorem pack_bitexact : Cert.bitexact_Kernel_Reference := by
  pair_intro
  · run_from Cert.Kernel.PackTwin.run m g
  · run_from Cert.Reference.Value.run m' g'
    exact congrArg (Cert.ReferenceIdeal.Read.val_main_v14 (F := Bits)) (hagree c)

/-- The packing reference, idealized: it runs, keeps its arguments, and leaves every counter at zero (it has none). -/
theorem frame_ReferenceIdeal : Cert.quiescent_ReferenceIdeal := fun m g _ =>
  (θ_run _ _ _).mono (fun r h => ⟨fun c => (h c).2, sem_eq_zero_of_no_sems rfl r.2⟩) (Cert.ReferenceIdeal.Value.run m g)

/-- The packing reference: it runs, keeps its arguments, and leaves every counter at zero (it has none). -/
theorem frame_Reference : Cert.quiescent_Reference := fun m g _ =>
  (θ_run _ _ _).mono (fun r h => ⟨fun c => (h c).2, sem_eq_zero_of_no_sems rfl r.2⟩) (Cert.Reference.Value.run m g)

/-- The mixing reference, idealized: it runs, keeps its arguments, and leaves every counter at zero (it has none). -/
theorem frame_MixRefIdeal : Cert.quiescent_MixRefIdeal := fun m g _ =>
  (θ_run _ _ _).mono (fun r h => ⟨fun c => (h c).2, sem_eq_zero_of_no_sems rfl r.2⟩) (Cert.MixRefIdeal.Value.run m g)

/-- The mixing call with idealized floats computes what the reference computes. -/
theorem mix_algebraic : Cert.algebraic_MixIdeal_MixRefIdeal := by
  pair_intro
  · run_from Cert.MixIdeal.Value.run_blocks m g
  · run_from Cert.MixRefIdeal.MixRefRow.run m' g'
    rw [Cert.MixIdeal.MixValue.final m c]

/-- The projection's reference, idealized: it runs, keeps its arguments, and leaves every counter at zero (it has none). -/
theorem frame_ProjRefIdeal : Cert.quiescent_ProjRefIdeal := fun m g _ =>
  (θ_run _ _ _).mono (fun r h => ⟨fun c => (h c).2.2.2.2.2.2.2.2.2.2, sem_eq_zero_of_no_sems rfl r.2⟩) (Cert.ProjRefIdeal.ProjRefRun.run m g)

set_option maxHeartbeats 2000000 in
/-- The projection with idealized floats, over the columns the packing call packed, computes what its reference computes. -/
theorem proj_algebraic : Cert.algebraic_ProjIdeal_ProjRefIdeal := by
  pair_intro
  · run_from Cert.ProjIdeal.ProjRun.run m g
  · run_from Cert.ProjRefIdeal.ProjRefRun.run m' g'
    · exact (Cert.ProjIdeal.ProjValue.final12 m g c).symm
    · exact (Cert.ProjIdeal.ProjValue.final13 m g c).symm
    · exact (Cert.ProjIdeal.ProjValue.final14 m g c).symm
    · exact (Cert.ProjIdeal.ProjValue.final15 m g c).symm
    · exact (Cert.ProjIdeal.ProjValue.final16 m g c).symm
    · exact (Cert.ProjIdeal.ProjValue.final17 m g c).symm
    · exact (Cert.ProjIdeal.ProjValue.final18 m g c).symm
    · exact (Cert.ProjIdeal.ProjValue.final19 m g c).symm
    · exact (Cert.ProjIdeal.ProjValue.final20 m g c).symm
    · exact (Cert.ProjIdeal.ProjValue.final21 m g c).symm

/-- Every claim of the certificate. -/
theorem claim : Cert.Claim := ⟨Cert.Kernel.Gen.facts, Cert.KernelIdeal.Gen.facts, Cert.ReferenceIdeal.Gen.facts, Cert.Reference.Gen.facts, Cert.Mix.Gen.facts, Cert.MixIdeal.Gen.facts, Cert.MixRefIdeal.Gen.facts,
  Cert.Proj.Gen.facts, Cert.ProjIdeal.Gen.facts, Cert.ProjRefIdeal.Gen.facts, Cert.Ssd.Gen.facts, Cert.SsdIdeal.Gen.facts,
  fun m ρ _ => Cert.Kernel.Gen.frame m ρ, fun m ρ _ => Cert.KernelIdeal.Gen.frame m ρ,
  frame_ReferenceIdeal, frame_Reference,
  fun m ρ _ => Cert.Mix.Gen.frame m ρ, fun m ρ _ => Cert.MixIdeal.Gen.frame m ρ,
  frame_MixRefIdeal,
  fun m ρ _ => Cert.Proj.Gen.frame m ρ, fun m ρ _ => Cert.ProjIdeal.Gen.frame m ρ, frame_ProjRefIdeal,
  fun m ρ _ => Cert.Ssd.Gen.frame m ρ, fun m ρ _ => Cert.SsdIdeal.Gen.frame m ρ,
  trivial, pack_algebraic, pack_bitexact, trivial, mix_algebraic, trivial, proj_algebraic, trivial⟩

end Cert.Proof

end
